-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2x100000 : Shape := ⟨3, ![128, 2, 100000]⟩
abbrev S128 : Shape := ⟨1, ![128]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S256x100000 : Shape := ⟨2, ![256, 100000]⟩
abbrev S128x2 : Shape := ⟨2, ![128, 2]⟩
abbrev S128x100000 : Shape := ⟨2, ![128, 100000]⟩
abbrev S100000x128 : Shape := ⟨2, ![100000, 128]⟩
abbrev S1x100000x128 : Shape := ⟨3, ![1, 100000, 128]⟩
abbrev S2x100000x128 : Shape := ⟨3, ![2, 100000, 128]⟩
abbrev S2x128 : Shape := ⟨2, ![2, 128]⟩
abbrev S2x1x128 : Shape := ⟨3, ![2, 1, 128]⟩
abbrev S1x128 : Shape := ⟨2, ![1, 128]⟩
abbrev S2x5000x128 : Shape := ⟨3, ![2, 5000, 128]⟩
abbrev S1x5000x128 : Shape := ⟨3, ![1, 5000, 128]⟩
abbrev S5000x128 : Shape := ⟨2, ![5000, 128]⟩
abbrev S1x1x128 : Shape := ⟨3, ![1, 1, 128]⟩

abbrev nBuf : Space → Nat
  | .hbm => 811
  | .vmem => 14
  | .smem => 0
  | _ => 0

abbrev hbmTy0_0 (i : Nat) : BufTy := match i % 128 with
  | 0 => ⟨S128x2x100000, .f32⟩
  | 1 => ⟨S128, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S128x2x100000, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S_, .f32⟩
  | 127 => ⟨S_, .f32⟩
  | _ => ⟨S128x2x100000, .f32⟩

abbrev hbmTy0_2 (i : Nat) : BufTy := match i % 128 with
  | 0 => ⟨S_, .f32⟩
  | 1 => ⟨S1x1, .f32⟩
  | 2 => ⟨S1x1, .f32⟩
  | 3 => ⟨S1, .i32⟩
  | 4 => ⟨S_, .i32⟩
  | 5 => ⟨S1, .i32⟩
  | 6 => ⟨S_, .i32⟩
  | 7 => ⟨S256x100000, .i64⟩
  | 8 => ⟨S256x100000, .i64⟩
  | 9 => ⟨S_, .i64⟩
  | 10 => ⟨S256x100000, .i64⟩
  | 11 => ⟨S256x100000, .i64⟩
  | 12 => ⟨S_, .i64⟩
  | 13 => ⟨S256x100000, .i64⟩
  | 14 => ⟨S256x100000, .i64⟩
  | 15 => ⟨S256x100000, .i64⟩
  | 16 => ⟨S_, .i64⟩
  | 17 => ⟨S256x100000, .i64⟩
  | 18 => ⟨S256x100000, .i64⟩
  | 19 => ⟨S256x100000, .i32⟩
  | 20 => ⟨S256x100000, .i32⟩
  | 21 => ⟨S_, .i32⟩
  | 22 => ⟨S_, .i32⟩
  | 23 => ⟨S_, .i32⟩
  | 24 => ⟨S256x100000, .i32⟩
  | 25 => ⟨S256x100000, .i32⟩
  | 26 => ⟨S256x100000, .i32⟩
  | 27 => ⟨S256x100000, .i32⟩
  | 28 => ⟨S256x100000, .i32⟩
  | 29 => ⟨S_, .i32⟩
  | 30 => ⟨S256x100000, .i32⟩
  | 31 => ⟨S256x100000, .i32⟩
  | 32 => ⟨S_, .i32⟩
  | 33 => ⟨S256x100000, .i32⟩
  | 34 => ⟨S256x100000, .i32⟩
  | 35 => ⟨S256x100000, .i32⟩
  | 36 => ⟨S256x100000, .i32⟩
  | 37 => ⟨S256x100000, .i32⟩
  | 38 => ⟨S_, .i32⟩
  | 39 => ⟨S256x100000, .i32⟩
  | 40 => ⟨S256x100000, .i32⟩
  | 41 => ⟨S_, .i32⟩
  | 42 => ⟨S256x100000, .i32⟩
  | 43 => ⟨S256x100000, .i32⟩
  | 44 => ⟨S256x100000, .i32⟩
  | 45 => ⟨S256x100000, .i32⟩
  | 46 => ⟨S256x100000, .i32⟩
  | 47 => ⟨S_, .i32⟩
  | 48 => ⟨S256x100000, .i32⟩
  | 49 => ⟨S256x100000, .i32⟩
  | 50 => ⟨S_, .i32⟩
  | 51 => ⟨S256x100000, .i32⟩
  | 52 => ⟨S256x100000, .i32⟩
  | 53 => ⟨S256x100000, .i32⟩
  | 54 => ⟨S256x100000, .i32⟩
  | 55 => ⟨S256x100000, .i32⟩
  | 56 => ⟨S_, .i32⟩
  | 57 => ⟨S256x100000, .i32⟩
  | 58 => ⟨S256x100000, .i32⟩
  | 59 => ⟨S_, .i32⟩
  | 60 => ⟨S256x100000, .i32⟩
  | 61 => ⟨S256x100000, .i32⟩
  | 62 => ⟨S256x100000, .i32⟩
  | 63 => ⟨S256x100000, .i32⟩
  | 64 => ⟨S256x100000, .i32⟩
  | 65 => ⟨S256x100000, .i32⟩
  | 66 => ⟨S256x100000, .i32⟩
  | 67 => ⟨S256x100000, .i32⟩
  | 68 => ⟨S_, .i32⟩
  | 69 => ⟨S256x100000, .i32⟩
  | 70 => ⟨S256x100000, .i32⟩
  | 71 => ⟨S256x100000, .i32⟩
  | 72 => ⟨S_, .i32⟩
  | 73 => ⟨S256x100000, .i32⟩
  | 74 => ⟨S256x100000, .i32⟩
  | 75 => ⟨S_, .i32⟩
  | 76 => ⟨S256x100000, .i32⟩
  | 77 => ⟨S256x100000, .i32⟩
  | 78 => ⟨S256x100000, .i32⟩
  | 79 => ⟨S256x100000, .i32⟩
  | 80 => ⟨S256x100000, .i32⟩
  | 81 => ⟨S_, .i32⟩
  | 82 => ⟨S256x100000, .i32⟩
  | 83 => ⟨S256x100000, .i32⟩
  | 84 => ⟨S_, .i32⟩
  | 85 => ⟨S256x100000, .i32⟩
  | 86 => ⟨S256x100000, .i32⟩
  | 87 => ⟨S256x100000, .i32⟩
  | 88 => ⟨S256x100000, .i32⟩
  | 89 => ⟨S256x100000, .i32⟩
  | 90 => ⟨S_, .i32⟩
  | 91 => ⟨S256x100000, .i32⟩
  | 92 => ⟨S256x100000, .i32⟩
  | 93 => ⟨S_, .i32⟩
  | 94 => ⟨S256x100000, .i32⟩
  | 95 => ⟨S256x100000, .i32⟩
  | 96 => ⟨S256x100000, .i32⟩
  | 97 => ⟨S256x100000, .i32⟩
  | 98 => ⟨S256x100000, .i32⟩
  | 99 => ⟨S_, .i32⟩
  | 100 => ⟨S256x100000, .i32⟩
  | 101 => ⟨S256x100000, .i32⟩
  | 102 => ⟨S_, .i32⟩
  | 103 => ⟨S256x100000, .i32⟩
  | 104 => ⟨S256x100000, .i32⟩
  | 105 => ⟨S256x100000, .i32⟩
  | 106 => ⟨S256x100000, .i32⟩
  | 107 => ⟨S256x100000, .i32⟩
  | 108 => ⟨S256x100000, .i32⟩
  | 109 => ⟨S256x100000, .i32⟩
  | 110 => ⟨S256x100000, .i32⟩
  | 111 => ⟨S_, .i32⟩
  | 112 => ⟨S256x100000, .i32⟩
  | 113 => ⟨S256x100000, .i32⟩
  | 114 => ⟨S256x100000, .i32⟩
  | 115 => ⟨S_, .i32⟩
  | 116 => ⟨S256x100000, .i32⟩
  | 117 => ⟨S256x100000, .i32⟩
  | 118 => ⟨S_, .i32⟩
  | 119 => ⟨S256x100000, .i32⟩
  | 120 => ⟨S256x100000, .i32⟩
  | 121 => ⟨S256x100000, .i32⟩
  | 122 => ⟨S256x100000, .i32⟩
  | 123 => ⟨S256x100000, .i32⟩
  | 124 => ⟨S_, .i32⟩
  | 125 => ⟨S256x100000, .i32⟩
  | 126 => ⟨S256x100000, .i32⟩
  | 127 => ⟨S_, .i32⟩
  | _ => ⟨S128x2x100000, .f32⟩

abbrev hbmTy0_3 (i : Nat) : BufTy := match i % 128 with
  | 0 => ⟨S256x100000, .i32⟩
  | 1 => ⟨S256x100000, .i32⟩
  | 2 => ⟨S256x100000, .i32⟩
  | 3 => ⟨S256x100000, .i32⟩
  | 4 => ⟨S256x100000, .i32⟩
  | 5 => ⟨S_, .i32⟩
  | 6 => ⟨S256x100000, .i32⟩
  | 7 => ⟨S256x100000, .i32⟩
  | 8 => ⟨S_, .i32⟩
  | 9 => ⟨S256x100000, .i32⟩
  | 10 => ⟨S256x100000, .i32⟩
  | 11 => ⟨S256x100000, .i32⟩
  | 12 => ⟨S256x100000, .i32⟩
  | 13 => ⟨S256x100000, .i32⟩
  | 14 => ⟨S_, .i32⟩
  | 15 => ⟨S256x100000, .i32⟩
  | 16 => ⟨S256x100000, .i32⟩
  | 17 => ⟨S_, .i32⟩
  | 18 => ⟨S256x100000, .i32⟩
  | 19 => ⟨S256x100000, .i32⟩
  | 20 => ⟨S256x100000, .i32⟩
  | 21 => ⟨S256x100000, .i32⟩
  | 22 => ⟨S256x100000, .i32⟩
  | 23 => ⟨S256x100000, .i32⟩
  | 24 => ⟨S256x100000, .i32⟩
  | 25 => ⟨S256x100000, .i32⟩
  | 26 => ⟨S_, .i32⟩
  | 27 => ⟨S256x100000, .i32⟩
  | 28 => ⟨S256x100000, .i32⟩
  | 29 => ⟨S256x100000, .i32⟩
  | 30 => ⟨S_, .i32⟩
  | 31 => ⟨S256x100000, .i32⟩
  | 32 => ⟨S256x100000, .i32⟩
  | 33 => ⟨S_, .i32⟩
  | 34 => ⟨S256x100000, .i32⟩
  | 35 => ⟨S256x100000, .i32⟩
  | 36 => ⟨S256x100000, .i32⟩
  | 37 => ⟨S256x100000, .i32⟩
  | 38 => ⟨S256x100000, .i32⟩
  | 39 => ⟨S_, .i32⟩
  | 40 => ⟨S256x100000, .i32⟩
  | 41 => ⟨S256x100000, .i32⟩
  | 42 => ⟨S_, .i32⟩
  | 43 => ⟨S256x100000, .i32⟩
  | 44 => ⟨S256x100000, .i32⟩
  | 45 => ⟨S256x100000, .i32⟩
  | 46 => ⟨S256x100000, .i32⟩
  | 47 => ⟨S256x100000, .i32⟩
  | 48 => ⟨S_, .i32⟩
  | 49 => ⟨S256x100000, .i32⟩
  | 50 => ⟨S256x100000, .i32⟩
  | 51 => ⟨S_, .i32⟩
  | 52 => ⟨S256x100000, .i32⟩
  | 53 => ⟨S256x100000, .i32⟩
  | 54 => ⟨S256x100000, .i32⟩
  | 55 => ⟨S256x100000, .i32⟩
  | 56 => ⟨S256x100000, .i32⟩
  | 57 => ⟨S_, .i32⟩
  | 58 => ⟨S256x100000, .i32⟩
  | 59 => ⟨S256x100000, .i32⟩
  | 60 => ⟨S_, .i32⟩
  | 61 => ⟨S256x100000, .i32⟩
  | 62 => ⟨S256x100000, .i32⟩
  | 63 => ⟨S256x100000, .i32⟩
  | 64 => ⟨S256x100000, .i32⟩
  | 65 => ⟨S256x100000, .i32⟩
  | 66 => ⟨S256x100000, .i32⟩
  | 67 => ⟨S256x100000, .i32⟩
  | 68 => ⟨S256x100000, .i32⟩
  | 69 => ⟨S_, .i32⟩
  | 70 => ⟨S256x100000, .i32⟩
  | 71 => ⟨S256x100000, .i32⟩
  | 72 => ⟨S256x100000, .i32⟩
  | 73 => ⟨S_, .i32⟩
  | 74 => ⟨S256x100000, .i32⟩
  | 75 => ⟨S256x100000, .i32⟩
  | 76 => ⟨S_, .i32⟩
  | 77 => ⟨S256x100000, .i32⟩
  | 78 => ⟨S256x100000, .i32⟩
  | 79 => ⟨S256x100000, .i32⟩
  | 80 => ⟨S256x100000, .i32⟩
  | 81 => ⟨S256x100000, .i32⟩
  | 82 => ⟨S_, .i32⟩
  | 83 => ⟨S256x100000, .i32⟩
  | 84 => ⟨S256x100000, .i32⟩
  | 85 => ⟨S_, .i32⟩
  | 86 => ⟨S256x100000, .i32⟩
  | 87 => ⟨S256x100000, .i32⟩
  | 88 => ⟨S256x100000, .i32⟩
  | 89 => ⟨S256x100000, .i32⟩
  | 90 => ⟨S256x100000, .i32⟩
  | 91 => ⟨S_, .i32⟩
  | 92 => ⟨S256x100000, .i32⟩
  | 93 => ⟨S256x100000, .i32⟩
  | 94 => ⟨S_, .i32⟩
  | 95 => ⟨S256x100000, .i32⟩
  | 96 => ⟨S256x100000, .i32⟩
  | 97 => ⟨S256x100000, .i32⟩
  | 98 => ⟨S256x100000, .i32⟩
  | 99 => ⟨S256x100000, .i32⟩
  | 100 => ⟨S_, .i32⟩
  | 101 => ⟨S256x100000, .i32⟩
  | 102 => ⟨S256x100000, .i32⟩
  | 103 => ⟨S_, .i32⟩
  | 104 => ⟨S256x100000, .i32⟩
  | 105 => ⟨S256x100000, .i32⟩
  | 106 => ⟨S256x100000, .i32⟩
  | 107 => ⟨S256x100000, .i32⟩
  | 108 => ⟨S256x100000, .i32⟩
  | 109 => ⟨S256x100000, .i32⟩
  | 110 => ⟨S256x100000, .i32⟩
  | 111 => ⟨S256x100000, .i32⟩
  | 112 => ⟨S_, .i32⟩
  | 113 => ⟨S256x100000, .i32⟩
  | 114 => ⟨S256x100000, .i32⟩
  | 115 => ⟨S256x100000, .i32⟩
  | 116 => ⟨S_, .i32⟩
  | 117 => ⟨S256x100000, .i32⟩
  | 118 => ⟨S256x100000, .i32⟩
  | 119 => ⟨S_, .i32⟩
  | 120 => ⟨S256x100000, .i32⟩
  | 121 => ⟨S256x100000, .i32⟩
  | 122 => ⟨S256x100000, .f32⟩
  | 123 => ⟨S_, .f32⟩
  | 124 => ⟨S256x100000, .f32⟩
  | 125 => ⟨S256x100000, .f32⟩
  | 126 => ⟨S1x1, .f32⟩
  | 127 => ⟨S256x100000, .f32⟩
  | _ => ⟨S128x2x100000, .f32⟩

abbrev hbmTy0_4 (i : Nat) : BufTy := match i % 128 with
  | 0 => ⟨S256x100000, .f32⟩
  | 1 => ⟨S256x100000, .f32⟩
  | 2 => ⟨S256x100000, .f32⟩
  | 3 => ⟨S256x100000, .f32⟩
  | 4 => ⟨S256x100000, .f32⟩
  | 5 => ⟨S256x100000, .f32⟩
  | 6 => ⟨S256x100000, .f32⟩
  | 7 => ⟨S256x100000, .f32⟩
  | 8 => ⟨S256x100000, .f32⟩
  | 9 => ⟨S_, .f32⟩
  | 10 => ⟨S_, .f32⟩
  | 11 => ⟨S_, .f32⟩
  | 12 => ⟨S_, .f32⟩
  | 13 => ⟨S1x1, .f32⟩
  | 14 => ⟨S1x1, .f32⟩
  | 15 => ⟨S1, .i32⟩
  | 16 => ⟨S_, .i32⟩
  | 17 => ⟨S1, .i32⟩
  | 18 => ⟨S_, .i32⟩
  | 19 => ⟨S128x2, .i64⟩
  | 20 => ⟨S128x2, .i64⟩
  | 21 => ⟨S_, .i64⟩
  | 22 => ⟨S128x2, .i64⟩
  | 23 => ⟨S128x2, .i64⟩
  | 24 => ⟨S_, .i64⟩
  | 25 => ⟨S128x2, .i64⟩
  | 26 => ⟨S128x2, .i64⟩
  | 27 => ⟨S128x2, .i64⟩
  | 28 => ⟨S_, .i64⟩
  | 29 => ⟨S128x2, .i64⟩
  | 30 => ⟨S128x2, .i64⟩
  | 31 => ⟨S128x2, .i32⟩
  | 32 => ⟨S128x2, .i32⟩
  | 33 => ⟨S_, .i32⟩
  | 34 => ⟨S_, .i32⟩
  | 35 => ⟨S_, .i32⟩
  | 36 => ⟨S128x2, .i32⟩
  | 37 => ⟨S128x2, .i32⟩
  | 38 => ⟨S128x2, .i32⟩
  | 39 => ⟨S128x2, .i32⟩
  | 40 => ⟨S128x2, .i32⟩
  | 41 => ⟨S_, .i32⟩
  | 42 => ⟨S128x2, .i32⟩
  | 43 => ⟨S128x2, .i32⟩
  | 44 => ⟨S_, .i32⟩
  | 45 => ⟨S128x2, .i32⟩
  | 46 => ⟨S128x2, .i32⟩
  | 47 => ⟨S128x2, .i32⟩
  | 48 => ⟨S128x2, .i32⟩
  | 49 => ⟨S128x2, .i32⟩
  | 50 => ⟨S_, .i32⟩
  | 51 => ⟨S128x2, .i32⟩
  | 52 => ⟨S128x2, .i32⟩
  | 53 => ⟨S_, .i32⟩
  | 54 => ⟨S128x2, .i32⟩
  | 55 => ⟨S128x2, .i32⟩
  | 56 => ⟨S128x2, .i32⟩
  | 57 => ⟨S128x2, .i32⟩
  | 58 => ⟨S128x2, .i32⟩
  | 59 => ⟨S_, .i32⟩
  | 60 => ⟨S128x2, .i32⟩
  | 61 => ⟨S128x2, .i32⟩
  | 62 => ⟨S_, .i32⟩
  | 63 => ⟨S128x2, .i32⟩
  | 64 => ⟨S128x2, .i32⟩
  | 65 => ⟨S128x2, .i32⟩
  | 66 => ⟨S128x2, .i32⟩
  | 67 => ⟨S128x2, .i32⟩
  | 68 => ⟨S_, .i32⟩
  | 69 => ⟨S128x2, .i32⟩
  | 70 => ⟨S128x2, .i32⟩
  | 71 => ⟨S_, .i32⟩
  | 72 => ⟨S128x2, .i32⟩
  | 73 => ⟨S128x2, .i32⟩
  | 74 => ⟨S128x2, .i32⟩
  | 75 => ⟨S128x2, .i32⟩
  | 76 => ⟨S128x2, .i32⟩
  | 77 => ⟨S128x2, .i32⟩
  | 78 => ⟨S128x2, .i32⟩
  | 79 => ⟨S128x2, .i32⟩
  | 80 => ⟨S_, .i32⟩
  | 81 => ⟨S128x2, .i32⟩
  | 82 => ⟨S128x2, .i32⟩
  | 83 => ⟨S128x2, .i32⟩
  | 84 => ⟨S_, .i32⟩
  | 85 => ⟨S128x2, .i32⟩
  | 86 => ⟨S128x2, .i32⟩
  | 87 => ⟨S_, .i32⟩
  | 88 => ⟨S128x2, .i32⟩
  | 89 => ⟨S128x2, .i32⟩
  | 90 => ⟨S128x2, .i32⟩
  | 91 => ⟨S128x2, .i32⟩
  | 92 => ⟨S128x2, .i32⟩
  | 93 => ⟨S_, .i32⟩
  | 94 => ⟨S128x2, .i32⟩
  | 95 => ⟨S128x2, .i32⟩
  | 96 => ⟨S_, .i32⟩
  | 97 => ⟨S128x2, .i32⟩
  | 98 => ⟨S128x2, .i32⟩
  | 99 => ⟨S128x2, .i32⟩
  | 100 => ⟨S128x2, .i32⟩
  | 101 => ⟨S128x2, .i32⟩
  | 102 => ⟨S_, .i32⟩
  | 103 => ⟨S128x2, .i32⟩
  | 104 => ⟨S128x2, .i32⟩
  | 105 => ⟨S_, .i32⟩
  | 106 => ⟨S128x2, .i32⟩
  | 107 => ⟨S128x2, .i32⟩
  | 108 => ⟨S128x2, .i32⟩
  | 109 => ⟨S128x2, .i32⟩
  | 110 => ⟨S128x2, .i32⟩
  | 111 => ⟨S_, .i32⟩
  | 112 => ⟨S128x2, .i32⟩
  | 113 => ⟨S128x2, .i32⟩
  | 114 => ⟨S_, .i32⟩
  | 115 => ⟨S128x2, .i32⟩
  | 116 => ⟨S128x2, .i32⟩
  | 117 => ⟨S128x2, .i32⟩
  | 118 => ⟨S128x2, .i32⟩
  | 119 => ⟨S128x2, .i32⟩
  | 120 => ⟨S128x2, .i32⟩
  | 121 => ⟨S128x2, .i32⟩
  | 122 => ⟨S128x2, .i32⟩
  | 123 => ⟨S_, .i32⟩
  | 124 => ⟨S128x2, .i32⟩
  | 125 => ⟨S128x2, .i32⟩
  | 126 => ⟨S128x2, .i32⟩
  | 127 => ⟨S_, .i32⟩
  | _ => ⟨S128x2x100000, .f32⟩

abbrev hbmTy0_5 (i : Nat) : BufTy := match i % 128 with
  | 0 => ⟨S128x2, .i32⟩
  | 1 => ⟨S128x2, .i32⟩
  | 2 => ⟨S_, .i32⟩
  | 3 => ⟨S128x2, .i32⟩
  | 4 => ⟨S128x2, .i32⟩
  | 5 => ⟨S128x2, .i32⟩
  | 6 => ⟨S128x2, .i32⟩
  | 7 => ⟨S128x2, .i32⟩
  | 8 => ⟨S_, .i32⟩
  | 9 => ⟨S128x2, .i32⟩
  | 10 => ⟨S128x2, .i32⟩
  | 11 => ⟨S_, .i32⟩
  | 12 => ⟨S128x2, .i32⟩
  | 13 => ⟨S128x2, .i32⟩
  | 14 => ⟨S128x2, .i32⟩
  | 15 => ⟨S128x2, .i32⟩
  | 16 => ⟨S128x2, .i32⟩
  | 17 => ⟨S_, .i32⟩
  | 18 => ⟨S128x2, .i32⟩
  | 19 => ⟨S128x2, .i32⟩
  | 20 => ⟨S_, .i32⟩
  | 21 => ⟨S128x2, .i32⟩
  | 22 => ⟨S128x2, .i32⟩
  | 23 => ⟨S128x2, .i32⟩
  | 24 => ⟨S128x2, .i32⟩
  | 25 => ⟨S128x2, .i32⟩
  | 26 => ⟨S_, .i32⟩
  | 27 => ⟨S128x2, .i32⟩
  | 28 => ⟨S128x2, .i32⟩
  | 29 => ⟨S_, .i32⟩
  | 30 => ⟨S128x2, .i32⟩
  | 31 => ⟨S128x2, .i32⟩
  | 32 => ⟨S128x2, .i32⟩
  | 33 => ⟨S128x2, .i32⟩
  | 34 => ⟨S128x2, .i32⟩
  | 35 => ⟨S128x2, .i32⟩
  | 36 => ⟨S128x2, .i32⟩
  | 37 => ⟨S128x2, .i32⟩
  | 38 => ⟨S_, .i32⟩
  | 39 => ⟨S128x2, .i32⟩
  | 40 => ⟨S128x2, .i32⟩
  | 41 => ⟨S128x2, .i32⟩
  | 42 => ⟨S_, .i32⟩
  | 43 => ⟨S128x2, .i32⟩
  | 44 => ⟨S128x2, .i32⟩
  | 45 => ⟨S_, .i32⟩
  | 46 => ⟨S128x2, .i32⟩
  | 47 => ⟨S128x2, .i32⟩
  | 48 => ⟨S128x2, .i32⟩
  | 49 => ⟨S128x2, .i32⟩
  | 50 => ⟨S128x2, .i32⟩
  | 51 => ⟨S_, .i32⟩
  | 52 => ⟨S128x2, .i32⟩
  | 53 => ⟨S128x2, .i32⟩
  | 54 => ⟨S_, .i32⟩
  | 55 => ⟨S128x2, .i32⟩
  | 56 => ⟨S128x2, .i32⟩
  | 57 => ⟨S128x2, .i32⟩
  | 58 => ⟨S128x2, .i32⟩
  | 59 => ⟨S128x2, .i32⟩
  | 60 => ⟨S_, .i32⟩
  | 61 => ⟨S128x2, .i32⟩
  | 62 => ⟨S128x2, .i32⟩
  | 63 => ⟨S_, .i32⟩
  | 64 => ⟨S128x2, .i32⟩
  | 65 => ⟨S128x2, .i32⟩
  | 66 => ⟨S128x2, .i32⟩
  | 67 => ⟨S128x2, .i32⟩
  | 68 => ⟨S128x2, .i32⟩
  | 69 => ⟨S_, .i32⟩
  | 70 => ⟨S128x2, .i32⟩
  | 71 => ⟨S128x2, .i32⟩
  | 72 => ⟨S_, .i32⟩
  | 73 => ⟨S128x2, .i32⟩
  | 74 => ⟨S128x2, .i32⟩
  | 75 => ⟨S128x2, .i32⟩
  | 76 => ⟨S128x2, .i32⟩
  | 77 => ⟨S128x2, .i32⟩
  | 78 => ⟨S128x2, .i32⟩
  | 79 => ⟨S128x2, .i32⟩
  | 80 => ⟨S128x2, .i32⟩
  | 81 => ⟨S_, .i32⟩
  | 82 => ⟨S128x2, .i32⟩
  | 83 => ⟨S128x2, .i32⟩
  | 84 => ⟨S128x2, .i32⟩
  | 85 => ⟨S_, .i32⟩
  | 86 => ⟨S128x2, .i32⟩
  | 87 => ⟨S128x2, .i32⟩
  | 88 => ⟨S_, .i32⟩
  | 89 => ⟨S128x2, .i32⟩
  | 90 => ⟨S128x2, .i32⟩
  | 91 => ⟨S128x2, .i32⟩
  | 92 => ⟨S128x2, .i32⟩
  | 93 => ⟨S128x2, .i32⟩
  | 94 => ⟨S_, .i32⟩
  | 95 => ⟨S128x2, .i32⟩
  | 96 => ⟨S128x2, .i32⟩
  | 97 => ⟨S_, .i32⟩
  | 98 => ⟨S128x2, .i32⟩
  | 99 => ⟨S128x2, .i32⟩
  | 100 => ⟨S128x2, .i32⟩
  | 101 => ⟨S128x2, .i32⟩
  | 102 => ⟨S128x2, .i32⟩
  | 103 => ⟨S_, .i32⟩
  | 104 => ⟨S128x2, .i32⟩
  | 105 => ⟨S128x2, .i32⟩
  | 106 => ⟨S_, .i32⟩
  | 107 => ⟨S128x2, .i32⟩
  | 108 => ⟨S128x2, .i32⟩
  | 109 => ⟨S128x2, .i32⟩
  | 110 => ⟨S128x2, .i32⟩
  | 111 => ⟨S128x2, .i32⟩
  | 112 => ⟨S_, .i32⟩
  | 113 => ⟨S128x2, .i32⟩
  | 114 => ⟨S128x2, .i32⟩
  | 115 => ⟨S_, .i32⟩
  | 116 => ⟨S128x2, .i32⟩
  | 117 => ⟨S128x2, .i32⟩
  | 118 => ⟨S128x2, .i32⟩
  | 119 => ⟨S128x2, .i32⟩
  | 120 => ⟨S128x2, .i32⟩
  | 121 => ⟨S128x2, .i32⟩
  | 122 => ⟨S128x2, .i32⟩
  | 123 => ⟨S128x2, .i32⟩
  | 124 => ⟨S_, .i32⟩
  | 125 => ⟨S128x2, .i32⟩
  | 126 => ⟨S128x2, .i32⟩
  | 127 => ⟨S128x2, .i32⟩
  | _ => ⟨S128x2x100000, .f32⟩

abbrev hbmTy0_6 (i : Nat) : BufTy := match i % 128 with
  | 0 => ⟨S_, .i32⟩
  | 1 => ⟨S128x2, .i32⟩
  | 2 => ⟨S128x2, .i32⟩
  | 3 => ⟨S_, .i32⟩
  | 4 => ⟨S128x2, .i32⟩
  | 5 => ⟨S128x2, .i32⟩
  | 6 => ⟨S128x2, .f32⟩
  | 7 => ⟨S_, .f32⟩
  | 8 => ⟨S128x2, .f32⟩
  | 9 => ⟨S128x2, .f32⟩
  | 10 => ⟨S1x1, .f32⟩
  | 11 => ⟨S128x2, .f32⟩
  | 12 => ⟨S128x2, .f32⟩
  | 13 => ⟨S128x2, .f32⟩
  | 14 => ⟨S128x2, .f32⟩
  | 15 => ⟨S128x2, .f32⟩
  | 16 => ⟨S128x2, .f32⟩
  | 17 => ⟨S128x100000, .f32⟩
  | 18 => ⟨S100000x128, .f32⟩
  | 19 => ⟨S128x100000, .f32⟩
  | 20 => ⟨S100000x128, .f32⟩
  | 21 => ⟨S1x100000x128, .f32⟩
  | 22 => ⟨S1x100000x128, .f32⟩
  | 23 => ⟨S2x100000x128, .f32⟩
  | 24 => ⟨S2x128, .f32⟩
  | 25 => ⟨S2x1x128, .f32⟩
  | 26 => ⟨S2x100000x128, .f32⟩
  | 27 => ⟨S_, .f32⟩
  | 28 => ⟨S128, .f32⟩
  | 29 => ⟨S128, .f32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S1x128, .i32⟩
  | 38 => ⟨S2x100000x128, .f32⟩
  | 39 => ⟨S2x1x128, .f32⟩
  | 40 => ⟨S2x128, .f32⟩
  | 41 => ⟨S128x2, .f32⟩
  | 42 => ⟨S128x2x100000, .f32⟩
  | _ => ⟨S128x2x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128x2x100000, .f32⟩

abbrev bufTy : (tb : Table) → Fin (tcTables nBuf tb) → BufTy
  | .hbm, ⟨i, _⟩ => hbmTy i
  | .local _ .vmem, ⟨0, _⟩ => ⟨S2x5000x128, .f32⟩
  | .local _ .vmem, ⟨1, _⟩ => ⟨S2x5000x128, .f32⟩
  | .local _ .vmem, ⟨2, _⟩ => ⟨S2x5000x128, .f32⟩
  | .local _ .vmem, ⟨3, _⟩ => ⟨S2x5000x128, .f32⟩
  | .local _ .vmem, ⟨4, _⟩ => ⟨S1x128, .i32⟩
  | .local _ .vmem, ⟨5, _⟩ => ⟨S2x1x128, .f32⟩
  | .local _ .vmem, ⟨6, _⟩ => ⟨S2x5000x128, .f32⟩
  | .local _ .vmem, ⟨7, _⟩ => ⟨S2x5000x128, .f32⟩
  | .local _ .vmem, ⟨8, _⟩ => ⟨S2x1x128, .f32⟩
  | .local _ .vmem, ⟨9, _⟩ => ⟨S1x128, .f32⟩
  | .local _ .vmem, ⟨10, _⟩ => ⟨S1x128, .i32⟩
  | .local _ .vmem, ⟨11, _⟩ => ⟨S1x128, .f32⟩
  | .local _ .vmem, ⟨12, _⟩ => ⟨S1x128, .i32⟩
  | .local _ .vmem, ⟨13, _⟩ => ⟨S1x128, .i32⟩
  | _, _ => ⟨S128x2x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_call1_cst : Ref sig .tc := ⟨.hbm, 254, rfl⟩
abbrev main_call1_cst_0 : Ref sig .tc := ⟨.hbm, 255, rfl⟩
abbrev main_call1_call0_v0 : Ref sig .tc := ⟨.hbm, 256, rfl⟩
abbrev main_call1_call0_v1 : Ref sig .tc := ⟨.hbm, 257, rfl⟩
abbrev main_call1_call0_v2 : Ref sig .tc := ⟨.hbm, 258, rfl⟩
abbrev main_call1_call0_v3 : Ref sig .tc := ⟨.hbm, 259, rfl⟩
abbrev main_call1_call0_v4 : Ref sig .tc := ⟨.hbm, 260, rfl⟩
abbrev main_call1_call0_v5 : Ref sig .tc := ⟨.hbm, 261, rfl⟩
abbrev main_call1_call0_v6 : Ref sig .tc := ⟨.hbm, 262, rfl⟩
abbrev main_call1_call0_v7 : Ref sig .tc := ⟨.hbm, 263, rfl⟩
abbrev main_call1_call0_v8 : Ref sig .tc := ⟨.hbm, 264, rfl⟩
abbrev main_call1_call0_c : Ref sig .tc := ⟨.hbm, 265, rfl⟩
abbrev main_call1_call0_v9 : Ref sig .tc := ⟨.hbm, 266, rfl⟩
abbrev main_call1_call0_v10 : Ref sig .tc := ⟨.hbm, 267, rfl⟩
abbrev main_call1_call0_c_0 : Ref sig .tc := ⟨.hbm, 268, rfl⟩
abbrev main_call1_call0_v11 : Ref sig .tc := ⟨.hbm, 269, rfl⟩
abbrev main_call1_call0_v12 : Ref sig .tc := ⟨.hbm, 270, rfl⟩
abbrev main_call1_call0_v13 : Ref sig .tc := ⟨.hbm, 271, rfl⟩
abbrev main_call1_call0_c_1 : Ref sig .tc := ⟨.hbm, 272, rfl⟩
abbrev main_call1_call0_v14 : Ref sig .tc := ⟨.hbm, 273, rfl⟩
abbrev main_call1_call0_v15 : Ref sig .tc := ⟨.hbm, 274, rfl⟩
abbrev main_call1_call0_v16 : Ref sig .tc := ⟨.hbm, 275, rfl⟩
abbrev main_call1_call0_v17 : Ref sig .tc := ⟨.hbm, 276, rfl⟩
abbrev main_call1_call0_call0_v0 : Ref sig .tc := ⟨.hbm, 277, rfl⟩
abbrev main_call1_call0_call0_c : Ref sig .tc := ⟨.hbm, 278, rfl⟩
abbrev main_call1_call0_call0_v1 : Ref sig .tc := ⟨.hbm, 279, rfl⟩
abbrev main_call1_call0_call0_v2 : Ref sig .tc := ⟨.hbm, 280, rfl⟩
abbrev main_call1_call0_call0_v3 : Ref sig .tc := ⟨.hbm, 281, rfl⟩
abbrev main_call1_call0_call0_v4 : Ref sig .tc := ⟨.hbm, 282, rfl⟩
abbrev main_call1_call0_call0_v5 : Ref sig .tc := ⟨.hbm, 283, rfl⟩
abbrev main_call1_call0_call0_v6 : Ref sig .tc := ⟨.hbm, 284, rfl⟩
abbrev main_call1_call0_call0_c_0 : Ref sig .tc := ⟨.hbm, 285, rfl⟩
abbrev main_call1_call0_call0_v7 : Ref sig .tc := ⟨.hbm, 286, rfl⟩
abbrev main_call1_call0_call0_v8 : Ref sig .tc := ⟨.hbm, 287, rfl⟩
abbrev main_call1_call0_call0_c_1 : Ref sig .tc := ⟨.hbm, 288, rfl⟩
abbrev main_call1_call0_call0_v9 : Ref sig .tc := ⟨.hbm, 289, rfl⟩
abbrev main_call1_call0_call0_v10 : Ref sig .tc := ⟨.hbm, 290, rfl⟩
abbrev main_call1_call0_call0_v11 : Ref sig .tc := ⟨.hbm, 291, rfl⟩
abbrev main_call1_call0_call0_v12 : Ref sig .tc := ⟨.hbm, 292, rfl⟩
abbrev main_call1_call0_call0_v13 : Ref sig .tc := ⟨.hbm, 293, rfl⟩
abbrev main_call1_call0_call0_c_2 : Ref sig .tc := ⟨.hbm, 294, rfl⟩
abbrev main_call1_call0_call0_v14 : Ref sig .tc := ⟨.hbm, 295, rfl⟩
abbrev main_call1_call0_call0_v15 : Ref sig .tc := ⟨.hbm, 296, rfl⟩
abbrev main_call1_call0_call0_c_3 : Ref sig .tc := ⟨.hbm, 297, rfl⟩
abbrev main_call1_call0_call0_v16 : Ref sig .tc := ⟨.hbm, 298, rfl⟩
abbrev main_call1_call0_call0_v17 : Ref sig .tc := ⟨.hbm, 299, rfl⟩
abbrev main_call1_call0_call0_v18 : Ref sig .tc := ⟨.hbm, 300, rfl⟩
abbrev main_call1_call0_call0_v19 : Ref sig .tc := ⟨.hbm, 301, rfl⟩
abbrev main_call1_call0_call0_v20 : Ref sig .tc := ⟨.hbm, 302, rfl⟩
abbrev main_call1_call0_call0_c_4 : Ref sig .tc := ⟨.hbm, 303, rfl⟩
abbrev main_call1_call0_call0_v21 : Ref sig .tc := ⟨.hbm, 304, rfl⟩
abbrev main_call1_call0_call0_v22 : Ref sig .tc := ⟨.hbm, 305, rfl⟩
abbrev main_call1_call0_call0_c_5 : Ref sig .tc := ⟨.hbm, 306, rfl⟩
abbrev main_call1_call0_call0_v23 : Ref sig .tc := ⟨.hbm, 307, rfl⟩
abbrev main_call1_call0_call0_v24 : Ref sig .tc := ⟨.hbm, 308, rfl⟩
abbrev main_call1_call0_call0_v25 : Ref sig .tc := ⟨.hbm, 309, rfl⟩
abbrev main_call1_call0_call0_v26 : Ref sig .tc := ⟨.hbm, 310, rfl⟩
abbrev main_call1_call0_call0_v27 : Ref sig .tc := ⟨.hbm, 311, rfl⟩
abbrev main_call1_call0_call0_c_6 : Ref sig .tc := ⟨.hbm, 312, rfl⟩
abbrev main_call1_call0_call0_v28 : Ref sig .tc := ⟨.hbm, 313, rfl⟩
abbrev main_call1_call0_call0_v29 : Ref sig .tc := ⟨.hbm, 314, rfl⟩
abbrev main_call1_call0_call0_c_7 : Ref sig .tc := ⟨.hbm, 315, rfl⟩
abbrev main_call1_call0_call0_v30 : Ref sig .tc := ⟨.hbm, 316, rfl⟩
abbrev main_call1_call0_call0_v31 : Ref sig .tc := ⟨.hbm, 317, rfl⟩
abbrev main_call1_call0_call0_v32 : Ref sig .tc := ⟨.hbm, 318, rfl⟩
abbrev main_call1_call0_call0_v33 : Ref sig .tc := ⟨.hbm, 319, rfl⟩
abbrev main_call1_call0_call0_v34 : Ref sig .tc := ⟨.hbm, 320, rfl⟩
abbrev main_call1_call0_call0_v35 : Ref sig .tc := ⟨.hbm, 321, rfl⟩
abbrev main_call1_call0_call0_v36 : Ref sig .tc := ⟨.hbm, 322, rfl⟩
abbrev main_call1_call0_call0_v37 : Ref sig .tc := ⟨.hbm, 323, rfl⟩
abbrev main_call1_call0_call0_c_8 : Ref sig .tc := ⟨.hbm, 324, rfl⟩
abbrev main_call1_call0_call0_v38 : Ref sig .tc := ⟨.hbm, 325, rfl⟩
abbrev main_call1_call0_call0_v39 : Ref sig .tc := ⟨.hbm, 326, rfl⟩
abbrev main_call1_call0_call0_v40 : Ref sig .tc := ⟨.hbm, 327, rfl⟩
abbrev main_call1_call0_call0_c_9 : Ref sig .tc := ⟨.hbm, 328, rfl⟩
abbrev main_call1_call0_call0_v41 : Ref sig .tc := ⟨.hbm, 329, rfl⟩
abbrev main_call1_call0_call0_v42 : Ref sig .tc := ⟨.hbm, 330, rfl⟩
abbrev main_call1_call0_call0_c_10 : Ref sig .tc := ⟨.hbm, 331, rfl⟩
abbrev main_call1_call0_call0_v43 : Ref sig .tc := ⟨.hbm, 332, rfl⟩
abbrev main_call1_call0_call0_v44 : Ref sig .tc := ⟨.hbm, 333, rfl⟩
abbrev main_call1_call0_call0_v45 : Ref sig .tc := ⟨.hbm, 334, rfl⟩
abbrev main_call1_call0_call0_v46 : Ref sig .tc := ⟨.hbm, 335, rfl⟩
abbrev main_call1_call0_call0_v47 : Ref sig .tc := ⟨.hbm, 336, rfl⟩
abbrev main_call1_call0_call0_c_11 : Ref sig .tc := ⟨.hbm, 337, rfl⟩
abbrev main_call1_call0_call0_v48 : Ref sig .tc := ⟨.hbm, 338, rfl⟩
abbrev main_call1_call0_call0_v49 : Ref sig .tc := ⟨.hbm, 339, rfl⟩
abbrev main_call1_call0_call0_c_12 : Ref sig .tc := ⟨.hbm, 340, rfl⟩
abbrev main_call1_call0_call0_v50 : Ref sig .tc := ⟨.hbm, 341, rfl⟩
abbrev main_call1_call0_call0_v51 : Ref sig .tc := ⟨.hbm, 342, rfl⟩
abbrev main_call1_call0_call0_v52 : Ref sig .tc := ⟨.hbm, 343, rfl⟩
abbrev main_call1_call0_call0_v53 : Ref sig .tc := ⟨.hbm, 344, rfl⟩
abbrev main_call1_call0_call0_v54 : Ref sig .tc := ⟨.hbm, 345, rfl⟩
abbrev main_call1_call0_call0_c_13 : Ref sig .tc := ⟨.hbm, 346, rfl⟩
abbrev main_call1_call0_call0_v55 : Ref sig .tc := ⟨.hbm, 347, rfl⟩
abbrev main_call1_call0_call0_v56 : Ref sig .tc := ⟨.hbm, 348, rfl⟩
abbrev main_call1_call0_call0_c_14 : Ref sig .tc := ⟨.hbm, 349, rfl⟩
abbrev main_call1_call0_call0_v57 : Ref sig .tc := ⟨.hbm, 350, rfl⟩
abbrev main_call1_call0_call0_v58 : Ref sig .tc := ⟨.hbm, 351, rfl⟩
abbrev main_call1_call0_call0_v59 : Ref sig .tc := ⟨.hbm, 352, rfl⟩
abbrev main_call1_call0_call0_v60 : Ref sig .tc := ⟨.hbm, 353, rfl⟩
abbrev main_call1_call0_call0_v61 : Ref sig .tc := ⟨.hbm, 354, rfl⟩
abbrev main_call1_call0_call0_c_15 : Ref sig .tc := ⟨.hbm, 355, rfl⟩
abbrev main_call1_call0_call0_v62 : Ref sig .tc := ⟨.hbm, 356, rfl⟩
abbrev main_call1_call0_call0_v63 : Ref sig .tc := ⟨.hbm, 357, rfl⟩
abbrev main_call1_call0_call0_c_16 : Ref sig .tc := ⟨.hbm, 358, rfl⟩
abbrev main_call1_call0_call0_v64 : Ref sig .tc := ⟨.hbm, 359, rfl⟩
abbrev main_call1_call0_call0_v65 : Ref sig .tc := ⟨.hbm, 360, rfl⟩
abbrev main_call1_call0_call0_v66 : Ref sig .tc := ⟨.hbm, 361, rfl⟩
abbrev main_call1_call0_call0_v67 : Ref sig .tc := ⟨.hbm, 362, rfl⟩
abbrev main_call1_call0_call0_v68 : Ref sig .tc := ⟨.hbm, 363, rfl⟩
abbrev main_call1_call0_call0_v69 : Ref sig .tc := ⟨.hbm, 364, rfl⟩
abbrev main_call1_call0_call0_v70 : Ref sig .tc := ⟨.hbm, 365, rfl⟩
abbrev main_call1_call0_call0_v71 : Ref sig .tc := ⟨.hbm, 366, rfl⟩
abbrev main_call1_call0_call0_c_17 : Ref sig .tc := ⟨.hbm, 367, rfl⟩
abbrev main_call1_call0_call0_v72 : Ref sig .tc := ⟨.hbm, 368, rfl⟩
abbrev main_call1_call0_call0_v73 : Ref sig .tc := ⟨.hbm, 369, rfl⟩
abbrev main_call1_call0_call0_v74 : Ref sig .tc := ⟨.hbm, 370, rfl⟩
abbrev main_call1_call0_call0_c_18 : Ref sig .tc := ⟨.hbm, 371, rfl⟩
abbrev main_call1_call0_call0_v75 : Ref sig .tc := ⟨.hbm, 372, rfl⟩
abbrev main_call1_call0_call0_v76 : Ref sig .tc := ⟨.hbm, 373, rfl⟩
abbrev main_call1_call0_call0_c_19 : Ref sig .tc := ⟨.hbm, 374, rfl⟩
abbrev main_call1_call0_call0_v77 : Ref sig .tc := ⟨.hbm, 375, rfl⟩
abbrev main_call1_call0_call0_v78 : Ref sig .tc := ⟨.hbm, 376, rfl⟩
abbrev main_call1_call0_call0_v79 : Ref sig .tc := ⟨.hbm, 377, rfl⟩
abbrev main_call1_call0_call0_v80 : Ref sig .tc := ⟨.hbm, 378, rfl⟩
abbrev main_call1_call0_call0_v81 : Ref sig .tc := ⟨.hbm, 379, rfl⟩
abbrev main_call1_call0_call0_c_20 : Ref sig .tc := ⟨.hbm, 380, rfl⟩
abbrev main_call1_call0_call0_v82 : Ref sig .tc := ⟨.hbm, 381, rfl⟩
abbrev main_call1_call0_call0_v83 : Ref sig .tc := ⟨.hbm, 382, rfl⟩
abbrev main_call1_call0_call0_c_21 : Ref sig .tc := ⟨.hbm, 383, rfl⟩
abbrev main_call1_call0_call0_v84 : Ref sig .tc := ⟨.hbm, 384, rfl⟩
abbrev main_call1_call0_call0_v85 : Ref sig .tc := ⟨.hbm, 385, rfl⟩
abbrev main_call1_call0_call0_v86 : Ref sig .tc := ⟨.hbm, 386, rfl⟩
abbrev main_call1_call0_call0_v87 : Ref sig .tc := ⟨.hbm, 387, rfl⟩
abbrev main_call1_call0_call0_v88 : Ref sig .tc := ⟨.hbm, 388, rfl⟩
abbrev main_call1_call0_call0_c_22 : Ref sig .tc := ⟨.hbm, 389, rfl⟩
abbrev main_call1_call0_call0_v89 : Ref sig .tc := ⟨.hbm, 390, rfl⟩
abbrev main_call1_call0_call0_v90 : Ref sig .tc := ⟨.hbm, 391, rfl⟩
abbrev main_call1_call0_call0_c_23 : Ref sig .tc := ⟨.hbm, 392, rfl⟩
abbrev main_call1_call0_call0_v91 : Ref sig .tc := ⟨.hbm, 393, rfl⟩
abbrev main_call1_call0_call0_v92 : Ref sig .tc := ⟨.hbm, 394, rfl⟩
abbrev main_call1_call0_call0_v93 : Ref sig .tc := ⟨.hbm, 395, rfl⟩
abbrev main_call1_call0_call0_v94 : Ref sig .tc := ⟨.hbm, 396, rfl⟩
abbrev main_call1_call0_call0_v95 : Ref sig .tc := ⟨.hbm, 397, rfl⟩
abbrev main_call1_call0_call0_c_24 : Ref sig .tc := ⟨.hbm, 398, rfl⟩
abbrev main_call1_call0_call0_v96 : Ref sig .tc := ⟨.hbm, 399, rfl⟩
abbrev main_call1_call0_call0_v97 : Ref sig .tc := ⟨.hbm, 400, rfl⟩
abbrev main_call1_call0_call0_c_25 : Ref sig .tc := ⟨.hbm, 401, rfl⟩
abbrev main_call1_call0_call0_v98 : Ref sig .tc := ⟨.hbm, 402, rfl⟩
abbrev main_call1_call0_call0_v99 : Ref sig .tc := ⟨.hbm, 403, rfl⟩
abbrev main_call1_call0_call0_v100 : Ref sig .tc := ⟨.hbm, 404, rfl⟩
abbrev main_call1_call0_call0_v101 : Ref sig .tc := ⟨.hbm, 405, rfl⟩
abbrev main_call1_call0_call0_v102 : Ref sig .tc := ⟨.hbm, 406, rfl⟩
abbrev main_call1_call0_call0_v103 : Ref sig .tc := ⟨.hbm, 407, rfl⟩
abbrev main_call1_call0_call0_v104 : Ref sig .tc := ⟨.hbm, 408, rfl⟩
abbrev main_call1_call0_call0_v105 : Ref sig .tc := ⟨.hbm, 409, rfl⟩
abbrev main_call1_call0_call0_c_26 : Ref sig .tc := ⟨.hbm, 410, rfl⟩
abbrev main_call1_call0_call0_v106 : Ref sig .tc := ⟨.hbm, 411, rfl⟩
abbrev main_call1_call0_call0_v107 : Ref sig .tc := ⟨.hbm, 412, rfl⟩
abbrev main_call1_call0_call0_v108 : Ref sig .tc := ⟨.hbm, 413, rfl⟩
abbrev main_call1_call0_call0_c_27 : Ref sig .tc := ⟨.hbm, 414, rfl⟩
abbrev main_call1_call0_call0_v109 : Ref sig .tc := ⟨.hbm, 415, rfl⟩
abbrev main_call1_call0_call0_v110 : Ref sig .tc := ⟨.hbm, 416, rfl⟩
abbrev main_call1_call0_call0_c_28 : Ref sig .tc := ⟨.hbm, 417, rfl⟩
abbrev main_call1_call0_call0_v111 : Ref sig .tc := ⟨.hbm, 418, rfl⟩
abbrev main_call1_call0_call0_v112 : Ref sig .tc := ⟨.hbm, 419, rfl⟩
abbrev main_call1_call0_call0_v113 : Ref sig .tc := ⟨.hbm, 420, rfl⟩
abbrev main_call1_call0_call0_v114 : Ref sig .tc := ⟨.hbm, 421, rfl⟩
abbrev main_call1_call0_call0_v115 : Ref sig .tc := ⟨.hbm, 422, rfl⟩
abbrev main_call1_call0_call0_c_29 : Ref sig .tc := ⟨.hbm, 423, rfl⟩
abbrev main_call1_call0_call0_v116 : Ref sig .tc := ⟨.hbm, 424, rfl⟩
abbrev main_call1_call0_call0_v117 : Ref sig .tc := ⟨.hbm, 425, rfl⟩
abbrev main_call1_call0_call0_c_30 : Ref sig .tc := ⟨.hbm, 426, rfl⟩
abbrev main_call1_call0_call0_v118 : Ref sig .tc := ⟨.hbm, 427, rfl⟩
abbrev main_call1_call0_call0_v119 : Ref sig .tc := ⟨.hbm, 428, rfl⟩
abbrev main_call1_call0_call0_v120 : Ref sig .tc := ⟨.hbm, 429, rfl⟩
abbrev main_call1_call0_call0_v121 : Ref sig .tc := ⟨.hbm, 430, rfl⟩
abbrev main_call1_call0_call0_v122 : Ref sig .tc := ⟨.hbm, 431, rfl⟩
abbrev main_call1_call0_call0_c_31 : Ref sig .tc := ⟨.hbm, 432, rfl⟩
abbrev main_call1_call0_call0_v123 : Ref sig .tc := ⟨.hbm, 433, rfl⟩
abbrev main_call1_call0_call0_v124 : Ref sig .tc := ⟨.hbm, 434, rfl⟩
abbrev main_call1_call0_call0_c_32 : Ref sig .tc := ⟨.hbm, 435, rfl⟩
abbrev main_call1_call0_call0_v125 : Ref sig .tc := ⟨.hbm, 436, rfl⟩
abbrev main_call1_call0_call0_v126 : Ref sig .tc := ⟨.hbm, 437, rfl⟩
abbrev main_call1_call0_call0_v127 : Ref sig .tc := ⟨.hbm, 438, rfl⟩
abbrev main_call1_call0_call0_v128 : Ref sig .tc := ⟨.hbm, 439, rfl⟩
abbrev main_call1_call0_call0_v129 : Ref sig .tc := ⟨.hbm, 440, rfl⟩
abbrev main_call1_call0_call0_c_33 : Ref sig .tc := ⟨.hbm, 441, rfl⟩
abbrev main_call1_call0_call0_v130 : Ref sig .tc := ⟨.hbm, 442, rfl⟩
abbrev main_call1_call0_call0_v131 : Ref sig .tc := ⟨.hbm, 443, rfl⟩
abbrev main_call1_call0_call0_c_34 : Ref sig .tc := ⟨.hbm, 444, rfl⟩
abbrev main_call1_call0_call0_v132 : Ref sig .tc := ⟨.hbm, 445, rfl⟩
abbrev main_call1_call0_call0_v133 : Ref sig .tc := ⟨.hbm, 446, rfl⟩
abbrev main_call1_call0_call0_v134 : Ref sig .tc := ⟨.hbm, 447, rfl⟩
abbrev main_call1_call0_call0_v135 : Ref sig .tc := ⟨.hbm, 448, rfl⟩
abbrev main_call1_call0_call0_v136 : Ref sig .tc := ⟨.hbm, 449, rfl⟩
abbrev main_call1_call0_call0_v137 : Ref sig .tc := ⟨.hbm, 450, rfl⟩
abbrev main_call1_call0_call0_v138 : Ref sig .tc := ⟨.hbm, 451, rfl⟩
abbrev main_call1_call0_call0_v139 : Ref sig .tc := ⟨.hbm, 452, rfl⟩
abbrev main_call1_call0_call0_c_35 : Ref sig .tc := ⟨.hbm, 453, rfl⟩
abbrev main_call1_call0_call0_v140 : Ref sig .tc := ⟨.hbm, 454, rfl⟩
abbrev main_call1_call0_call0_v141 : Ref sig .tc := ⟨.hbm, 455, rfl⟩
abbrev main_call1_call0_call0_v142 : Ref sig .tc := ⟨.hbm, 456, rfl⟩
abbrev main_call1_call0_call0_c_36 : Ref sig .tc := ⟨.hbm, 457, rfl⟩
abbrev main_call1_call0_call0_v143 : Ref sig .tc := ⟨.hbm, 458, rfl⟩
abbrev main_call1_call0_call0_v144 : Ref sig .tc := ⟨.hbm, 459, rfl⟩
abbrev main_call1_call0_call0_c_37 : Ref sig .tc := ⟨.hbm, 460, rfl⟩
abbrev main_call1_call0_call0_v145 : Ref sig .tc := ⟨.hbm, 461, rfl⟩
abbrev main_call1_call0_call0_v146 : Ref sig .tc := ⟨.hbm, 462, rfl⟩
abbrev main_call1_call0_call0_v147 : Ref sig .tc := ⟨.hbm, 463, rfl⟩
abbrev main_call1_call0_call0_v148 : Ref sig .tc := ⟨.hbm, 464, rfl⟩
abbrev main_call1_call0_call0_v149 : Ref sig .tc := ⟨.hbm, 465, rfl⟩
abbrev main_call1_call0_call0_c_38 : Ref sig .tc := ⟨.hbm, 466, rfl⟩
abbrev main_call1_call0_call0_v150 : Ref sig .tc := ⟨.hbm, 467, rfl⟩
abbrev main_call1_call0_call0_v151 : Ref sig .tc := ⟨.hbm, 468, rfl⟩
abbrev main_call1_call0_call0_c_39 : Ref sig .tc := ⟨.hbm, 469, rfl⟩
abbrev main_call1_call0_call0_v152 : Ref sig .tc := ⟨.hbm, 470, rfl⟩
abbrev main_call1_call0_call0_v153 : Ref sig .tc := ⟨.hbm, 471, rfl⟩
abbrev main_call1_call0_call0_v154 : Ref sig .tc := ⟨.hbm, 472, rfl⟩
abbrev main_call1_call0_call0_v155 : Ref sig .tc := ⟨.hbm, 473, rfl⟩
abbrev main_call1_call0_call0_v156 : Ref sig .tc := ⟨.hbm, 474, rfl⟩
abbrev main_call1_call0_call0_c_40 : Ref sig .tc := ⟨.hbm, 475, rfl⟩
abbrev main_call1_call0_call0_v157 : Ref sig .tc := ⟨.hbm, 476, rfl⟩
abbrev main_call1_call0_call0_v158 : Ref sig .tc := ⟨.hbm, 477, rfl⟩
abbrev main_call1_call0_call0_c_41 : Ref sig .tc := ⟨.hbm, 478, rfl⟩
abbrev main_call1_call0_call0_v159 : Ref sig .tc := ⟨.hbm, 479, rfl⟩
abbrev main_call1_call0_call0_v160 : Ref sig .tc := ⟨.hbm, 480, rfl⟩
abbrev main_call1_call0_call0_v161 : Ref sig .tc := ⟨.hbm, 481, rfl⟩
abbrev main_call1_call0_call0_v162 : Ref sig .tc := ⟨.hbm, 482, rfl⟩
abbrev main_call1_call0_call0_v163 : Ref sig .tc := ⟨.hbm, 483, rfl⟩
abbrev main_call1_call0_call0_c_42 : Ref sig .tc := ⟨.hbm, 484, rfl⟩
abbrev main_call1_call0_call0_v164 : Ref sig .tc := ⟨.hbm, 485, rfl⟩
abbrev main_call1_call0_call0_v165 : Ref sig .tc := ⟨.hbm, 486, rfl⟩
abbrev main_call1_call0_call0_c_43 : Ref sig .tc := ⟨.hbm, 487, rfl⟩
abbrev main_call1_call0_call0_v166 : Ref sig .tc := ⟨.hbm, 488, rfl⟩
abbrev main_call1_call0_call0_v167 : Ref sig .tc := ⟨.hbm, 489, rfl⟩
abbrev main_call1_call0_call0_v168 : Ref sig .tc := ⟨.hbm, 490, rfl⟩
abbrev main_call1_call0_call0_v169 : Ref sig .tc := ⟨.hbm, 491, rfl⟩
abbrev main_call1_call0_call0_v170 : Ref sig .tc := ⟨.hbm, 492, rfl⟩
abbrev main_call1_call0_v18_0 : Ref sig .tc := ⟨.hbm, 493, rfl⟩
abbrev main_call1_call0_call0_v172 : Ref sig .tc := ⟨.hbm, 494, rfl⟩
abbrev main_call1_call0_call0_v173 : Ref sig .tc := ⟨.hbm, 495, rfl⟩
abbrev main_call1_call0_call0_c_44 : Ref sig .tc := ⟨.hbm, 496, rfl⟩
abbrev main_call1_call0_call0_v174 : Ref sig .tc := ⟨.hbm, 497, rfl⟩
abbrev main_call1_call0_v18_1 : Ref sig .tc := ⟨.hbm, 498, rfl⟩
abbrev main_call1_call0_v19 : Ref sig .tc := ⟨.hbm, 499, rfl⟩
abbrev main_call1_call0_c_2 : Ref sig .tc := ⟨.hbm, 500, rfl⟩
abbrev main_call1_call0_v20 : Ref sig .tc := ⟨.hbm, 501, rfl⟩
abbrev main_call1_call0_v21 : Ref sig .tc := ⟨.hbm, 502, rfl⟩
abbrev main_call1_call0_c_3 : Ref sig .tc := ⟨.hbm, 503, rfl⟩
abbrev main_call1_call0_v22 : Ref sig .tc := ⟨.hbm, 504, rfl⟩
abbrev main_call1_call0_v23 : Ref sig .tc := ⟨.hbm, 505, rfl⟩
abbrev main_call1_call0_v24 : Ref sig .tc := ⟨.hbm, 506, rfl⟩
abbrev main_call1_call0_cst : Ref sig .tc := ⟨.hbm, 507, rfl⟩
abbrev main_call1_call0_v25 : Ref sig .tc := ⟨.hbm, 508, rfl⟩
abbrev main_call1_call0_v26 : Ref sig .tc := ⟨.hbm, 509, rfl⟩
abbrev main_call1_call0_v27 : Ref sig .tc := ⟨.hbm, 510, rfl⟩
abbrev main_call1_call0_v28 : Ref sig .tc := ⟨.hbm, 511, rfl⟩
abbrev main_call1_call0_v29 : Ref sig .tc := ⟨.hbm, 512, rfl⟩
abbrev main_call1_call0_v30 : Ref sig .tc := ⟨.hbm, 513, rfl⟩
abbrev main_call1_call0_v31 : Ref sig .tc := ⟨.hbm, 514, rfl⟩
abbrev main_call1_call0_v32 : Ref sig .tc := ⟨.hbm, 515, rfl⟩
abbrev main_call1_v0 : Ref sig .tc := ⟨.hbm, 516, rfl⟩
abbrev main_call1_v1 : Ref sig .tc := ⟨.hbm, 517, rfl⟩
abbrev main_call1_v2 : Ref sig .tc := ⟨.hbm, 518, rfl⟩
abbrev main_call1_v3 : Ref sig .tc := ⟨.hbm, 519, rfl⟩
abbrev main_v12 : Ref sig .tc := ⟨.hbm, 520, rfl⟩
abbrev main_cst : Ref sig .tc := ⟨.hbm, 521, rfl⟩
abbrev main_cst_2 : Ref sig .tc := ⟨.hbm, 522, rfl⟩
abbrev main_call2_v0 : Ref sig .tc := ⟨.hbm, 523, rfl⟩
abbrev main_call2_v1 : Ref sig .tc := ⟨.hbm, 524, rfl⟩
abbrev main_call2_v2 : Ref sig .tc := ⟨.hbm, 525, rfl⟩
abbrev main_call2_v3 : Ref sig .tc := ⟨.hbm, 526, rfl⟩
abbrev main_call2_v4 : Ref sig .tc := ⟨.hbm, 527, rfl⟩
abbrev main_call2_v5 : Ref sig .tc := ⟨.hbm, 528, rfl⟩
abbrev main_call2_v6 : Ref sig .tc := ⟨.hbm, 529, rfl⟩
abbrev main_call2_v7 : Ref sig .tc := ⟨.hbm, 530, rfl⟩
abbrev main_call2_v8 : Ref sig .tc := ⟨.hbm, 531, rfl⟩
abbrev main_call2_v9 : Ref sig .tc := ⟨.hbm, 532, rfl⟩
abbrev main_call2_c : Ref sig .tc := ⟨.hbm, 533, rfl⟩
abbrev main_call2_v10 : Ref sig .tc := ⟨.hbm, 534, rfl⟩
abbrev main_call2_v11 : Ref sig .tc := ⟨.hbm, 535, rfl⟩
abbrev main_call2_c_0 : Ref sig .tc := ⟨.hbm, 536, rfl⟩
abbrev main_call2_v12 : Ref sig .tc := ⟨.hbm, 537, rfl⟩
abbrev main_call2_v13 : Ref sig .tc := ⟨.hbm, 538, rfl⟩
abbrev main_call2_v14 : Ref sig .tc := ⟨.hbm, 539, rfl⟩
abbrev main_call2_c_1 : Ref sig .tc := ⟨.hbm, 540, rfl⟩
abbrev main_call2_v15 : Ref sig .tc := ⟨.hbm, 541, rfl⟩
abbrev main_call2_v16 : Ref sig .tc := ⟨.hbm, 542, rfl⟩
abbrev main_call2_v17 : Ref sig .tc := ⟨.hbm, 543, rfl⟩
abbrev main_call2_v18 : Ref sig .tc := ⟨.hbm, 544, rfl⟩
abbrev main_call2_call0_v0 : Ref sig .tc := ⟨.hbm, 545, rfl⟩
abbrev main_call2_call0_c : Ref sig .tc := ⟨.hbm, 546, rfl⟩
abbrev main_call2_call0_v1 : Ref sig .tc := ⟨.hbm, 547, rfl⟩
abbrev main_call2_call0_v2 : Ref sig .tc := ⟨.hbm, 548, rfl⟩
abbrev main_call2_call0_v3 : Ref sig .tc := ⟨.hbm, 549, rfl⟩
abbrev main_call2_call0_v4 : Ref sig .tc := ⟨.hbm, 550, rfl⟩
abbrev main_call2_call0_v5 : Ref sig .tc := ⟨.hbm, 551, rfl⟩
abbrev main_call2_call0_v6 : Ref sig .tc := ⟨.hbm, 552, rfl⟩
abbrev main_call2_call0_c_0 : Ref sig .tc := ⟨.hbm, 553, rfl⟩
abbrev main_call2_call0_v7 : Ref sig .tc := ⟨.hbm, 554, rfl⟩
abbrev main_call2_call0_v8 : Ref sig .tc := ⟨.hbm, 555, rfl⟩
abbrev main_call2_call0_c_1 : Ref sig .tc := ⟨.hbm, 556, rfl⟩
abbrev main_call2_call0_v9 : Ref sig .tc := ⟨.hbm, 557, rfl⟩
abbrev main_call2_call0_v10 : Ref sig .tc := ⟨.hbm, 558, rfl⟩
abbrev main_call2_call0_v11 : Ref sig .tc := ⟨.hbm, 559, rfl⟩
abbrev main_call2_call0_v12 : Ref sig .tc := ⟨.hbm, 560, rfl⟩
abbrev main_call2_call0_v13 : Ref sig .tc := ⟨.hbm, 561, rfl⟩
abbrev main_call2_call0_c_2 : Ref sig .tc := ⟨.hbm, 562, rfl⟩
abbrev main_call2_call0_v14 : Ref sig .tc := ⟨.hbm, 563, rfl⟩
abbrev main_call2_call0_v15 : Ref sig .tc := ⟨.hbm, 564, rfl⟩
abbrev main_call2_call0_c_3 : Ref sig .tc := ⟨.hbm, 565, rfl⟩
abbrev main_call2_call0_v16 : Ref sig .tc := ⟨.hbm, 566, rfl⟩
abbrev main_call2_call0_v17 : Ref sig .tc := ⟨.hbm, 567, rfl⟩
abbrev main_call2_call0_v18 : Ref sig .tc := ⟨.hbm, 568, rfl⟩
abbrev main_call2_call0_v19 : Ref sig .tc := ⟨.hbm, 569, rfl⟩
abbrev main_call2_call0_v20 : Ref sig .tc := ⟨.hbm, 570, rfl⟩
abbrev main_call2_call0_c_4 : Ref sig .tc := ⟨.hbm, 571, rfl⟩
abbrev main_call2_call0_v21 : Ref sig .tc := ⟨.hbm, 572, rfl⟩
abbrev main_call2_call0_v22 : Ref sig .tc := ⟨.hbm, 573, rfl⟩
abbrev main_call2_call0_c_5 : Ref sig .tc := ⟨.hbm, 574, rfl⟩
abbrev main_call2_call0_v23 : Ref sig .tc := ⟨.hbm, 575, rfl⟩
abbrev main_call2_call0_v24 : Ref sig .tc := ⟨.hbm, 576, rfl⟩
abbrev main_call2_call0_v25 : Ref sig .tc := ⟨.hbm, 577, rfl⟩
abbrev main_call2_call0_v26 : Ref sig .tc := ⟨.hbm, 578, rfl⟩
abbrev main_call2_call0_v27 : Ref sig .tc := ⟨.hbm, 579, rfl⟩
abbrev main_call2_call0_c_6 : Ref sig .tc := ⟨.hbm, 580, rfl⟩
abbrev main_call2_call0_v28 : Ref sig .tc := ⟨.hbm, 581, rfl⟩
abbrev main_call2_call0_v29 : Ref sig .tc := ⟨.hbm, 582, rfl⟩
abbrev main_call2_call0_c_7 : Ref sig .tc := ⟨.hbm, 583, rfl⟩
abbrev main_call2_call0_v30 : Ref sig .tc := ⟨.hbm, 584, rfl⟩
abbrev main_call2_call0_v31 : Ref sig .tc := ⟨.hbm, 585, rfl⟩
abbrev main_call2_call0_v32 : Ref sig .tc := ⟨.hbm, 586, rfl⟩
abbrev main_call2_call0_v33 : Ref sig .tc := ⟨.hbm, 587, rfl⟩
abbrev main_call2_call0_v34 : Ref sig .tc := ⟨.hbm, 588, rfl⟩
abbrev main_call2_call0_v35 : Ref sig .tc := ⟨.hbm, 589, rfl⟩
abbrev main_call2_call0_v36 : Ref sig .tc := ⟨.hbm, 590, rfl⟩
abbrev main_call2_call0_v37 : Ref sig .tc := ⟨.hbm, 591, rfl⟩
abbrev main_call2_call0_c_8 : Ref sig .tc := ⟨.hbm, 592, rfl⟩
abbrev main_call2_call0_v38 : Ref sig .tc := ⟨.hbm, 593, rfl⟩
abbrev main_call2_call0_v39 : Ref sig .tc := ⟨.hbm, 594, rfl⟩
abbrev main_call2_call0_v40 : Ref sig .tc := ⟨.hbm, 595, rfl⟩
abbrev main_call2_call0_c_9 : Ref sig .tc := ⟨.hbm, 596, rfl⟩
abbrev main_call2_call0_v41 : Ref sig .tc := ⟨.hbm, 597, rfl⟩
abbrev main_call2_call0_v42 : Ref sig .tc := ⟨.hbm, 598, rfl⟩
abbrev main_call2_call0_c_10 : Ref sig .tc := ⟨.hbm, 599, rfl⟩
abbrev main_call2_call0_v43 : Ref sig .tc := ⟨.hbm, 600, rfl⟩
abbrev main_call2_call0_v44 : Ref sig .tc := ⟨.hbm, 601, rfl⟩
abbrev main_call2_call0_v45 : Ref sig .tc := ⟨.hbm, 602, rfl⟩
abbrev main_call2_call0_v46 : Ref sig .tc := ⟨.hbm, 603, rfl⟩
abbrev main_call2_call0_v47 : Ref sig .tc := ⟨.hbm, 604, rfl⟩
abbrev main_call2_call0_c_11 : Ref sig .tc := ⟨.hbm, 605, rfl⟩
abbrev main_call2_call0_v48 : Ref sig .tc := ⟨.hbm, 606, rfl⟩
abbrev main_call2_call0_v49 : Ref sig .tc := ⟨.hbm, 607, rfl⟩
abbrev main_call2_call0_c_12 : Ref sig .tc := ⟨.hbm, 608, rfl⟩
abbrev main_call2_call0_v50 : Ref sig .tc := ⟨.hbm, 609, rfl⟩
abbrev main_call2_call0_v51 : Ref sig .tc := ⟨.hbm, 610, rfl⟩
abbrev main_call2_call0_v52 : Ref sig .tc := ⟨.hbm, 611, rfl⟩
abbrev main_call2_call0_v53 : Ref sig .tc := ⟨.hbm, 612, rfl⟩
abbrev main_call2_call0_v54 : Ref sig .tc := ⟨.hbm, 613, rfl⟩
abbrev main_call2_call0_c_13 : Ref sig .tc := ⟨.hbm, 614, rfl⟩
abbrev main_call2_call0_v55 : Ref sig .tc := ⟨.hbm, 615, rfl⟩
abbrev main_call2_call0_v56 : Ref sig .tc := ⟨.hbm, 616, rfl⟩
abbrev main_call2_call0_c_14 : Ref sig .tc := ⟨.hbm, 617, rfl⟩
abbrev main_call2_call0_v57 : Ref sig .tc := ⟨.hbm, 618, rfl⟩
abbrev main_call2_call0_v58 : Ref sig .tc := ⟨.hbm, 619, rfl⟩
abbrev main_call2_call0_v59 : Ref sig .tc := ⟨.hbm, 620, rfl⟩
abbrev main_call2_call0_v60 : Ref sig .tc := ⟨.hbm, 621, rfl⟩
abbrev main_call2_call0_v61 : Ref sig .tc := ⟨.hbm, 622, rfl⟩
abbrev main_call2_call0_c_15 : Ref sig .tc := ⟨.hbm, 623, rfl⟩
abbrev main_call2_call0_v62 : Ref sig .tc := ⟨.hbm, 624, rfl⟩
abbrev main_call2_call0_v63 : Ref sig .tc := ⟨.hbm, 625, rfl⟩
abbrev main_call2_call0_c_16 : Ref sig .tc := ⟨.hbm, 626, rfl⟩
abbrev main_call2_call0_v64 : Ref sig .tc := ⟨.hbm, 627, rfl⟩
abbrev main_call2_call0_v65 : Ref sig .tc := ⟨.hbm, 628, rfl⟩
abbrev main_call2_call0_v66 : Ref sig .tc := ⟨.hbm, 629, rfl⟩
abbrev main_call2_call0_v67 : Ref sig .tc := ⟨.hbm, 630, rfl⟩
abbrev main_call2_call0_v68 : Ref sig .tc := ⟨.hbm, 631, rfl⟩
abbrev main_call2_call0_v69 : Ref sig .tc := ⟨.hbm, 632, rfl⟩
abbrev main_call2_call0_v70 : Ref sig .tc := ⟨.hbm, 633, rfl⟩
abbrev main_call2_call0_v71 : Ref sig .tc := ⟨.hbm, 634, rfl⟩
abbrev main_call2_call0_c_17 : Ref sig .tc := ⟨.hbm, 635, rfl⟩
abbrev main_call2_call0_v72 : Ref sig .tc := ⟨.hbm, 636, rfl⟩
abbrev main_call2_call0_v73 : Ref sig .tc := ⟨.hbm, 637, rfl⟩
abbrev main_call2_call0_v74 : Ref sig .tc := ⟨.hbm, 638, rfl⟩
abbrev main_call2_call0_c_18 : Ref sig .tc := ⟨.hbm, 639, rfl⟩
abbrev main_call2_call0_v75 : Ref sig .tc := ⟨.hbm, 640, rfl⟩
abbrev main_call2_call0_v76 : Ref sig .tc := ⟨.hbm, 641, rfl⟩
abbrev main_call2_call0_c_19 : Ref sig .tc := ⟨.hbm, 642, rfl⟩
abbrev main_call2_call0_v77 : Ref sig .tc := ⟨.hbm, 643, rfl⟩
abbrev main_call2_call0_v78 : Ref sig .tc := ⟨.hbm, 644, rfl⟩
abbrev main_call2_call0_v79 : Ref sig .tc := ⟨.hbm, 645, rfl⟩
abbrev main_call2_call0_v80 : Ref sig .tc := ⟨.hbm, 646, rfl⟩
abbrev main_call2_call0_v81 : Ref sig .tc := ⟨.hbm, 647, rfl⟩
abbrev main_call2_call0_c_20 : Ref sig .tc := ⟨.hbm, 648, rfl⟩
abbrev main_call2_call0_v82 : Ref sig .tc := ⟨.hbm, 649, rfl⟩
abbrev main_call2_call0_v83 : Ref sig .tc := ⟨.hbm, 650, rfl⟩
abbrev main_call2_call0_c_21 : Ref sig .tc := ⟨.hbm, 651, rfl⟩
abbrev main_call2_call0_v84 : Ref sig .tc := ⟨.hbm, 652, rfl⟩
abbrev main_call2_call0_v85 : Ref sig .tc := ⟨.hbm, 653, rfl⟩
abbrev main_call2_call0_v86 : Ref sig .tc := ⟨.hbm, 654, rfl⟩
abbrev main_call2_call0_v87 : Ref sig .tc := ⟨.hbm, 655, rfl⟩
abbrev main_call2_call0_v88 : Ref sig .tc := ⟨.hbm, 656, rfl⟩
abbrev main_call2_call0_c_22 : Ref sig .tc := ⟨.hbm, 657, rfl⟩
abbrev main_call2_call0_v89 : Ref sig .tc := ⟨.hbm, 658, rfl⟩
abbrev main_call2_call0_v90 : Ref sig .tc := ⟨.hbm, 659, rfl⟩
abbrev main_call2_call0_c_23 : Ref sig .tc := ⟨.hbm, 660, rfl⟩
abbrev main_call2_call0_v91 : Ref sig .tc := ⟨.hbm, 661, rfl⟩
abbrev main_call2_call0_v92 : Ref sig .tc := ⟨.hbm, 662, rfl⟩
abbrev main_call2_call0_v93 : Ref sig .tc := ⟨.hbm, 663, rfl⟩
abbrev main_call2_call0_v94 : Ref sig .tc := ⟨.hbm, 664, rfl⟩
abbrev main_call2_call0_v95 : Ref sig .tc := ⟨.hbm, 665, rfl⟩
abbrev main_call2_call0_c_24 : Ref sig .tc := ⟨.hbm, 666, rfl⟩
abbrev main_call2_call0_v96 : Ref sig .tc := ⟨.hbm, 667, rfl⟩
abbrev main_call2_call0_v97 : Ref sig .tc := ⟨.hbm, 668, rfl⟩
abbrev main_call2_call0_c_25 : Ref sig .tc := ⟨.hbm, 669, rfl⟩
abbrev main_call2_call0_v98 : Ref sig .tc := ⟨.hbm, 670, rfl⟩
abbrev main_call2_call0_v99 : Ref sig .tc := ⟨.hbm, 671, rfl⟩
abbrev main_call2_call0_v100 : Ref sig .tc := ⟨.hbm, 672, rfl⟩
abbrev main_call2_call0_v101 : Ref sig .tc := ⟨.hbm, 673, rfl⟩
abbrev main_call2_call0_v102 : Ref sig .tc := ⟨.hbm, 674, rfl⟩
abbrev main_call2_call0_v103 : Ref sig .tc := ⟨.hbm, 675, rfl⟩
abbrev main_call2_call0_v104 : Ref sig .tc := ⟨.hbm, 676, rfl⟩
abbrev main_call2_call0_v105 : Ref sig .tc := ⟨.hbm, 677, rfl⟩
abbrev main_call2_call0_c_26 : Ref sig .tc := ⟨.hbm, 678, rfl⟩
abbrev main_call2_call0_v106 : Ref sig .tc := ⟨.hbm, 679, rfl⟩
abbrev main_call2_call0_v107 : Ref sig .tc := ⟨.hbm, 680, rfl⟩
abbrev main_call2_call0_v108 : Ref sig .tc := ⟨.hbm, 681, rfl⟩
abbrev main_call2_call0_c_27 : Ref sig .tc := ⟨.hbm, 682, rfl⟩
abbrev main_call2_call0_v109 : Ref sig .tc := ⟨.hbm, 683, rfl⟩
abbrev main_call2_call0_v110 : Ref sig .tc := ⟨.hbm, 684, rfl⟩
abbrev main_call2_call0_c_28 : Ref sig .tc := ⟨.hbm, 685, rfl⟩
abbrev main_call2_call0_v111 : Ref sig .tc := ⟨.hbm, 686, rfl⟩
abbrev main_call2_call0_v112 : Ref sig .tc := ⟨.hbm, 687, rfl⟩
abbrev main_call2_call0_v113 : Ref sig .tc := ⟨.hbm, 688, rfl⟩
abbrev main_call2_call0_v114 : Ref sig .tc := ⟨.hbm, 689, rfl⟩
abbrev main_call2_call0_v115 : Ref sig .tc := ⟨.hbm, 690, rfl⟩
abbrev main_call2_call0_c_29 : Ref sig .tc := ⟨.hbm, 691, rfl⟩
abbrev main_call2_call0_v116 : Ref sig .tc := ⟨.hbm, 692, rfl⟩
abbrev main_call2_call0_v117 : Ref sig .tc := ⟨.hbm, 693, rfl⟩
abbrev main_call2_call0_c_30 : Ref sig .tc := ⟨.hbm, 694, rfl⟩
abbrev main_call2_call0_v118 : Ref sig .tc := ⟨.hbm, 695, rfl⟩
abbrev main_call2_call0_v119 : Ref sig .tc := ⟨.hbm, 696, rfl⟩
abbrev main_call2_call0_v120 : Ref sig .tc := ⟨.hbm, 697, rfl⟩
abbrev main_call2_call0_v121 : Ref sig .tc := ⟨.hbm, 698, rfl⟩
abbrev main_call2_call0_v122 : Ref sig .tc := ⟨.hbm, 699, rfl⟩
abbrev main_call2_call0_c_31 : Ref sig .tc := ⟨.hbm, 700, rfl⟩
abbrev main_call2_call0_v123 : Ref sig .tc := ⟨.hbm, 701, rfl⟩
abbrev main_call2_call0_v124 : Ref sig .tc := ⟨.hbm, 702, rfl⟩
abbrev main_call2_call0_c_32 : Ref sig .tc := ⟨.hbm, 703, rfl⟩
abbrev main_call2_call0_v125 : Ref sig .tc := ⟨.hbm, 704, rfl⟩
abbrev main_call2_call0_v126 : Ref sig .tc := ⟨.hbm, 705, rfl⟩
abbrev main_call2_call0_v127 : Ref sig .tc := ⟨.hbm, 706, rfl⟩
abbrev main_call2_call0_v128 : Ref sig .tc := ⟨.hbm, 707, rfl⟩
abbrev main_call2_call0_v129 : Ref sig .tc := ⟨.hbm, 708, rfl⟩
abbrev main_call2_call0_c_33 : Ref sig .tc := ⟨.hbm, 709, rfl⟩
abbrev main_call2_call0_v130 : Ref sig .tc := ⟨.hbm, 710, rfl⟩
abbrev main_call2_call0_v131 : Ref sig .tc := ⟨.hbm, 711, rfl⟩
abbrev main_call2_call0_c_34 : Ref sig .tc := ⟨.hbm, 712, rfl⟩
abbrev main_call2_call0_v132 : Ref sig .tc := ⟨.hbm, 713, rfl⟩
abbrev main_call2_call0_v133 : Ref sig .tc := ⟨.hbm, 714, rfl⟩
abbrev main_call2_call0_v134 : Ref sig .tc := ⟨.hbm, 715, rfl⟩
abbrev main_call2_call0_v135 : Ref sig .tc := ⟨.hbm, 716, rfl⟩
abbrev main_call2_call0_v136 : Ref sig .tc := ⟨.hbm, 717, rfl⟩
abbrev main_call2_call0_v137 : Ref sig .tc := ⟨.hbm, 718, rfl⟩
abbrev main_call2_call0_v138 : Ref sig .tc := ⟨.hbm, 719, rfl⟩
abbrev main_call2_call0_v139 : Ref sig .tc := ⟨.hbm, 720, rfl⟩
abbrev main_call2_call0_c_35 : Ref sig .tc := ⟨.hbm, 721, rfl⟩
abbrev main_call2_call0_v140 : Ref sig .tc := ⟨.hbm, 722, rfl⟩
abbrev main_call2_call0_v141 : Ref sig .tc := ⟨.hbm, 723, rfl⟩
abbrev main_call2_call0_v142 : Ref sig .tc := ⟨.hbm, 724, rfl⟩
abbrev main_call2_call0_c_36 : Ref sig .tc := ⟨.hbm, 725, rfl⟩
abbrev main_call2_call0_v143 : Ref sig .tc := ⟨.hbm, 726, rfl⟩
abbrev main_call2_call0_v144 : Ref sig .tc := ⟨.hbm, 727, rfl⟩
abbrev main_call2_call0_c_37 : Ref sig .tc := ⟨.hbm, 728, rfl⟩
abbrev main_call2_call0_v145 : Ref sig .tc := ⟨.hbm, 729, rfl⟩
abbrev main_call2_call0_v146 : Ref sig .tc := ⟨.hbm, 730, rfl⟩
abbrev main_call2_call0_v147 : Ref sig .tc := ⟨.hbm, 731, rfl⟩
abbrev main_call2_call0_v148 : Ref sig .tc := ⟨.hbm, 732, rfl⟩
abbrev main_call2_call0_v149 : Ref sig .tc := ⟨.hbm, 733, rfl⟩
abbrev main_call2_call0_c_38 : Ref sig .tc := ⟨.hbm, 734, rfl⟩
abbrev main_call2_call0_v150 : Ref sig .tc := ⟨.hbm, 735, rfl⟩
abbrev main_call2_call0_v151 : Ref sig .tc := ⟨.hbm, 736, rfl⟩
abbrev main_call2_call0_c_39 : Ref sig .tc := ⟨.hbm, 737, rfl⟩
abbrev main_call2_call0_v152 : Ref sig .tc := ⟨.hbm, 738, rfl⟩
abbrev main_call2_call0_v153 : Ref sig .tc := ⟨.hbm, 739, rfl⟩
abbrev main_call2_call0_v154 : Ref sig .tc := ⟨.hbm, 740, rfl⟩
abbrev main_call2_call0_v155 : Ref sig .tc := ⟨.hbm, 741, rfl⟩
abbrev main_call2_call0_v156 : Ref sig .tc := ⟨.hbm, 742, rfl⟩
abbrev main_call2_call0_c_40 : Ref sig .tc := ⟨.hbm, 743, rfl⟩
abbrev main_call2_call0_v157 : Ref sig .tc := ⟨.hbm, 744, rfl⟩
abbrev main_call2_call0_v158 : Ref sig .tc := ⟨.hbm, 745, rfl⟩
abbrev main_call2_call0_c_41 : Ref sig .tc := ⟨.hbm, 746, rfl⟩
abbrev main_call2_call0_v159 : Ref sig .tc := ⟨.hbm, 747, rfl⟩
abbrev main_call2_call0_v160 : Ref sig .tc := ⟨.hbm, 748, rfl⟩
abbrev main_call2_call0_v161 : Ref sig .tc := ⟨.hbm, 749, rfl⟩
abbrev main_call2_call0_v162 : Ref sig .tc := ⟨.hbm, 750, rfl⟩
abbrev main_call2_call0_v163 : Ref sig .tc := ⟨.hbm, 751, rfl⟩
abbrev main_call2_call0_c_42 : Ref sig .tc := ⟨.hbm, 752, rfl⟩
abbrev main_call2_call0_v164 : Ref sig .tc := ⟨.hbm, 753, rfl⟩
abbrev main_call2_call0_v165 : Ref sig .tc := ⟨.hbm, 754, rfl⟩
abbrev main_call2_call0_c_43 : Ref sig .tc := ⟨.hbm, 755, rfl⟩
abbrev main_call2_call0_v166 : Ref sig .tc := ⟨.hbm, 756, rfl⟩
abbrev main_call2_call0_v167 : Ref sig .tc := ⟨.hbm, 757, rfl⟩
abbrev main_call2_call0_v168 : Ref sig .tc := ⟨.hbm, 758, rfl⟩
abbrev main_call2_call0_v169 : Ref sig .tc := ⟨.hbm, 759, rfl⟩
abbrev main_call2_call0_v170 : Ref sig .tc := ⟨.hbm, 760, rfl⟩
abbrev main_call2_v19_0 : Ref sig .tc := ⟨.hbm, 761, rfl⟩
abbrev main_call2_call0_v172 : Ref sig .tc := ⟨.hbm, 762, rfl⟩
abbrev main_call2_call0_v173 : Ref sig .tc := ⟨.hbm, 763, rfl⟩
abbrev main_call2_call0_c_44 : Ref sig .tc := ⟨.hbm, 764, rfl⟩
abbrev main_call2_call0_v174 : Ref sig .tc := ⟨.hbm, 765, rfl⟩
abbrev main_call2_v19_1 : Ref sig .tc := ⟨.hbm, 766, rfl⟩
abbrev main_call2_v20 : Ref sig .tc := ⟨.hbm, 767, rfl⟩
abbrev main_call2_c_2 : Ref sig .tc := ⟨.hbm, 768, rfl⟩
abbrev main_call2_v21 : Ref sig .tc := ⟨.hbm, 769, rfl⟩
abbrev main_call2_v22 : Ref sig .tc := ⟨.hbm, 770, rfl⟩
abbrev main_call2_c_3 : Ref sig .tc := ⟨.hbm, 771, rfl⟩
abbrev main_call2_v23 : Ref sig .tc := ⟨.hbm, 772, rfl⟩
abbrev main_call2_v24 : Ref sig .tc := ⟨.hbm, 773, rfl⟩
abbrev main_call2_v25 : Ref sig .tc := ⟨.hbm, 774, rfl⟩
abbrev main_call2_cst : Ref sig .tc := ⟨.hbm, 775, rfl⟩
abbrev main_call2_v26 : Ref sig .tc := ⟨.hbm, 776, rfl⟩
abbrev main_call2_v27 : Ref sig .tc := ⟨.hbm, 777, rfl⟩
abbrev main_call2_v28 : Ref sig .tc := ⟨.hbm, 778, rfl⟩
abbrev main_call2_v29 : Ref sig .tc := ⟨.hbm, 779, rfl⟩
abbrev main_call2_v30 : Ref sig .tc := ⟨.hbm, 780, rfl⟩
abbrev main_call2_v31 : Ref sig .tc := ⟨.hbm, 781, rfl⟩
abbrev main_call2_v32 : Ref sig .tc := ⟨.hbm, 782, rfl⟩
abbrev main_call2_v33 : Ref sig .tc := ⟨.hbm, 783, rfl⟩
abbrev main_v13 : Ref sig .tc := ⟨.hbm, 784, rfl⟩
abbrev main_v14 : Ref sig .tc := ⟨.hbm, 785, rfl⟩
abbrev main_v15 : Ref sig .tc := ⟨.hbm, 786, rfl⟩
abbrev main_v16 : Ref sig .tc := ⟨.hbm, 787, rfl⟩
abbrev main_v17 : Ref sig .tc := ⟨.hbm, 788, rfl⟩
abbrev main_v18 : Ref sig .tc := ⟨.hbm, 789, rfl⟩
abbrev main_v19 : Ref sig .tc := ⟨.hbm, 790, rfl⟩
abbrev main_v20 : Ref sig .tc := ⟨.hbm, 791, rfl⟩
abbrev main_v21 : Ref sig .tc := ⟨.hbm, 792, rfl⟩
abbrev main_v22 : Ref sig .tc := ⟨.hbm, 793, rfl⟩
abbrev main_v23 : Ref sig .tc := ⟨.hbm, 794, rfl⟩
abbrev main_cst_3 : Ref sig .tc := ⟨.hbm, 795, rfl⟩
abbrev main_v24 : Ref sig .tc := ⟨.hbm, 796, rfl⟩
abbrev main_v25 : Ref sig .tc := ⟨.hbm, 797, rfl⟩
abbrev main_v26 : Ref sig .tc := ⟨.hbm, 798, rfl⟩
abbrev main_c_4 : Ref sig .tc := ⟨.hbm, 799, rfl⟩
abbrev main_v27 : Ref sig .tc := ⟨.hbm, 800, rfl⟩
abbrev main_v28 : Ref sig .tc := ⟨.hbm, 801, rfl⟩
abbrev main_c_5 : Ref sig .tc := ⟨.hbm, 802, rfl⟩
abbrev main_v29 : Ref sig .tc := ⟨.hbm, 803, rfl⟩
abbrev main_v30 : Ref sig .tc := ⟨.hbm, 804, rfl⟩
abbrev main_v31 : Ref sig .tc := ⟨.hbm, 805, rfl⟩
abbrev main_v32_0 : Ref sig .tc := ⟨.hbm, 806, rfl⟩
abbrev main_v32_1 : Ref sig .tc := ⟨.hbm, 807, rfl⟩
abbrev main_v33 : Ref sig .tc := ⟨.hbm, 808, rfl⟩
abbrev main_v34 : Ref sig .tc := ⟨.hbm, 809, rfl⟩
abbrev main_v35 : Ref sig .tc := ⟨.hbm, 810, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32_61 : BitVec 32 := 19#32
  let v107 : BitVec 1 := Scalar.cmpi .eq arg0 c19_i32_61
  let v108 : BitVec 32 := Scalar.extui v107
  let c0_i32_62 : BitVec 32 := 0#32
  let v109 : BitVec 1 := Scalar.cmpi .ne v108 c0_i32_62
  v109

def cc0_transform_0 (i : grid0.Coords) : Fin 3 → Nat :=
  let arg0 : BitVec 32 := BitVec.ofNat 32 (i 0).val
  let c19_i32 : BitVec 32 := 19#32
  let v0 : BitVec 32 := Scalar.subi c19_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c19_i32 : BitVec 32 := 19#32
  let v0 : BitVec 32 := Scalar.subi c19_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c19_i32 : BitVec 32 := 19#32
  let v0 : BitVec 32 := Scalar.subi c19_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S128x2x100000 : Shape := ⟨3, ![128, 2, 100000]⟩
abbrev S128 : Shape := ⟨1, ![128]⟩
abbrev S_ : Shape := ⟨0, ![]⟩
abbrev S128x1x99999 : Shape := ⟨3, ![128, 1, 99999]⟩
abbrev S128x99999 : Shape := ⟨2, ![128, 99999]⟩
abbrev S128x1x1 : Shape := ⟨3, ![128, 1, 1]⟩
abbrev S1 : Shape := ⟨1, ![1]⟩
abbrev S2 : Shape := ⟨1, ![2]⟩
abbrev S100000 : Shape := ⟨1, ![100000]⟩
abbrev S1x100000 : Shape := ⟨2, ![1, 100000]⟩
abbrev S128x1 : Shape := ⟨2, ![128, 1]⟩
abbrev S128x100000 : Shape := ⟨2, ![128, 100000]⟩
abbrev S128x1x100000 : Shape := ⟨3, ![128, 1, 100000]⟩
abbrev S256x100000 : Shape := ⟨2, ![256, 100000]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S256 : Shape := ⟨1, ![256]⟩
abbrev S128x2 : Shape := ⟨2, ![128, 2]⟩

abbrev nBuf : Space → Nat
  | .hbm => 880
  | .vmem => 0
  | .smem => 0
  | _ => 0

abbrev hbmTy0_0 (i : Nat) : BufTy := match i % 128 with
  | 0 => ⟨S128x2x100000, .f32⟩
  | 1 => ⟨S128, .f32⟩
  | 2 => ⟨S_, .f32⟩
  | 3 => ⟨S128x2x100000, .f32⟩
  | 4 => ⟨S128x2x100000, .f32⟩
  | 5 => ⟨S128x1x99999, .f32⟩
  | 6 => ⟨S128x99999, .f32⟩
  | 7 => ⟨S_, .f32⟩
  | 8 => ⟨S128x99999, .f32⟩
  | 9 => ⟨S128x99999, .i1⟩
  | 10 => ⟨S_, .i1⟩
  | 11 => ⟨S128, .i1⟩
  | 12 => ⟨S128x1x1, .f32⟩
  | 13 => ⟨S128, .f32⟩
  | 14 => ⟨S_, .f32⟩
  | 15 => ⟨S_, .f32⟩
  | 16 => ⟨S128, .f32⟩
  | 17 => ⟨S128, .f32⟩
  | 18 => ⟨S_, .i32⟩
  | 19 => ⟨S1, .i32⟩
  | 20 => ⟨S_, .i32⟩
  | 21 => ⟨S1, .i32⟩
  | 22 => ⟨S2, .i32⟩
  | 23 => ⟨S128x2x100000, .f32⟩
  | 24 => ⟨S_, .f32⟩
  | 25 => ⟨S128, .f32⟩
  | 26 => ⟨S128, .f32⟩
  | 27 => ⟨S128, .i32⟩
  | 28 => ⟨S_, .i32⟩
  | 29 => ⟨S128, .i32⟩
  | 30 => ⟨S128, .i32⟩
  | 31 => ⟨S100000, .i32⟩
  | 32 => ⟨S1x100000, .i32⟩
  | 33 => ⟨S128x1, .i32⟩
  | 34 => ⟨S128x100000, .i32⟩
  | 35 => ⟨S128x100000, .i32⟩
  | 36 => ⟨S128x100000, .i1⟩
  | 37 => ⟨S128x1x100000, .f32⟩
  | 38 => ⟨S128x100000, .f32⟩
  | 39 => ⟨S_, .f32⟩
  | 40 => ⟨S128x100000, .f32⟩
  | 41 => ⟨S128x100000, .i1⟩
  | 42 => ⟨S128x100000, .i1⟩
  | 43 => ⟨S128x1x100000, .f32⟩
  | 44 => ⟨S128x100000, .f32⟩
  | 45 => ⟨S_, .f32⟩
  | 46 => ⟨S_, .f32⟩
  | 47 => ⟨S128x100000, .f32⟩
  | 48 => ⟨S128x100000, .f32⟩
  | 49 => ⟨S_, .i32⟩
  | 50 => ⟨S1, .i32⟩
  | 51 => ⟨S128x2x100000, .f32⟩
  | 52 => ⟨S_, .f32⟩
  | 53 => ⟨S128x2x100000, .f32⟩
  | 54 => ⟨S128x2x100000, .i1⟩
  | 55 => ⟨S_, .f32⟩
  | 56 => ⟨S_, .f32⟩
  | 57 => ⟨S128x2x100000, .f32⟩
  | 58 => ⟨S128x2x100000, .f32⟩
  | 59 => ⟨S256x100000, .f32⟩
  | 60 => ⟨S_, .f32⟩
  | 61 => ⟨S256x100000, .f32⟩
  | 62 => ⟨S256x100000, .i1⟩
  | 63 => ⟨S_, .f32⟩
  | 64 => ⟨S256x100000, .f32⟩
  | 65 => ⟨S256x100000, .f32⟩
  | 66 => ⟨S256x100000, .f32⟩
  | 67 => ⟨S_, .f32⟩
  | 68 => ⟨S_, .f32⟩
  | 69 => ⟨S256x100000, .f32⟩
  | 70 => ⟨S256x100000, .f32⟩
  | 71 => ⟨S_, .i32⟩
  | 72 => ⟨S_, .i32⟩
  | 73 => ⟨S_, .i32⟩
  | 74 => ⟨S_, .i32⟩
  | 75 => ⟨S1, .i32⟩
  | 76 => ⟨S_, .i32⟩
  | 77 => ⟨S_, .i32⟩
  | 78 => ⟨S_, .i32⟩
  | 79 => ⟨S1, .i32⟩
  | 80 => ⟨S2, .i32⟩
  | 81 => ⟨S1, .i32⟩
  | 82 => ⟨S_, .i32⟩
  | 83 => ⟨S1, .i32⟩
  | 84 => ⟨S_, .i32⟩
  | 85 => ⟨S2, .i64⟩
  | 86 => ⟨S_, .i64⟩
  | 87 => ⟨S2, .i64⟩
  | 88 => ⟨S2, .i64⟩
  | 89 => ⟨S_, .i64⟩
  | 90 => ⟨S2, .i64⟩
  | 91 => ⟨S2, .i64⟩
  | 92 => ⟨S2, .i32⟩
  | 93 => ⟨S2, .i32⟩
  | 94 => ⟨S_, .i32⟩
  | 95 => ⟨S_, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S128x2x100000, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S128x2x100000, .f32⟩

abbrev hbmTy0_2 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2x1, .i32⟩
  | 61 => ⟨S2x1, .i32⟩
  | 62 => ⟨S2x2, .i32⟩
  | 63 => ⟨S1x2, .i32⟩
  | 64 => ⟨S2, .i32⟩
  | 65 => ⟨S1x2, .i32⟩
  | 66 => ⟨S2, .i32⟩
  | 67 => ⟨S_, .f32⟩
  | 68 => ⟨S_, .f32⟩
  | 69 => ⟨S_, .f32⟩
  | 70 => ⟨S1x1, .f32⟩
  | 71 => ⟨S1x1, .f32⟩
  | 72 => ⟨S1, .i32⟩
  | 73 => ⟨S_, .i32⟩
  | 74 => ⟨S1, .i32⟩
  | 75 => ⟨S_, .i32⟩
  | 76 => ⟨S256x100000, .i64⟩
  | 77 => ⟨S256x100000, .i64⟩
  | 78 => ⟨S_, .i64⟩
  | 79 => ⟨S256x100000, .i64⟩
  | 80 => ⟨S256x100000, .i64⟩
  | 81 => ⟨S_, .i64⟩
  | 82 => ⟨S256x100000, .i64⟩
  | 83 => ⟨S256x100000, .i64⟩
  | 84 => ⟨S256x100000, .i64⟩
  | 85 => ⟨S_, .i64⟩
  | 86 => ⟨S256x100000, .i64⟩
  | 87 => ⟨S256x100000, .i64⟩
  | 88 => ⟨S256x100000, .i32⟩
  | 89 => ⟨S256x100000, .i32⟩
  | 90 => ⟨S_, .i32⟩
  | 91 => ⟨S_, .i32⟩
  | 92 => ⟨S_, .i32⟩
  | 93 => ⟨S256x100000, .i32⟩
  | 94 => ⟨S256x100000, .i32⟩
  | 95 => ⟨S256x100000, .i32⟩
  | 96 => ⟨S256x100000, .i32⟩
  | 97 => ⟨S256x100000, .i32⟩
  | 98 => ⟨S_, .i32⟩
  | 99 => ⟨S256x100000, .i32⟩
  | 100 => ⟨S256x100000, .i32⟩
  | 101 => ⟨S_, .i32⟩
  | 102 => ⟨S256x100000, .i32⟩
  | 103 => ⟨S256x100000, .i32⟩
  | 104 => ⟨S256x100000, .i32⟩
  | 105 => ⟨S256x100000, .i32⟩
  | 106 => ⟨S256x100000, .i32⟩
  | 107 => ⟨S_, .i32⟩
  | 108 => ⟨S256x100000, .i32⟩
  | 109 => ⟨S256x100000, .i32⟩
  | 110 => ⟨S_, .i32⟩
  | 111 => ⟨S256x100000, .i32⟩
  | 112 => ⟨S256x100000, .i32⟩
  | 113 => ⟨S256x100000, .i32⟩
  | 114 => ⟨S256x100000, .i32⟩
  | 115 => ⟨S256x100000, .i32⟩
  | 116 => ⟨S_, .i32⟩
  | 117 => ⟨S256x100000, .i32⟩
  | 118 => ⟨S256x100000, .i32⟩
  | 119 => ⟨S_, .i32⟩
  | 120 => ⟨S256x100000, .i32⟩
  | 121 => ⟨S256x100000, .i32⟩
  | 122 => ⟨S256x100000, .i32⟩
  | 123 => ⟨S256x100000, .i32⟩
  | 124 => ⟨S256x100000, .i32⟩
  | 125 => ⟨S_, .i32⟩
  | 126 => ⟨S256x100000, .i32⟩
  | 127 => ⟨S256x100000, .i32⟩
  | _ => ⟨S128x2x100000, .f32⟩

abbrev hbmTy0_3 (i : Nat) : BufTy := match i % 128 with
  | 0 => ⟨S_, .i32⟩
  | 1 => ⟨S256x100000, .i32⟩
  | 2 => ⟨S256x100000, .i32⟩
  | 3 => ⟨S256x100000, .i32⟩
  | 4 => ⟨S256x100000, .i32⟩
  | 5 => ⟨S256x100000, .i32⟩
  | 6 => ⟨S256x100000, .i32⟩
  | 7 => ⟨S256x100000, .i32⟩
  | 8 => ⟨S256x100000, .i32⟩
  | 9 => ⟨S_, .i32⟩
  | 10 => ⟨S256x100000, .i32⟩
  | 11 => ⟨S256x100000, .i32⟩
  | 12 => ⟨S256x100000, .i32⟩
  | 13 => ⟨S_, .i32⟩
  | 14 => ⟨S256x100000, .i32⟩
  | 15 => ⟨S256x100000, .i32⟩
  | 16 => ⟨S_, .i32⟩
  | 17 => ⟨S256x100000, .i32⟩
  | 18 => ⟨S256x100000, .i32⟩
  | 19 => ⟨S256x100000, .i32⟩
  | 20 => ⟨S256x100000, .i32⟩
  | 21 => ⟨S256x100000, .i32⟩
  | 22 => ⟨S_, .i32⟩
  | 23 => ⟨S256x100000, .i32⟩
  | 24 => ⟨S256x100000, .i32⟩
  | 25 => ⟨S_, .i32⟩
  | 26 => ⟨S256x100000, .i32⟩
  | 27 => ⟨S256x100000, .i32⟩
  | 28 => ⟨S256x100000, .i32⟩
  | 29 => ⟨S256x100000, .i32⟩
  | 30 => ⟨S256x100000, .i32⟩
  | 31 => ⟨S_, .i32⟩
  | 32 => ⟨S256x100000, .i32⟩
  | 33 => ⟨S256x100000, .i32⟩
  | 34 => ⟨S_, .i32⟩
  | 35 => ⟨S256x100000, .i32⟩
  | 36 => ⟨S256x100000, .i32⟩
  | 37 => ⟨S256x100000, .i32⟩
  | 38 => ⟨S256x100000, .i32⟩
  | 39 => ⟨S256x100000, .i32⟩
  | 40 => ⟨S_, .i32⟩
  | 41 => ⟨S256x100000, .i32⟩
  | 42 => ⟨S256x100000, .i32⟩
  | 43 => ⟨S_, .i32⟩
  | 44 => ⟨S256x100000, .i32⟩
  | 45 => ⟨S256x100000, .i32⟩
  | 46 => ⟨S256x100000, .i32⟩
  | 47 => ⟨S256x100000, .i32⟩
  | 48 => ⟨S256x100000, .i32⟩
  | 49 => ⟨S256x100000, .i32⟩
  | 50 => ⟨S256x100000, .i32⟩
  | 51 => ⟨S256x100000, .i32⟩
  | 52 => ⟨S_, .i32⟩
  | 53 => ⟨S256x100000, .i32⟩
  | 54 => ⟨S256x100000, .i32⟩
  | 55 => ⟨S256x100000, .i32⟩
  | 56 => ⟨S_, .i32⟩
  | 57 => ⟨S256x100000, .i32⟩
  | 58 => ⟨S256x100000, .i32⟩
  | 59 => ⟨S_, .i32⟩
  | 60 => ⟨S256x100000, .i32⟩
  | 61 => ⟨S256x100000, .i32⟩
  | 62 => ⟨S256x100000, .i32⟩
  | 63 => ⟨S256x100000, .i32⟩
  | 64 => ⟨S256x100000, .i32⟩
  | 65 => ⟨S_, .i32⟩
  | 66 => ⟨S256x100000, .i32⟩
  | 67 => ⟨S256x100000, .i32⟩
  | 68 => ⟨S_, .i32⟩
  | 69 => ⟨S256x100000, .i32⟩
  | 70 => ⟨S256x100000, .i32⟩
  | 71 => ⟨S256x100000, .i32⟩
  | 72 => ⟨S256x100000, .i32⟩
  | 73 => ⟨S256x100000, .i32⟩
  | 74 => ⟨S_, .i32⟩
  | 75 => ⟨S256x100000, .i32⟩
  | 76 => ⟨S256x100000, .i32⟩
  | 77 => ⟨S_, .i32⟩
  | 78 => ⟨S256x100000, .i32⟩
  | 79 => ⟨S256x100000, .i32⟩
  | 80 => ⟨S256x100000, .i32⟩
  | 81 => ⟨S256x100000, .i32⟩
  | 82 => ⟨S256x100000, .i32⟩
  | 83 => ⟨S_, .i32⟩
  | 84 => ⟨S256x100000, .i32⟩
  | 85 => ⟨S256x100000, .i32⟩
  | 86 => ⟨S_, .i32⟩
  | 87 => ⟨S256x100000, .i32⟩
  | 88 => ⟨S256x100000, .i32⟩
  | 89 => ⟨S256x100000, .i32⟩
  | 90 => ⟨S256x100000, .i32⟩
  | 91 => ⟨S256x100000, .i32⟩
  | 92 => ⟨S256x100000, .i32⟩
  | 93 => ⟨S256x100000, .i32⟩
  | 94 => ⟨S256x100000, .i32⟩
  | 95 => ⟨S_, .i32⟩
  | 96 => ⟨S256x100000, .i32⟩
  | 97 => ⟨S256x100000, .i32⟩
  | 98 => ⟨S256x100000, .i32⟩
  | 99 => ⟨S_, .i32⟩
  | 100 => ⟨S256x100000, .i32⟩
  | 101 => ⟨S256x100000, .i32⟩
  | 102 => ⟨S_, .i32⟩
  | 103 => ⟨S256x100000, .i32⟩
  | 104 => ⟨S256x100000, .i32⟩
  | 105 => ⟨S256x100000, .i32⟩
  | 106 => ⟨S256x100000, .i32⟩
  | 107 => ⟨S256x100000, .i32⟩
  | 108 => ⟨S_, .i32⟩
  | 109 => ⟨S256x100000, .i32⟩
  | 110 => ⟨S256x100000, .i32⟩
  | 111 => ⟨S_, .i32⟩
  | 112 => ⟨S256x100000, .i32⟩
  | 113 => ⟨S256x100000, .i32⟩
  | 114 => ⟨S256x100000, .i32⟩
  | 115 => ⟨S256x100000, .i32⟩
  | 116 => ⟨S256x100000, .i32⟩
  | 117 => ⟨S_, .i32⟩
  | 118 => ⟨S256x100000, .i32⟩
  | 119 => ⟨S256x100000, .i32⟩
  | 120 => ⟨S_, .i32⟩
  | 121 => ⟨S256x100000, .i32⟩
  | 122 => ⟨S256x100000, .i32⟩
  | 123 => ⟨S256x100000, .i32⟩
  | 124 => ⟨S256x100000, .i32⟩
  | 125 => ⟨S256x100000, .i32⟩
  | 126 => ⟨S_, .i32⟩
  | 127 => ⟨S256x100000, .i32⟩
  | _ => ⟨S128x2x100000, .f32⟩

abbrev hbmTy0_4 (i : Nat) : BufTy := match i % 128 with
  | 0 => ⟨S256x100000, .i32⟩
  | 1 => ⟨S_, .i32⟩
  | 2 => ⟨S256x100000, .i32⟩
  | 3 => ⟨S256x100000, .i32⟩
  | 4 => ⟨S256x100000, .i32⟩
  | 5 => ⟨S256x100000, .i32⟩
  | 6 => ⟨S256x100000, .i32⟩
  | 7 => ⟨S256x100000, .i32⟩
  | 8 => ⟨S256x100000, .i32⟩
  | 9 => ⟨S256x100000, .i32⟩
  | 10 => ⟨S_, .i32⟩
  | 11 => ⟨S256x100000, .i32⟩
  | 12 => ⟨S256x100000, .i32⟩
  | 13 => ⟨S256x100000, .i32⟩
  | 14 => ⟨S_, .i32⟩
  | 15 => ⟨S256x100000, .i32⟩
  | 16 => ⟨S256x100000, .i32⟩
  | 17 => ⟨S_, .i32⟩
  | 18 => ⟨S256x100000, .i32⟩
  | 19 => ⟨S256x100000, .i32⟩
  | 20 => ⟨S256x100000, .i32⟩
  | 21 => ⟨S256x100000, .i32⟩
  | 22 => ⟨S256x100000, .i32⟩
  | 23 => ⟨S_, .i32⟩
  | 24 => ⟨S256x100000, .i32⟩
  | 25 => ⟨S256x100000, .i32⟩
  | 26 => ⟨S_, .i32⟩
  | 27 => ⟨S256x100000, .i32⟩
  | 28 => ⟨S256x100000, .i32⟩
  | 29 => ⟨S256x100000, .i32⟩
  | 30 => ⟨S256x100000, .i32⟩
  | 31 => ⟨S256x100000, .i32⟩
  | 32 => ⟨S_, .i32⟩
  | 33 => ⟨S256x100000, .i32⟩
  | 34 => ⟨S256x100000, .i32⟩
  | 35 => ⟨S_, .i32⟩
  | 36 => ⟨S256x100000, .i32⟩
  | 37 => ⟨S256x100000, .i32⟩
  | 38 => ⟨S256x100000, .i32⟩
  | 39 => ⟨S256x100000, .i32⟩
  | 40 => ⟨S256x100000, .i32⟩
  | 41 => ⟨S_, .i32⟩
  | 42 => ⟨S256x100000, .i32⟩
  | 43 => ⟨S256x100000, .i32⟩
  | 44 => ⟨S_, .i32⟩
  | 45 => ⟨S256x100000, .i32⟩
  | 46 => ⟨S256x100000, .i32⟩
  | 47 => ⟨S256x100000, .i32⟩
  | 48 => ⟨S256x100000, .i32⟩
  | 49 => ⟨S256x100000, .i32⟩
  | 50 => ⟨S256x100000, .i32⟩
  | 51 => ⟨S256x100000, .i32⟩
  | 52 => ⟨S256x100000, .i32⟩
  | 53 => ⟨S_, .i32⟩
  | 54 => ⟨S256x100000, .i32⟩
  | 55 => ⟨S256x100000, .i32⟩
  | 56 => ⟨S256x100000, .i32⟩
  | 57 => ⟨S_, .i32⟩
  | 58 => ⟨S256x100000, .i32⟩
  | 59 => ⟨S256x100000, .i32⟩
  | 60 => ⟨S_, .i32⟩
  | 61 => ⟨S256x100000, .i32⟩
  | 62 => ⟨S256x100000, .i32⟩
  | 63 => ⟨S256x100000, .f32⟩
  | 64 => ⟨S_, .f32⟩
  | 65 => ⟨S256x100000, .f32⟩
  | 66 => ⟨S256x100000, .f32⟩
  | 67 => ⟨S1x1, .f32⟩
  | 68 => ⟨S256x100000, .f32⟩
  | 69 => ⟨S256x100000, .f32⟩
  | 70 => ⟨S256x100000, .f32⟩
  | 71 => ⟨S256x100000, .f32⟩
  | 72 => ⟨S256x100000, .f32⟩
  | 73 => ⟨S256x100000, .f32⟩
  | 74 => ⟨S256x100000, .f32⟩
  | 75 => ⟨S256x100000, .f32⟩
  | 76 => ⟨S256x100000, .f32⟩
  | 77 => ⟨S256x100000, .f32⟩
  | 78 => ⟨S256x100000, .f32⟩
  | 79 => ⟨S256x100000, .i32⟩
  | 80 => ⟨S_, .f32⟩
  | 81 => ⟨S_, .i32⟩
  | 82 => ⟨S256, .f32⟩
  | 83 => ⟨S256, .i32⟩
  | 84 => ⟨S256, .f32⟩
  | 85 => ⟨S128x2, .f32⟩
  | 86 => ⟨S_, .f32⟩
  | 87 => ⟨S_, .f32⟩
  | 88 => ⟨S_, .f32⟩
  | 89 => ⟨S_, .f32⟩
  | 90 => ⟨S1x1, .f32⟩
  | 91 => ⟨S1x1, .f32⟩
  | 92 => ⟨S1, .i32⟩
  | 93 => ⟨S_, .i32⟩
  | 94 => ⟨S1, .i32⟩
  | 95 => ⟨S_, .i32⟩
  | 96 => ⟨S128x2, .i64⟩
  | 97 => ⟨S128x2, .i64⟩
  | 98 => ⟨S_, .i64⟩
  | 99 => ⟨S128x2, .i64⟩
  | 100 => ⟨S128x2, .i64⟩
  | 101 => ⟨S_, .i64⟩
  | 102 => ⟨S128x2, .i64⟩
  | 103 => ⟨S128x2, .i64⟩
  | 104 => ⟨S128x2, .i64⟩
  | 105 => ⟨S_, .i64⟩
  | 106 => ⟨S128x2, .i64⟩
  | 107 => ⟨S128x2, .i64⟩
  | 108 => ⟨S128x2, .i32⟩
  | 109 => ⟨S128x2, .i32⟩
  | 110 => ⟨S_, .i32⟩
  | 111 => ⟨S_, .i32⟩
  | 112 => ⟨S_, .i32⟩
  | 113 => ⟨S128x2, .i32⟩
  | 114 => ⟨S128x2, .i32⟩
  | 115 => ⟨S128x2, .i32⟩
  | 116 => ⟨S128x2, .i32⟩
  | 117 => ⟨S128x2, .i32⟩
  | 118 => ⟨S_, .i32⟩
  | 119 => ⟨S128x2, .i32⟩
  | 120 => ⟨S128x2, .i32⟩
  | 121 => ⟨S_, .i32⟩
  | 122 => ⟨S128x2, .i32⟩
  | 123 => ⟨S128x2, .i32⟩
  | 124 => ⟨S128x2, .i32⟩
  | 125 => ⟨S128x2, .i32⟩
  | 126 => ⟨S128x2, .i32⟩
  | 127 => ⟨S_, .i32⟩
  | _ => ⟨S128x2x100000, .f32⟩

abbrev hbmTy0_5 (i : Nat) : BufTy := match i % 128 with
  | 0 => ⟨S128x2, .i32⟩
  | 1 => ⟨S128x2, .i32⟩
  | 2 => ⟨S_, .i32⟩
  | 3 => ⟨S128x2, .i32⟩
  | 4 => ⟨S128x2, .i32⟩
  | 5 => ⟨S128x2, .i32⟩
  | 6 => ⟨S128x2, .i32⟩
  | 7 => ⟨S128x2, .i32⟩
  | 8 => ⟨S_, .i32⟩
  | 9 => ⟨S128x2, .i32⟩
  | 10 => ⟨S128x2, .i32⟩
  | 11 => ⟨S_, .i32⟩
  | 12 => ⟨S128x2, .i32⟩
  | 13 => ⟨S128x2, .i32⟩
  | 14 => ⟨S128x2, .i32⟩
  | 15 => ⟨S128x2, .i32⟩
  | 16 => ⟨S128x2, .i32⟩
  | 17 => ⟨S_, .i32⟩
  | 18 => ⟨S128x2, .i32⟩
  | 19 => ⟨S128x2, .i32⟩
  | 20 => ⟨S_, .i32⟩
  | 21 => ⟨S128x2, .i32⟩
  | 22 => ⟨S128x2, .i32⟩
  | 23 => ⟨S128x2, .i32⟩
  | 24 => ⟨S128x2, .i32⟩
  | 25 => ⟨S128x2, .i32⟩
  | 26 => ⟨S128x2, .i32⟩
  | 27 => ⟨S128x2, .i32⟩
  | 28 => ⟨S128x2, .i32⟩
  | 29 => ⟨S_, .i32⟩
  | 30 => ⟨S128x2, .i32⟩
  | 31 => ⟨S128x2, .i32⟩
  | 32 => ⟨S128x2, .i32⟩
  | 33 => ⟨S_, .i32⟩
  | 34 => ⟨S128x2, .i32⟩
  | 35 => ⟨S128x2, .i32⟩
  | 36 => ⟨S_, .i32⟩
  | 37 => ⟨S128x2, .i32⟩
  | 38 => ⟨S128x2, .i32⟩
  | 39 => ⟨S128x2, .i32⟩
  | 40 => ⟨S128x2, .i32⟩
  | 41 => ⟨S128x2, .i32⟩
  | 42 => ⟨S_, .i32⟩
  | 43 => ⟨S128x2, .i32⟩
  | 44 => ⟨S128x2, .i32⟩
  | 45 => ⟨S_, .i32⟩
  | 46 => ⟨S128x2, .i32⟩
  | 47 => ⟨S128x2, .i32⟩
  | 48 => ⟨S128x2, .i32⟩
  | 49 => ⟨S128x2, .i32⟩
  | 50 => ⟨S128x2, .i32⟩
  | 51 => ⟨S_, .i32⟩
  | 52 => ⟨S128x2, .i32⟩
  | 53 => ⟨S128x2, .i32⟩
  | 54 => ⟨S_, .i32⟩
  | 55 => ⟨S128x2, .i32⟩
  | 56 => ⟨S128x2, .i32⟩
  | 57 => ⟨S128x2, .i32⟩
  | 58 => ⟨S128x2, .i32⟩
  | 59 => ⟨S128x2, .i32⟩
  | 60 => ⟨S_, .i32⟩
  | 61 => ⟨S128x2, .i32⟩
  | 62 => ⟨S128x2, .i32⟩
  | 63 => ⟨S_, .i32⟩
  | 64 => ⟨S128x2, .i32⟩
  | 65 => ⟨S128x2, .i32⟩
  | 66 => ⟨S128x2, .i32⟩
  | 67 => ⟨S128x2, .i32⟩
  | 68 => ⟨S128x2, .i32⟩
  | 69 => ⟨S128x2, .i32⟩
  | 70 => ⟨S128x2, .i32⟩
  | 71 => ⟨S128x2, .i32⟩
  | 72 => ⟨S_, .i32⟩
  | 73 => ⟨S128x2, .i32⟩
  | 74 => ⟨S128x2, .i32⟩
  | 75 => ⟨S128x2, .i32⟩
  | 76 => ⟨S_, .i32⟩
  | 77 => ⟨S128x2, .i32⟩
  | 78 => ⟨S128x2, .i32⟩
  | 79 => ⟨S_, .i32⟩
  | 80 => ⟨S128x2, .i32⟩
  | 81 => ⟨S128x2, .i32⟩
  | 82 => ⟨S128x2, .i32⟩
  | 83 => ⟨S128x2, .i32⟩
  | 84 => ⟨S128x2, .i32⟩
  | 85 => ⟨S_, .i32⟩
  | 86 => ⟨S128x2, .i32⟩
  | 87 => ⟨S128x2, .i32⟩
  | 88 => ⟨S_, .i32⟩
  | 89 => ⟨S128x2, .i32⟩
  | 90 => ⟨S128x2, .i32⟩
  | 91 => ⟨S128x2, .i32⟩
  | 92 => ⟨S128x2, .i32⟩
  | 93 => ⟨S128x2, .i32⟩
  | 94 => ⟨S_, .i32⟩
  | 95 => ⟨S128x2, .i32⟩
  | 96 => ⟨S128x2, .i32⟩
  | 97 => ⟨S_, .i32⟩
  | 98 => ⟨S128x2, .i32⟩
  | 99 => ⟨S128x2, .i32⟩
  | 100 => ⟨S128x2, .i32⟩
  | 101 => ⟨S128x2, .i32⟩
  | 102 => ⟨S128x2, .i32⟩
  | 103 => ⟨S_, .i32⟩
  | 104 => ⟨S128x2, .i32⟩
  | 105 => ⟨S128x2, .i32⟩
  | 106 => ⟨S_, .i32⟩
  | 107 => ⟨S128x2, .i32⟩
  | 108 => ⟨S128x2, .i32⟩
  | 109 => ⟨S128x2, .i32⟩
  | 110 => ⟨S128x2, .i32⟩
  | 111 => ⟨S128x2, .i32⟩
  | 112 => ⟨S128x2, .i32⟩
  | 113 => ⟨S128x2, .i32⟩
  | 114 => ⟨S128x2, .i32⟩
  | 115 => ⟨S_, .i32⟩
  | 116 => ⟨S128x2, .i32⟩
  | 117 => ⟨S128x2, .i32⟩
  | 118 => ⟨S128x2, .i32⟩
  | 119 => ⟨S_, .i32⟩
  | 120 => ⟨S128x2, .i32⟩
  | 121 => ⟨S128x2, .i32⟩
  | 122 => ⟨S_, .i32⟩
  | 123 => ⟨S128x2, .i32⟩
  | 124 => ⟨S128x2, .i32⟩
  | 125 => ⟨S128x2, .i32⟩
  | 126 => ⟨S128x2, .i32⟩
  | 127 => ⟨S128x2, .i32⟩
  | _ => ⟨S128x2x100000, .f32⟩

abbrev hbmTy0_6 (i : Nat) : BufTy := match i % 128 with
  | 0 => ⟨S_, .i32⟩
  | 1 => ⟨S128x2, .i32⟩
  | 2 => ⟨S128x2, .i32⟩
  | 3 => ⟨S_, .i32⟩
  | 4 => ⟨S128x2, .i32⟩
  | 5 => ⟨S128x2, .i32⟩
  | 6 => ⟨S128x2, .i32⟩
  | 7 => ⟨S128x2, .i32⟩
  | 8 => ⟨S128x2, .i32⟩
  | 9 => ⟨S_, .i32⟩
  | 10 => ⟨S128x2, .i32⟩
  | 11 => ⟨S128x2, .i32⟩
  | 12 => ⟨S_, .i32⟩
  | 13 => ⟨S128x2, .i32⟩
  | 14 => ⟨S128x2, .i32⟩
  | 15 => ⟨S128x2, .i32⟩
  | 16 => ⟨S128x2, .i32⟩
  | 17 => ⟨S128x2, .i32⟩
  | 18 => ⟨S_, .i32⟩
  | 19 => ⟨S128x2, .i32⟩
  | 20 => ⟨S128x2, .i32⟩
  | 21 => ⟨S_, .i32⟩
  | 22 => ⟨S128x2, .i32⟩
  | 23 => ⟨S128x2, .i32⟩
  | 24 => ⟨S128x2, .i32⟩
  | 25 => ⟨S128x2, .i32⟩
  | 26 => ⟨S128x2, .i32⟩
  | 27 => ⟨S128x2, .i32⟩
  | 28 => ⟨S128x2, .i32⟩
  | 29 => ⟨S128x2, .i32⟩
  | 30 => ⟨S_, .i32⟩
  | 31 => ⟨S128x2, .i32⟩
  | 32 => ⟨S128x2, .i32⟩
  | 33 => ⟨S128x2, .i32⟩
  | 34 => ⟨S_, .i32⟩
  | 35 => ⟨S128x2, .i32⟩
  | 36 => ⟨S128x2, .i32⟩
  | 37 => ⟨S_, .i32⟩
  | 38 => ⟨S128x2, .i32⟩
  | 39 => ⟨S128x2, .i32⟩
  | 40 => ⟨S128x2, .i32⟩
  | 41 => ⟨S128x2, .i32⟩
  | 42 => ⟨S128x2, .i32⟩
  | 43 => ⟨S_, .i32⟩
  | 44 => ⟨S128x2, .i32⟩
  | 45 => ⟨S128x2, .i32⟩
  | 46 => ⟨S_, .i32⟩
  | 47 => ⟨S128x2, .i32⟩
  | 48 => ⟨S128x2, .i32⟩
  | 49 => ⟨S128x2, .i32⟩
  | 50 => ⟨S128x2, .i32⟩
  | 51 => ⟨S128x2, .i32⟩
  | 52 => ⟨S_, .i32⟩
  | 53 => ⟨S128x2, .i32⟩
  | 54 => ⟨S128x2, .i32⟩
  | 55 => ⟨S_, .i32⟩
  | 56 => ⟨S128x2, .i32⟩
  | 57 => ⟨S128x2, .i32⟩
  | 58 => ⟨S128x2, .i32⟩
  | 59 => ⟨S128x2, .i32⟩
  | 60 => ⟨S128x2, .i32⟩
  | 61 => ⟨S_, .i32⟩
  | 62 => ⟨S128x2, .i32⟩
  | 63 => ⟨S128x2, .i32⟩
  | 64 => ⟨S_, .i32⟩
  | 65 => ⟨S128x2, .i32⟩
  | 66 => ⟨S128x2, .i32⟩
  | 67 => ⟨S128x2, .i32⟩
  | 68 => ⟨S128x2, .i32⟩
  | 69 => ⟨S128x2, .i32⟩
  | 70 => ⟨S128x2, .i32⟩
  | 71 => ⟨S128x2, .i32⟩
  | 72 => ⟨S128x2, .i32⟩
  | 73 => ⟨S_, .i32⟩
  | 74 => ⟨S128x2, .i32⟩
  | 75 => ⟨S128x2, .i32⟩
  | 76 => ⟨S128x2, .i32⟩
  | 77 => ⟨S_, .i32⟩
  | 78 => ⟨S128x2, .i32⟩
  | 79 => ⟨S128x2, .i32⟩
  | 80 => ⟨S_, .i32⟩
  | 81 => ⟨S128x2, .i32⟩
  | 82 => ⟨S128x2, .i32⟩
  | 83 => ⟨S128x2, .f32⟩
  | 84 => ⟨S_, .f32⟩
  | 85 => ⟨S128x2, .f32⟩
  | 86 => ⟨S128x2, .f32⟩
  | 87 => ⟨S1x1, .f32⟩
  | 88 => ⟨S128x2, .f32⟩
  | 89 => ⟨S128x2, .f32⟩
  | 90 => ⟨S128x2, .f32⟩
  | 91 => ⟨S128x2, .f32⟩
  | 92 => ⟨S128x2, .f32⟩
  | 93 => ⟨S128x2, .f32⟩
  | 94 => ⟨S128x2, .f32⟩
  | 95 => ⟨S_, .f32⟩
  | 96 => ⟨S128x2, .f32⟩
  | 97 => ⟨S128x2, .f32⟩
  | 98 => ⟨S128x1, .f32⟩
  | 99 => ⟨S128, .f32⟩
  | 100 => ⟨S128x1, .f32⟩
  | 101 => ⟨S128, .f32⟩
  | 102 => ⟨S_, .f32⟩
  | 103 => ⟨S128, .f32⟩
  | 104 => ⟨S128, .i1⟩
  | 105 => ⟨S_, .f32⟩
  | 106 => ⟨S_, .f32⟩
  | 107 => ⟨S128, .f32⟩
  | 108 => ⟨S128, .f32⟩
  | 109 => ⟨S_, .i32⟩
  | 110 => ⟨S1, .i32⟩
  | 111 => ⟨S128x2, .f32⟩
  | _ => ⟨S128x2x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128x2x100000, .f32⟩

abbrev bufTy : (tb : Table) → Fin (tcTables nBuf tb) → BufTy
  | .hbm, ⟨i, _⟩ => hbmTy i
  | _, _ => ⟨S128x2x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_13 : Ref sig .tc := ⟨.hbm, 67, rfl⟩
abbrev main_call3_v0 : Ref sig .tc := ⟨.hbm, 68, rfl⟩
abbrev main_call3_v1 : Ref sig .tc := ⟨.hbm, 69, rfl⟩
abbrev main_v44 : Ref sig .tc := ⟨.hbm, 70, rfl⟩
abbrev main_c_14 : Ref sig .tc := ⟨.hbm, 71, rfl⟩
abbrev main_c_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_c : Ref sig .tc := ⟨.hbm, 86, rfl⟩
abbrev main_call4_v5 : Ref sig .tc := ⟨.hbm, 87, rfl⟩
abbrev main_call4_v6 : Ref sig .tc := ⟨.hbm, 88, rfl⟩
abbrev main_call4_c_0 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_call0_v0 : Ref sig .tc := ⟨.hbm, 94, rfl⟩
abbrev main_call4_call0_c : Ref sig .tc := ⟨.hbm, 95, rfl⟩
abbrev main_call4_call0_v1 : Ref sig .tc := ⟨.hbm, 96, rfl⟩
abbrev main_call4_call0_v2 : Ref sig .tc := ⟨.hbm, 97, rfl⟩
abbrev main_call4_call0_v3 : Ref sig .tc := ⟨.hbm, 98, rfl⟩
abbrev main_call4_call0_v4 : Ref sig .tc := ⟨.hbm, 99, rfl⟩
abbrev main_call4_call0_v5 : Ref sig .tc := ⟨.hbm, 100, rfl⟩
abbrev main_call4_call0_v6 : Ref sig .tc := ⟨.hbm, 101, rfl⟩
abbrev main_call4_call0_c_0 : Ref sig .tc := ⟨.hbm, 102, rfl⟩
abbrev main_call4_call0_v7 : Ref sig .tc := ⟨.hbm, 103, rfl⟩
abbrev main_call4_call0_v8 : Ref sig .tc := ⟨.hbm, 104, rfl⟩
abbrev main_call4_call0_c_1 : Ref sig .tc := ⟨.hbm, 105, rfl⟩
abbrev main_call4_call0_v9 : Ref sig .tc := ⟨.hbm, 106, rfl⟩
abbrev main_call4_call0_v10 : Ref sig .tc := ⟨.hbm, 107, rfl⟩
abbrev main_call4_call0_v11 : Ref sig .tc := ⟨.hbm, 108, rfl⟩
abbrev main_call4_call0_v12 : Ref sig .tc := ⟨.hbm, 109, rfl⟩
abbrev main_call4_call0_v13 : Ref sig .tc := ⟨.hbm, 110, rfl⟩
abbrev main_call4_call0_c_2 : Ref sig .tc := ⟨.hbm, 111, rfl⟩
abbrev main_call4_call0_v14 : Ref sig .tc := ⟨.hbm, 112, rfl⟩
abbrev main_call4_call0_v15 : Ref sig .tc := ⟨.hbm, 113, rfl⟩
abbrev main_call4_call0_c_3 : Ref sig .tc := ⟨.hbm, 114, rfl⟩
abbrev main_call4_call0_v16 : Ref sig .tc := ⟨.hbm, 115, rfl⟩
abbrev main_call4_call0_v17 : Ref sig .tc := ⟨.hbm, 116, rfl⟩
abbrev main_call4_call0_v18 : Ref sig .tc := ⟨.hbm, 117, rfl⟩
abbrev main_call4_call0_v19 : Ref sig .tc := ⟨.hbm, 118, rfl⟩
abbrev main_call4_call0_v20 : Ref sig .tc := ⟨.hbm, 119, rfl⟩
abbrev main_call4_call0_c_4 : Ref sig .tc := ⟨.hbm, 120, rfl⟩
abbrev main_call4_call0_v21 : Ref sig .tc := ⟨.hbm, 121, rfl⟩
abbrev main_call4_call0_v22 : Ref sig .tc := ⟨.hbm, 122, rfl⟩
abbrev main_call4_call0_c_5 : Ref sig .tc := ⟨.hbm, 123, rfl⟩
abbrev main_call4_call0_v23 : Ref sig .tc := ⟨.hbm, 124, rfl⟩
abbrev main_call4_call0_v24 : Ref sig .tc := ⟨.hbm, 125, rfl⟩
abbrev main_call4_call0_v25 : Ref sig .tc := ⟨.hbm, 126, rfl⟩
abbrev main_call4_call0_v26 : Ref sig .tc := ⟨.hbm, 127, rfl⟩
abbrev main_call4_call0_v27 : Ref sig .tc := ⟨.hbm, 128, rfl⟩
abbrev main_call4_call0_c_6 : Ref sig .tc := ⟨.hbm, 129, rfl⟩
abbrev main_call4_call0_v28 : Ref sig .tc := ⟨.hbm, 130, rfl⟩
abbrev main_call4_call0_v29 : Ref sig .tc := ⟨.hbm, 131, rfl⟩
abbrev main_call4_call0_c_7 : Ref sig .tc := ⟨.hbm, 132, rfl⟩
abbrev main_call4_call0_v30 : Ref sig .tc := ⟨.hbm, 133, rfl⟩
abbrev main_call4_call0_v31 : Ref sig .tc := ⟨.hbm, 134, rfl⟩
abbrev main_call4_call0_v32 : Ref sig .tc := ⟨.hbm, 135, rfl⟩
abbrev main_call4_call0_v33 : Ref sig .tc := ⟨.hbm, 136, rfl⟩
abbrev main_call4_call0_v34 : Ref sig .tc := ⟨.hbm, 137, rfl⟩
abbrev main_call4_call0_v35 : Ref sig .tc := ⟨.hbm, 138, rfl⟩
abbrev main_call4_call0_v36 : Ref sig .tc := ⟨.hbm, 139, rfl⟩
abbrev main_call4_call0_v37 : Ref sig .tc := ⟨.hbm, 140, rfl⟩
abbrev main_call4_call0_c_8 : Ref sig .tc := ⟨.hbm, 141, rfl⟩
abbrev main_call4_call0_v38 : Ref sig .tc := ⟨.hbm, 142, rfl⟩
abbrev main_call4_call0_v39 : Ref sig .tc := ⟨.hbm, 143, rfl⟩
abbrev main_call4_call0_v40 : Ref sig .tc := ⟨.hbm, 144, rfl⟩
abbrev main_call4_call0_c_9 : Ref sig .tc := ⟨.hbm, 145, rfl⟩
abbrev main_call4_call0_v41 : Ref sig .tc := ⟨.hbm, 146, rfl⟩
abbrev main_call4_call0_v42 : Ref sig .tc := ⟨.hbm, 147, rfl⟩
abbrev main_call4_call0_c_10 : Ref sig .tc := ⟨.hbm, 148, rfl⟩
abbrev main_call4_call0_v43 : Ref sig .tc := ⟨.hbm, 149, rfl⟩
abbrev main_call4_call0_v44 : Ref sig .tc := ⟨.hbm, 150, rfl⟩
abbrev main_call4_call0_v45 : Ref sig .tc := ⟨.hbm, 151, rfl⟩
abbrev main_call4_call0_v46 : Ref sig .tc := ⟨.hbm, 152, rfl⟩
abbrev main_call4_call0_v47 : Ref sig .tc := ⟨.hbm, 153, rfl⟩
abbrev main_call4_call0_c_11 : Ref sig .tc := ⟨.hbm, 154, rfl⟩
abbrev main_call4_call0_v48 : Ref sig .tc := ⟨.hbm, 155, rfl⟩
abbrev main_call4_call0_v49 : Ref sig .tc := ⟨.hbm, 156, rfl⟩
abbrev main_call4_call0_c_12 : Ref sig .tc := ⟨.hbm, 157, rfl⟩
abbrev main_call4_call0_v50 : Ref sig .tc := ⟨.hbm, 158, rfl⟩
abbrev main_call4_call0_v51 : Ref sig .tc := ⟨.hbm, 159, rfl⟩
abbrev main_call4_call0_v52 : Ref sig .tc := ⟨.hbm, 160, rfl⟩
abbrev main_call4_call0_v53 : Ref sig .tc := ⟨.hbm, 161, rfl⟩
abbrev main_call4_call0_v54 : Ref sig .tc := ⟨.hbm, 162, rfl⟩
abbrev main_call4_call0_c_13 : Ref sig .tc := ⟨.hbm, 163, rfl⟩
abbrev main_call4_call0_v55 : Ref sig .tc := ⟨.hbm, 164, rfl⟩
abbrev main_call4_call0_v56 : Ref sig .tc := ⟨.hbm, 165, rfl⟩
abbrev main_call4_call0_c_14 : Ref sig .tc := ⟨.hbm, 166, rfl⟩
abbrev main_call4_call0_v57 : Ref sig .tc := ⟨.hbm, 167, rfl⟩
abbrev main_call4_call0_v58 : Ref sig .tc := ⟨.hbm, 168, rfl⟩
abbrev main_call4_call0_v59 : Ref sig .tc := ⟨.hbm, 169, rfl⟩
abbrev main_call4_call0_v60 : Ref sig .tc := ⟨.hbm, 170, rfl⟩
abbrev main_call4_call0_v61 : Ref sig .tc := ⟨.hbm, 171, rfl⟩
abbrev main_call4_call0_c_15 : Ref sig .tc := ⟨.hbm, 172, rfl⟩
abbrev main_call4_call0_v62 : Ref sig .tc := ⟨.hbm, 173, rfl⟩
abbrev main_call4_call0_v63 : Ref sig .tc := ⟨.hbm, 174, rfl⟩
abbrev main_call4_call0_c_16 : Ref sig .tc := ⟨.hbm, 175, rfl⟩
abbrev main_call4_call0_v64 : Ref sig .tc := ⟨.hbm, 176, rfl⟩
abbrev main_call4_call0_v65 : Ref sig .tc := ⟨.hbm, 177, rfl⟩
abbrev main_call4_call0_v66 : Ref sig .tc := ⟨.hbm, 178, rfl⟩
abbrev main_call4_call0_v67 : Ref sig .tc := ⟨.hbm, 179, rfl⟩
abbrev main_call4_call0_v68 : Ref sig .tc := ⟨.hbm, 180, rfl⟩
abbrev main_call4_call0_v69 : Ref sig .tc := ⟨.hbm, 181, rfl⟩
abbrev main_call4_call0_v70 : Ref sig .tc := ⟨.hbm, 182, rfl⟩
abbrev main_call4_call0_v71 : Ref sig .tc := ⟨.hbm, 183, rfl⟩
abbrev main_call4_call0_c_17 : Ref sig .tc := ⟨.hbm, 184, rfl⟩
abbrev main_call4_call0_v72 : Ref sig .tc := ⟨.hbm, 185, rfl⟩
abbrev main_call4_call0_v73 : Ref sig .tc := ⟨.hbm, 186, rfl⟩
abbrev main_call4_call0_v74 : Ref sig .tc := ⟨.hbm, 187, rfl⟩
abbrev main_call4_call0_c_18 : Ref sig .tc := ⟨.hbm, 188, rfl⟩
abbrev main_call4_call0_v75 : Ref sig .tc := ⟨.hbm, 189, rfl⟩
abbrev main_call4_call0_v76 : Ref sig .tc := ⟨.hbm, 190, rfl⟩
abbrev main_call4_call0_c_19 : Ref sig .tc := ⟨.hbm, 191, rfl⟩
abbrev main_call4_call0_v77 : Ref sig .tc := ⟨.hbm, 192, rfl⟩
abbrev main_call4_call0_v78 : Ref sig .tc := ⟨.hbm, 193, rfl⟩
abbrev main_call4_call0_v79 : Ref sig .tc := ⟨.hbm, 194, rfl⟩
abbrev main_call4_call0_v80 : Ref sig .tc := ⟨.hbm, 195, rfl⟩
abbrev main_call4_call0_v81 : Ref sig .tc := ⟨.hbm, 196, rfl⟩
abbrev main_call4_call0_c_20 : Ref sig .tc := ⟨.hbm, 197, rfl⟩
abbrev main_call4_call0_v82 : Ref sig .tc := ⟨.hbm, 198, rfl⟩
abbrev main_call4_call0_v83 : Ref sig .tc := ⟨.hbm, 199, rfl⟩
abbrev main_call4_call0_c_21 : Ref sig .tc := ⟨.hbm, 200, rfl⟩
abbrev main_call4_call0_v84 : Ref sig .tc := ⟨.hbm, 201, rfl⟩
abbrev main_call4_call0_v85 : Ref sig .tc := ⟨.hbm, 202, rfl⟩
abbrev main_call4_call0_v86 : Ref sig .tc := ⟨.hbm, 203, rfl⟩
abbrev main_call4_call0_v87 : Ref sig .tc := ⟨.hbm, 204, rfl⟩
abbrev main_call4_call0_v88 : Ref sig .tc := ⟨.hbm, 205, rfl⟩
abbrev main_call4_call0_c_22 : Ref sig .tc := ⟨.hbm, 206, rfl⟩
abbrev main_call4_call0_v89 : Ref sig .tc := ⟨.hbm, 207, rfl⟩
abbrev main_call4_call0_v90 : Ref sig .tc := ⟨.hbm, 208, rfl⟩
abbrev main_call4_call0_c_23 : Ref sig .tc := ⟨.hbm, 209, rfl⟩
abbrev main_call4_call0_v91 : Ref sig .tc := ⟨.hbm, 210, rfl⟩
abbrev main_call4_call0_v92 : Ref sig .tc := ⟨.hbm, 211, rfl⟩
abbrev main_call4_call0_v93 : Ref sig .tc := ⟨.hbm, 212, rfl⟩
abbrev main_call4_call0_v94 : Ref sig .tc := ⟨.hbm, 213, rfl⟩
abbrev main_call4_call0_v95 : Ref sig .tc := ⟨.hbm, 214, rfl⟩
abbrev main_call4_call0_c_24 : Ref sig .tc := ⟨.hbm, 215, rfl⟩
abbrev main_call4_call0_v96 : Ref sig .tc := ⟨.hbm, 216, rfl⟩
abbrev main_call4_call0_v97 : Ref sig .tc := ⟨.hbm, 217, rfl⟩
abbrev main_call4_call0_c_25 : Ref sig .tc := ⟨.hbm, 218, rfl⟩
abbrev main_call4_call0_v98 : Ref sig .tc := ⟨.hbm, 219, rfl⟩
abbrev main_call4_call0_v99 : Ref sig .tc := ⟨.hbm, 220, rfl⟩
abbrev main_call4_call0_v100 : Ref sig .tc := ⟨.hbm, 221, rfl⟩
abbrev main_call4_call0_v101 : Ref sig .tc := ⟨.hbm, 222, rfl⟩
abbrev main_call4_call0_v102 : Ref sig .tc := ⟨.hbm, 223, rfl⟩
abbrev main_call4_call0_v103 : Ref sig .tc := ⟨.hbm, 224, rfl⟩
abbrev main_call4_call0_v104 : Ref sig .tc := ⟨.hbm, 225, rfl⟩
abbrev main_call4_call0_v105 : Ref sig .tc := ⟨.hbm, 226, rfl⟩
abbrev main_call4_call0_c_26 : Ref sig .tc := ⟨.hbm, 227, rfl⟩
abbrev main_call4_call0_v106 : Ref sig .tc := ⟨.hbm, 228, rfl⟩
abbrev main_call4_call0_v107 : Ref sig .tc := ⟨.hbm, 229, rfl⟩
abbrev main_call4_call0_v108 : Ref sig .tc := ⟨.hbm, 230, rfl⟩
abbrev main_call4_call0_c_27 : Ref sig .tc := ⟨.hbm, 231, rfl⟩
abbrev main_call4_call0_v109 : Ref sig .tc := ⟨.hbm, 232, rfl⟩
abbrev main_call4_call0_v110 : Ref sig .tc := ⟨.hbm, 233, rfl⟩
abbrev main_call4_call0_c_28 : Ref sig .tc := ⟨.hbm, 234, rfl⟩
abbrev main_call4_call0_v111 : Ref sig .tc := ⟨.hbm, 235, rfl⟩
abbrev main_call4_call0_v112 : Ref sig .tc := ⟨.hbm, 236, rfl⟩
abbrev main_call4_call0_v113 : Ref sig .tc := ⟨.hbm, 237, rfl⟩
abbrev main_call4_call0_v114 : Ref sig .tc := ⟨.hbm, 238, rfl⟩
abbrev main_call4_call0_v115 : Ref sig .tc := ⟨.hbm, 239, rfl⟩
abbrev main_call4_call0_c_29 : Ref sig .tc := ⟨.hbm, 240, rfl⟩
abbrev main_call4_call0_v116 : Ref sig .tc := ⟨.hbm, 241, rfl⟩
abbrev main_call4_call0_v117 : Ref sig .tc := ⟨.hbm, 242, rfl⟩
abbrev main_call4_call0_c_30 : Ref sig .tc := ⟨.hbm, 243, rfl⟩
abbrev main_call4_call0_v118 : Ref sig .tc := ⟨.hbm, 244, rfl⟩
abbrev main_call4_call0_v119 : Ref sig .tc := ⟨.hbm, 245, rfl⟩
abbrev main_call4_call0_v120 : Ref sig .tc := ⟨.hbm, 246, rfl⟩
abbrev main_call4_call0_v121 : Ref sig .tc := ⟨.hbm, 247, rfl⟩
abbrev main_call4_call0_v122 : Ref sig .tc := ⟨.hbm, 248, rfl⟩
abbrev main_call4_call0_c_31 : Ref sig .tc := ⟨.hbm, 249, rfl⟩
abbrev main_call4_call0_v123 : Ref sig .tc := ⟨.hbm, 250, rfl⟩
abbrev main_call4_call0_v124 : Ref sig .tc := ⟨.hbm, 251, rfl⟩
abbrev main_call4_call0_c_32 : Ref sig .tc := ⟨.hbm, 252, rfl⟩
abbrev main_call4_call0_v125 : Ref sig .tc := ⟨.hbm, 253, rfl⟩
abbrev main_call4_call0_v126 : Ref sig .tc := ⟨.hbm, 254, rfl⟩
abbrev main_call4_call0_v127 : Ref sig .tc := ⟨.hbm, 255, rfl⟩
abbrev main_call4_call0_v128 : Ref sig .tc := ⟨.hbm, 256, rfl⟩
abbrev main_call4_call0_v129 : Ref sig .tc := ⟨.hbm, 257, rfl⟩
abbrev main_call4_call0_c_33 : Ref sig .tc := ⟨.hbm, 258, rfl⟩
abbrev main_call4_call0_v130 : Ref sig .tc := ⟨.hbm, 259, rfl⟩
abbrev main_call4_call0_v131 : Ref sig .tc := ⟨.hbm, 260, rfl⟩
abbrev main_call4_call0_c_34 : Ref sig .tc := ⟨.hbm, 261, rfl⟩
abbrev main_call4_call0_v132 : Ref sig .tc := ⟨.hbm, 262, rfl⟩
abbrev main_call4_call0_v133 : Ref sig .tc := ⟨.hbm, 263, rfl⟩
abbrev main_call4_call0_v134 : Ref sig .tc := ⟨.hbm, 264, rfl⟩
abbrev main_call4_call0_v135 : Ref sig .tc := ⟨.hbm, 265, rfl⟩
abbrev main_call4_call0_v136 : Ref sig .tc := ⟨.hbm, 266, rfl⟩
abbrev main_call4_call0_v137 : Ref sig .tc := ⟨.hbm, 267, rfl⟩
abbrev main_call4_call0_v138 : Ref sig .tc := ⟨.hbm, 268, rfl⟩
abbrev main_call4_call0_v139 : Ref sig .tc := ⟨.hbm, 269, rfl⟩
abbrev main_call4_call0_c_35 : Ref sig .tc := ⟨.hbm, 270, rfl⟩
abbrev main_call4_call0_v140 : Ref sig .tc := ⟨.hbm, 271, rfl⟩
abbrev main_call4_call0_v141 : Ref sig .tc := ⟨.hbm, 272, rfl⟩
abbrev main_call4_call0_v142 : Ref sig .tc := ⟨.hbm, 273, rfl⟩
abbrev main_call4_call0_c_36 : Ref sig .tc := ⟨.hbm, 274, rfl⟩
abbrev main_call4_call0_v143 : Ref sig .tc := ⟨.hbm, 275, rfl⟩
abbrev main_call4_call0_v144 : Ref sig .tc := ⟨.hbm, 276, rfl⟩
abbrev main_call4_call0_c_37 : Ref sig .tc := ⟨.hbm, 277, rfl⟩
abbrev main_call4_call0_v145 : Ref sig .tc := ⟨.hbm, 278, rfl⟩
abbrev main_call4_call0_v146 : Ref sig .tc := ⟨.hbm, 279, rfl⟩
abbrev main_call4_call0_v147 : Ref sig .tc := ⟨.hbm, 280, rfl⟩
abbrev main_call4_call0_v148 : Ref sig .tc := ⟨.hbm, 281, rfl⟩
abbrev main_call4_call0_v149 : Ref sig .tc := ⟨.hbm, 282, rfl⟩
abbrev main_call4_call0_c_38 : Ref sig .tc := ⟨.hbm, 283, rfl⟩
abbrev main_call4_call0_v150 : Ref sig .tc := ⟨.hbm, 284, rfl⟩
abbrev main_call4_call0_v151 : Ref sig .tc := ⟨.hbm, 285, rfl⟩
abbrev main_call4_call0_c_39 : Ref sig .tc := ⟨.hbm, 286, rfl⟩
abbrev main_call4_call0_v152 : Ref sig .tc := ⟨.hbm, 287, rfl⟩
abbrev main_call4_call0_v153 : Ref sig .tc := ⟨.hbm, 288, rfl⟩
abbrev main_call4_call0_v154 : Ref sig .tc := ⟨.hbm, 289, rfl⟩
abbrev main_call4_call0_v155 : Ref sig .tc := ⟨.hbm, 290, rfl⟩
abbrev main_call4_call0_v156 : Ref sig .tc := ⟨.hbm, 291, rfl⟩
abbrev main_call4_call0_c_40 : Ref sig .tc := ⟨.hbm, 292, rfl⟩
abbrev main_call4_call0_v157 : Ref sig .tc := ⟨.hbm, 293, rfl⟩
abbrev main_call4_call0_v158 : Ref sig .tc := ⟨.hbm, 294, rfl⟩
abbrev main_call4_call0_c_41 : Ref sig .tc := ⟨.hbm, 295, rfl⟩
abbrev main_call4_call0_v159 : Ref sig .tc := ⟨.hbm, 296, rfl⟩
abbrev main_call4_call0_v160 : Ref sig .tc := ⟨.hbm, 297, rfl⟩
abbrev main_call4_call0_v161 : Ref sig .tc := ⟨.hbm, 298, rfl⟩
abbrev main_call4_call0_v162 : Ref sig .tc := ⟨.hbm, 299, rfl⟩
abbrev main_call4_call0_v163 : Ref sig .tc := ⟨.hbm, 300, rfl⟩
abbrev main_call4_call0_c_42 : Ref sig .tc := ⟨.hbm, 301, rfl⟩
abbrev main_call4_call0_v164 : Ref sig .tc := ⟨.hbm, 302, rfl⟩
abbrev main_call4_call0_v165 : Ref sig .tc := ⟨.hbm, 303, rfl⟩
abbrev main_call4_call0_c_43 : Ref sig .tc := ⟨.hbm, 304, rfl⟩
abbrev main_call4_call0_v166 : Ref sig .tc := ⟨.hbm, 305, rfl⟩
abbrev main_call4_call0_v167 : Ref sig .tc := ⟨.hbm, 306, rfl⟩
abbrev main_call4_call0_v168 : Ref sig .tc := ⟨.hbm, 307, rfl⟩
abbrev main_call4_call0_v169 : Ref sig .tc := ⟨.hbm, 308, rfl⟩
abbrev main_call4_call0_v170 : Ref sig .tc := ⟨.hbm, 309, rfl⟩
abbrev main_call4_v11_0 : Ref sig .tc := ⟨.hbm, 310, rfl⟩
abbrev main_call4_call0_v172 : Ref sig .tc := ⟨.hbm, 311, rfl⟩
abbrev main_call4_call0_v173 : Ref sig .tc := ⟨.hbm, 312, rfl⟩
abbrev main_call4_call0_c_44 : Ref sig .tc := ⟨.hbm, 313, rfl⟩
abbrev main_call4_call0_v174 : Ref sig .tc := ⟨.hbm, 314, rfl⟩
abbrev main_call4_v11_1 : Ref sig .tc := ⟨.hbm, 315, rfl⟩
abbrev main_call4_v12 : Ref sig .tc := ⟨.hbm, 316, rfl⟩
abbrev main_call4_v13 : Ref sig .tc := ⟨.hbm, 317, rfl⟩
abbrev main_v52 : Ref sig .tc := ⟨.hbm, 318, rfl⟩
abbrev main_v53 : Ref sig .tc := ⟨.hbm, 319, rfl⟩
abbrev main_v54 : Ref sig .tc := ⟨.hbm, 320, rfl⟩
abbrev main_v55 : Ref sig .tc := ⟨.hbm, 321, rfl⟩
abbrev main_v56 : Ref sig .tc := ⟨.hbm, 322, rfl⟩
abbrev main_call5_cst : Ref sig .tc := ⟨.hbm, 323, rfl⟩
abbrev main_call5_cst_0 : Ref sig .tc := ⟨.hbm, 324, rfl⟩
abbrev main_call5_call0_v0 : Ref sig .tc := ⟨.hbm, 325, rfl⟩
abbrev main_call5_call0_v1 : Ref sig .tc := ⟨.hbm, 326, rfl⟩
abbrev main_call5_call0_v2 : Ref sig .tc := ⟨.hbm, 327, rfl⟩
abbrev main_call5_call0_v3 : Ref sig .tc := ⟨.hbm, 328, rfl⟩
abbrev main_call5_call0_v4 : Ref sig .tc := ⟨.hbm, 329, rfl⟩
abbrev main_call5_call0_v5 : Ref sig .tc := ⟨.hbm, 330, rfl⟩
abbrev main_call5_call0_v6 : Ref sig .tc := ⟨.hbm, 331, rfl⟩
abbrev main_call5_call0_v7 : Ref sig .tc := ⟨.hbm, 332, rfl⟩
abbrev main_call5_call0_v8 : Ref sig .tc := ⟨.hbm, 333, rfl⟩
abbrev main_call5_call0_c : Ref sig .tc := ⟨.hbm, 334, rfl⟩
abbrev main_call5_call0_v9 : Ref sig .tc := ⟨.hbm, 335, rfl⟩
abbrev main_call5_call0_v10 : Ref sig .tc := ⟨.hbm, 336, rfl⟩
abbrev main_call5_call0_c_0 : Ref sig .tc := ⟨.hbm, 337, rfl⟩
abbrev main_call5_call0_v11 : Ref sig .tc := ⟨.hbm, 338, rfl⟩
abbrev main_call5_call0_v12 : Ref sig .tc := ⟨.hbm, 339, rfl⟩
abbrev main_call5_call0_v13 : Ref sig .tc := ⟨.hbm, 340, rfl⟩
abbrev main_call5_call0_c_1 : Ref sig .tc := ⟨.hbm, 341, rfl⟩
abbrev main_call5_call0_v14 : Ref sig .tc := ⟨.hbm, 342, rfl⟩
abbrev main_call5_call0_v15 : Ref sig .tc := ⟨.hbm, 343, rfl⟩
abbrev main_call5_call0_v16 : Ref sig .tc := ⟨.hbm, 344, rfl⟩
abbrev main_call5_call0_v17 : Ref sig .tc := ⟨.hbm, 345, rfl⟩
abbrev main_call5_call0_call0_v0 : Ref sig .tc := ⟨.hbm, 346, rfl⟩
abbrev main_call5_call0_call0_c : Ref sig .tc := ⟨.hbm, 347, rfl⟩
abbrev main_call5_call0_call0_v1 : Ref sig .tc := ⟨.hbm, 348, rfl⟩
abbrev main_call5_call0_call0_v2 : Ref sig .tc := ⟨.hbm, 349, rfl⟩
abbrev main_call5_call0_call0_v3 : Ref sig .tc := ⟨.hbm, 350, rfl⟩
abbrev main_call5_call0_call0_v4 : Ref sig .tc := ⟨.hbm, 351, rfl⟩
abbrev main_call5_call0_call0_v5 : Ref sig .tc := ⟨.hbm, 352, rfl⟩
abbrev main_call5_call0_call0_v6 : Ref sig .tc := ⟨.hbm, 353, rfl⟩
abbrev main_call5_call0_call0_c_0 : Ref sig .tc := ⟨.hbm, 354, rfl⟩
abbrev main_call5_call0_call0_v7 : Ref sig .tc := ⟨.hbm, 355, rfl⟩
abbrev main_call5_call0_call0_v8 : Ref sig .tc := ⟨.hbm, 356, rfl⟩
abbrev main_call5_call0_call0_c_1 : Ref sig .tc := ⟨.hbm, 357, rfl⟩
abbrev main_call5_call0_call0_v9 : Ref sig .tc := ⟨.hbm, 358, rfl⟩
abbrev main_call5_call0_call0_v10 : Ref sig .tc := ⟨.hbm, 359, rfl⟩
abbrev main_call5_call0_call0_v11 : Ref sig .tc := ⟨.hbm, 360, rfl⟩
abbrev main_call5_call0_call0_v12 : Ref sig .tc := ⟨.hbm, 361, rfl⟩
abbrev main_call5_call0_call0_v13 : Ref sig .tc := ⟨.hbm, 362, rfl⟩
abbrev main_call5_call0_call0_c_2 : Ref sig .tc := ⟨.hbm, 363, rfl⟩
abbrev main_call5_call0_call0_v14 : Ref sig .tc := ⟨.hbm, 364, rfl⟩
abbrev main_call5_call0_call0_v15 : Ref sig .tc := ⟨.hbm, 365, rfl⟩
abbrev main_call5_call0_call0_c_3 : Ref sig .tc := ⟨.hbm, 366, rfl⟩
abbrev main_call5_call0_call0_v16 : Ref sig .tc := ⟨.hbm, 367, rfl⟩
abbrev main_call5_call0_call0_v17 : Ref sig .tc := ⟨.hbm, 368, rfl⟩
abbrev main_call5_call0_call0_v18 : Ref sig .tc := ⟨.hbm, 369, rfl⟩
abbrev main_call5_call0_call0_v19 : Ref sig .tc := ⟨.hbm, 370, rfl⟩
abbrev main_call5_call0_call0_v20 : Ref sig .tc := ⟨.hbm, 371, rfl⟩
abbrev main_call5_call0_call0_c_4 : Ref sig .tc := ⟨.hbm, 372, rfl⟩
abbrev main_call5_call0_call0_v21 : Ref sig .tc := ⟨.hbm, 373, rfl⟩
abbrev main_call5_call0_call0_v22 : Ref sig .tc := ⟨.hbm, 374, rfl⟩
abbrev main_call5_call0_call0_c_5 : Ref sig .tc := ⟨.hbm, 375, rfl⟩
abbrev main_call5_call0_call0_v23 : Ref sig .tc := ⟨.hbm, 376, rfl⟩
abbrev main_call5_call0_call0_v24 : Ref sig .tc := ⟨.hbm, 377, rfl⟩
abbrev main_call5_call0_call0_v25 : Ref sig .tc := ⟨.hbm, 378, rfl⟩
abbrev main_call5_call0_call0_v26 : Ref sig .tc := ⟨.hbm, 379, rfl⟩
abbrev main_call5_call0_call0_v27 : Ref sig .tc := ⟨.hbm, 380, rfl⟩
abbrev main_call5_call0_call0_c_6 : Ref sig .tc := ⟨.hbm, 381, rfl⟩
abbrev main_call5_call0_call0_v28 : Ref sig .tc := ⟨.hbm, 382, rfl⟩
abbrev main_call5_call0_call0_v29 : Ref sig .tc := ⟨.hbm, 383, rfl⟩
abbrev main_call5_call0_call0_c_7 : Ref sig .tc := ⟨.hbm, 384, rfl⟩
abbrev main_call5_call0_call0_v30 : Ref sig .tc := ⟨.hbm, 385, rfl⟩
abbrev main_call5_call0_call0_v31 : Ref sig .tc := ⟨.hbm, 386, rfl⟩
abbrev main_call5_call0_call0_v32 : Ref sig .tc := ⟨.hbm, 387, rfl⟩
abbrev main_call5_call0_call0_v33 : Ref sig .tc := ⟨.hbm, 388, rfl⟩
abbrev main_call5_call0_call0_v34 : Ref sig .tc := ⟨.hbm, 389, rfl⟩
abbrev main_call5_call0_call0_v35 : Ref sig .tc := ⟨.hbm, 390, rfl⟩
abbrev main_call5_call0_call0_v36 : Ref sig .tc := ⟨.hbm, 391, rfl⟩
abbrev main_call5_call0_call0_v37 : Ref sig .tc := ⟨.hbm, 392, rfl⟩
abbrev main_call5_call0_call0_c_8 : Ref sig .tc := ⟨.hbm, 393, rfl⟩
abbrev main_call5_call0_call0_v38 : Ref sig .tc := ⟨.hbm, 394, rfl⟩
abbrev main_call5_call0_call0_v39 : Ref sig .tc := ⟨.hbm, 395, rfl⟩
abbrev main_call5_call0_call0_v40 : Ref sig .tc := ⟨.hbm, 396, rfl⟩
abbrev main_call5_call0_call0_c_9 : Ref sig .tc := ⟨.hbm, 397, rfl⟩
abbrev main_call5_call0_call0_v41 : Ref sig .tc := ⟨.hbm, 398, rfl⟩
abbrev main_call5_call0_call0_v42 : Ref sig .tc := ⟨.hbm, 399, rfl⟩
abbrev main_call5_call0_call0_c_10 : Ref sig .tc := ⟨.hbm, 400, rfl⟩
abbrev main_call5_call0_call0_v43 : Ref sig .tc := ⟨.hbm, 401, rfl⟩
abbrev main_call5_call0_call0_v44 : Ref sig .tc := ⟨.hbm, 402, rfl⟩
abbrev main_call5_call0_call0_v45 : Ref sig .tc := ⟨.hbm, 403, rfl⟩
abbrev main_call5_call0_call0_v46 : Ref sig .tc := ⟨.hbm, 404, rfl⟩
abbrev main_call5_call0_call0_v47 : Ref sig .tc := ⟨.hbm, 405, rfl⟩
abbrev main_call5_call0_call0_c_11 : Ref sig .tc := ⟨.hbm, 406, rfl⟩
abbrev main_call5_call0_call0_v48 : Ref sig .tc := ⟨.hbm, 407, rfl⟩
abbrev main_call5_call0_call0_v49 : Ref sig .tc := ⟨.hbm, 408, rfl⟩
abbrev main_call5_call0_call0_c_12 : Ref sig .tc := ⟨.hbm, 409, rfl⟩
abbrev main_call5_call0_call0_v50 : Ref sig .tc := ⟨.hbm, 410, rfl⟩
abbrev main_call5_call0_call0_v51 : Ref sig .tc := ⟨.hbm, 411, rfl⟩
abbrev main_call5_call0_call0_v52 : Ref sig .tc := ⟨.hbm, 412, rfl⟩
abbrev main_call5_call0_call0_v53 : Ref sig .tc := ⟨.hbm, 413, rfl⟩
abbrev main_call5_call0_call0_v54 : Ref sig .tc := ⟨.hbm, 414, rfl⟩
abbrev main_call5_call0_call0_c_13 : Ref sig .tc := ⟨.hbm, 415, rfl⟩
abbrev main_call5_call0_call0_v55 : Ref sig .tc := ⟨.hbm, 416, rfl⟩
abbrev main_call5_call0_call0_v56 : Ref sig .tc := ⟨.hbm, 417, rfl⟩
abbrev main_call5_call0_call0_c_14 : Ref sig .tc := ⟨.hbm, 418, rfl⟩
abbrev main_call5_call0_call0_v57 : Ref sig .tc := ⟨.hbm, 419, rfl⟩
abbrev main_call5_call0_call0_v58 : Ref sig .tc := ⟨.hbm, 420, rfl⟩
abbrev main_call5_call0_call0_v59 : Ref sig .tc := ⟨.hbm, 421, rfl⟩
abbrev main_call5_call0_call0_v60 : Ref sig .tc := ⟨.hbm, 422, rfl⟩
abbrev main_call5_call0_call0_v61 : Ref sig .tc := ⟨.hbm, 423, rfl⟩
abbrev main_call5_call0_call0_c_15 : Ref sig .tc := ⟨.hbm, 424, rfl⟩
abbrev main_call5_call0_call0_v62 : Ref sig .tc := ⟨.hbm, 425, rfl⟩
abbrev main_call5_call0_call0_v63 : Ref sig .tc := ⟨.hbm, 426, rfl⟩
abbrev main_call5_call0_call0_c_16 : Ref sig .tc := ⟨.hbm, 427, rfl⟩
abbrev main_call5_call0_call0_v64 : Ref sig .tc := ⟨.hbm, 428, rfl⟩
abbrev main_call5_call0_call0_v65 : Ref sig .tc := ⟨.hbm, 429, rfl⟩
abbrev main_call5_call0_call0_v66 : Ref sig .tc := ⟨.hbm, 430, rfl⟩
abbrev main_call5_call0_call0_v67 : Ref sig .tc := ⟨.hbm, 431, rfl⟩
abbrev main_call5_call0_call0_v68 : Ref sig .tc := ⟨.hbm, 432, rfl⟩
abbrev main_call5_call0_call0_v69 : Ref sig .tc := ⟨.hbm, 433, rfl⟩
abbrev main_call5_call0_call0_v70 : Ref sig .tc := ⟨.hbm, 434, rfl⟩
abbrev main_call5_call0_call0_v71 : Ref sig .tc := ⟨.hbm, 435, rfl⟩
abbrev main_call5_call0_call0_c_17 : Ref sig .tc := ⟨.hbm, 436, rfl⟩
abbrev main_call5_call0_call0_v72 : Ref sig .tc := ⟨.hbm, 437, rfl⟩
abbrev main_call5_call0_call0_v73 : Ref sig .tc := ⟨.hbm, 438, rfl⟩
abbrev main_call5_call0_call0_v74 : Ref sig .tc := ⟨.hbm, 439, rfl⟩
abbrev main_call5_call0_call0_c_18 : Ref sig .tc := ⟨.hbm, 440, rfl⟩
abbrev main_call5_call0_call0_v75 : Ref sig .tc := ⟨.hbm, 441, rfl⟩
abbrev main_call5_call0_call0_v76 : Ref sig .tc := ⟨.hbm, 442, rfl⟩
abbrev main_call5_call0_call0_c_19 : Ref sig .tc := ⟨.hbm, 443, rfl⟩
abbrev main_call5_call0_call0_v77 : Ref sig .tc := ⟨.hbm, 444, rfl⟩
abbrev main_call5_call0_call0_v78 : Ref sig .tc := ⟨.hbm, 445, rfl⟩
abbrev main_call5_call0_call0_v79 : Ref sig .tc := ⟨.hbm, 446, rfl⟩
abbrev main_call5_call0_call0_v80 : Ref sig .tc := ⟨.hbm, 447, rfl⟩
abbrev main_call5_call0_call0_v81 : Ref sig .tc := ⟨.hbm, 448, rfl⟩
abbrev main_call5_call0_call0_c_20 : Ref sig .tc := ⟨.hbm, 449, rfl⟩
abbrev main_call5_call0_call0_v82 : Ref sig .tc := ⟨.hbm, 450, rfl⟩
abbrev main_call5_call0_call0_v83 : Ref sig .tc := ⟨.hbm, 451, rfl⟩
abbrev main_call5_call0_call0_c_21 : Ref sig .tc := ⟨.hbm, 452, rfl⟩
abbrev main_call5_call0_call0_v84 : Ref sig .tc := ⟨.hbm, 453, rfl⟩
abbrev main_call5_call0_call0_v85 : Ref sig .tc := ⟨.hbm, 454, rfl⟩
abbrev main_call5_call0_call0_v86 : Ref sig .tc := ⟨.hbm, 455, rfl⟩
abbrev main_call5_call0_call0_v87 : Ref sig .tc := ⟨.hbm, 456, rfl⟩
abbrev main_call5_call0_call0_v88 : Ref sig .tc := ⟨.hbm, 457, rfl⟩
abbrev main_call5_call0_call0_c_22 : Ref sig .tc := ⟨.hbm, 458, rfl⟩
abbrev main_call5_call0_call0_v89 : Ref sig .tc := ⟨.hbm, 459, rfl⟩
abbrev main_call5_call0_call0_v90 : Ref sig .tc := ⟨.hbm, 460, rfl⟩
abbrev main_call5_call0_call0_c_23 : Ref sig .tc := ⟨.hbm, 461, rfl⟩
abbrev main_call5_call0_call0_v91 : Ref sig .tc := ⟨.hbm, 462, rfl⟩
abbrev main_call5_call0_call0_v92 : Ref sig .tc := ⟨.hbm, 463, rfl⟩
abbrev main_call5_call0_call0_v93 : Ref sig .tc := ⟨.hbm, 464, rfl⟩
abbrev main_call5_call0_call0_v94 : Ref sig .tc := ⟨.hbm, 465, rfl⟩
abbrev main_call5_call0_call0_v95 : Ref sig .tc := ⟨.hbm, 466, rfl⟩
abbrev main_call5_call0_call0_c_24 : Ref sig .tc := ⟨.hbm, 467, rfl⟩
abbrev main_call5_call0_call0_v96 : Ref sig .tc := ⟨.hbm, 468, rfl⟩
abbrev main_call5_call0_call0_v97 : Ref sig .tc := ⟨.hbm, 469, rfl⟩
abbrev main_call5_call0_call0_c_25 : Ref sig .tc := ⟨.hbm, 470, rfl⟩
abbrev main_call5_call0_call0_v98 : Ref sig .tc := ⟨.hbm, 471, rfl⟩
abbrev main_call5_call0_call0_v99 : Ref sig .tc := ⟨.hbm, 472, rfl⟩
abbrev main_call5_call0_call0_v100 : Ref sig .tc := ⟨.hbm, 473, rfl⟩
abbrev main_call5_call0_call0_v101 : Ref sig .tc := ⟨.hbm, 474, rfl⟩
abbrev main_call5_call0_call0_v102 : Ref sig .tc := ⟨.hbm, 475, rfl⟩
abbrev main_call5_call0_call0_v103 : Ref sig .tc := ⟨.hbm, 476, rfl⟩
abbrev main_call5_call0_call0_v104 : Ref sig .tc := ⟨.hbm, 477, rfl⟩
abbrev main_call5_call0_call0_v105 : Ref sig .tc := ⟨.hbm, 478, rfl⟩
abbrev main_call5_call0_call0_c_26 : Ref sig .tc := ⟨.hbm, 479, rfl⟩
abbrev main_call5_call0_call0_v106 : Ref sig .tc := ⟨.hbm, 480, rfl⟩
abbrev main_call5_call0_call0_v107 : Ref sig .tc := ⟨.hbm, 481, rfl⟩
abbrev main_call5_call0_call0_v108 : Ref sig .tc := ⟨.hbm, 482, rfl⟩
abbrev main_call5_call0_call0_c_27 : Ref sig .tc := ⟨.hbm, 483, rfl⟩
abbrev main_call5_call0_call0_v109 : Ref sig .tc := ⟨.hbm, 484, rfl⟩
abbrev main_call5_call0_call0_v110 : Ref sig .tc := ⟨.hbm, 485, rfl⟩
abbrev main_call5_call0_call0_c_28 : Ref sig .tc := ⟨.hbm, 486, rfl⟩
abbrev main_call5_call0_call0_v111 : Ref sig .tc := ⟨.hbm, 487, rfl⟩
abbrev main_call5_call0_call0_v112 : Ref sig .tc := ⟨.hbm, 488, rfl⟩
abbrev main_call5_call0_call0_v113 : Ref sig .tc := ⟨.hbm, 489, rfl⟩
abbrev main_call5_call0_call0_v114 : Ref sig .tc := ⟨.hbm, 490, rfl⟩
abbrev main_call5_call0_call0_v115 : Ref sig .tc := ⟨.hbm, 491, rfl⟩
abbrev main_call5_call0_call0_c_29 : Ref sig .tc := ⟨.hbm, 492, rfl⟩
abbrev main_call5_call0_call0_v116 : Ref sig .tc := ⟨.hbm, 493, rfl⟩
abbrev main_call5_call0_call0_v117 : Ref sig .tc := ⟨.hbm, 494, rfl⟩
abbrev main_call5_call0_call0_c_30 : Ref sig .tc := ⟨.hbm, 495, rfl⟩
abbrev main_call5_call0_call0_v118 : Ref sig .tc := ⟨.hbm, 496, rfl⟩
abbrev main_call5_call0_call0_v119 : Ref sig .tc := ⟨.hbm, 497, rfl⟩
abbrev main_call5_call0_call0_v120 : Ref sig .tc := ⟨.hbm, 498, rfl⟩
abbrev main_call5_call0_call0_v121 : Ref sig .tc := ⟨.hbm, 499, rfl⟩
abbrev main_call5_call0_call0_v122 : Ref sig .tc := ⟨.hbm, 500, rfl⟩
abbrev main_call5_call0_call0_c_31 : Ref sig .tc := ⟨.hbm, 501, rfl⟩
abbrev main_call5_call0_call0_v123 : Ref sig .tc := ⟨.hbm, 502, rfl⟩
abbrev main_call5_call0_call0_v124 : Ref sig .tc := ⟨.hbm, 503, rfl⟩
abbrev main_call5_call0_call0_c_32 : Ref sig .tc := ⟨.hbm, 504, rfl⟩
abbrev main_call5_call0_call0_v125 : Ref sig .tc := ⟨.hbm, 505, rfl⟩
abbrev main_call5_call0_call0_v126 : Ref sig .tc := ⟨.hbm, 506, rfl⟩
abbrev main_call5_call0_call0_v127 : Ref sig .tc := ⟨.hbm, 507, rfl⟩
abbrev main_call5_call0_call0_v128 : Ref sig .tc := ⟨.hbm, 508, rfl⟩
abbrev main_call5_call0_call0_v129 : Ref sig .tc := ⟨.hbm, 509, rfl⟩
abbrev main_call5_call0_call0_c_33 : Ref sig .tc := ⟨.hbm, 510, rfl⟩
abbrev main_call5_call0_call0_v130 : Ref sig .tc := ⟨.hbm, 511, rfl⟩
abbrev main_call5_call0_call0_v131 : Ref sig .tc := ⟨.hbm, 512, rfl⟩
abbrev main_call5_call0_call0_c_34 : Ref sig .tc := ⟨.hbm, 513, rfl⟩
abbrev main_call5_call0_call0_v132 : Ref sig .tc := ⟨.hbm, 514, rfl⟩
abbrev main_call5_call0_call0_v133 : Ref sig .tc := ⟨.hbm, 515, rfl⟩
abbrev main_call5_call0_call0_v134 : Ref sig .tc := ⟨.hbm, 516, rfl⟩
abbrev main_call5_call0_call0_v135 : Ref sig .tc := ⟨.hbm, 517, rfl⟩
abbrev main_call5_call0_call0_v136 : Ref sig .tc := ⟨.hbm, 518, rfl⟩
abbrev main_call5_call0_call0_v137 : Ref sig .tc := ⟨.hbm, 519, rfl⟩
abbrev main_call5_call0_call0_v138 : Ref sig .tc := ⟨.hbm, 520, rfl⟩
abbrev main_call5_call0_call0_v139 : Ref sig .tc := ⟨.hbm, 521, rfl⟩
abbrev main_call5_call0_call0_c_35 : Ref sig .tc := ⟨.hbm, 522, rfl⟩
abbrev main_call5_call0_call0_v140 : Ref sig .tc := ⟨.hbm, 523, rfl⟩
abbrev main_call5_call0_call0_v141 : Ref sig .tc := ⟨.hbm, 524, rfl⟩
abbrev main_call5_call0_call0_v142 : Ref sig .tc := ⟨.hbm, 525, rfl⟩
abbrev main_call5_call0_call0_c_36 : Ref sig .tc := ⟨.hbm, 526, rfl⟩
abbrev main_call5_call0_call0_v143 : Ref sig .tc := ⟨.hbm, 527, rfl⟩
abbrev main_call5_call0_call0_v144 : Ref sig .tc := ⟨.hbm, 528, rfl⟩
abbrev main_call5_call0_call0_c_37 : Ref sig .tc := ⟨.hbm, 529, rfl⟩
abbrev main_call5_call0_call0_v145 : Ref sig .tc := ⟨.hbm, 530, rfl⟩
abbrev main_call5_call0_call0_v146 : Ref sig .tc := ⟨.hbm, 531, rfl⟩
abbrev main_call5_call0_call0_v147 : Ref sig .tc := ⟨.hbm, 532, rfl⟩
abbrev main_call5_call0_call0_v148 : Ref sig .tc := ⟨.hbm, 533, rfl⟩
abbrev main_call5_call0_call0_v149 : Ref sig .tc := ⟨.hbm, 534, rfl⟩
abbrev main_call5_call0_call0_c_38 : Ref sig .tc := ⟨.hbm, 535, rfl⟩
abbrev main_call5_call0_call0_v150 : Ref sig .tc := ⟨.hbm, 536, rfl⟩
abbrev main_call5_call0_call0_v151 : Ref sig .tc := ⟨.hbm, 537, rfl⟩
abbrev main_call5_call0_call0_c_39 : Ref sig .tc := ⟨.hbm, 538, rfl⟩
abbrev main_call5_call0_call0_v152 : Ref sig .tc := ⟨.hbm, 539, rfl⟩
abbrev main_call5_call0_call0_v153 : Ref sig .tc := ⟨.hbm, 540, rfl⟩
abbrev main_call5_call0_call0_v154 : Ref sig .tc := ⟨.hbm, 541, rfl⟩
abbrev main_call5_call0_call0_v155 : Ref sig .tc := ⟨.hbm, 542, rfl⟩
abbrev main_call5_call0_call0_v156 : Ref sig .tc := ⟨.hbm, 543, rfl⟩
abbrev main_call5_call0_call0_c_40 : Ref sig .tc := ⟨.hbm, 544, rfl⟩
abbrev main_call5_call0_call0_v157 : Ref sig .tc := ⟨.hbm, 545, rfl⟩
abbrev main_call5_call0_call0_v158 : Ref sig .tc := ⟨.hbm, 546, rfl⟩
abbrev main_call5_call0_call0_c_41 : Ref sig .tc := ⟨.hbm, 547, rfl⟩
abbrev main_call5_call0_call0_v159 : Ref sig .tc := ⟨.hbm, 548, rfl⟩
abbrev main_call5_call0_call0_v160 : Ref sig .tc := ⟨.hbm, 549, rfl⟩
abbrev main_call5_call0_call0_v161 : Ref sig .tc := ⟨.hbm, 550, rfl⟩
abbrev main_call5_call0_call0_v162 : Ref sig .tc := ⟨.hbm, 551, rfl⟩
abbrev main_call5_call0_call0_v163 : Ref sig .tc := ⟨.hbm, 552, rfl⟩
abbrev main_call5_call0_call0_c_42 : Ref sig .tc := ⟨.hbm, 553, rfl⟩
abbrev main_call5_call0_call0_v164 : Ref sig .tc := ⟨.hbm, 554, rfl⟩
abbrev main_call5_call0_call0_v165 : Ref sig .tc := ⟨.hbm, 555, rfl⟩
abbrev main_call5_call0_call0_c_43 : Ref sig .tc := ⟨.hbm, 556, rfl⟩
abbrev main_call5_call0_call0_v166 : Ref sig .tc := ⟨.hbm, 557, rfl⟩
abbrev main_call5_call0_call0_v167 : Ref sig .tc := ⟨.hbm, 558, rfl⟩
abbrev main_call5_call0_call0_v168 : Ref sig .tc := ⟨.hbm, 559, rfl⟩
abbrev main_call5_call0_call0_v169 : Ref sig .tc := ⟨.hbm, 560, rfl⟩
abbrev main_call5_call0_call0_v170 : Ref sig .tc := ⟨.hbm, 561, rfl⟩
abbrev main_call5_call0_v18_0 : Ref sig .tc := ⟨.hbm, 562, rfl⟩
abbrev main_call5_call0_call0_v172 : Ref sig .tc := ⟨.hbm, 563, rfl⟩
abbrev main_call5_call0_call0_v173 : Ref sig .tc := ⟨.hbm, 564, rfl⟩
abbrev main_call5_call0_call0_c_44 : Ref sig .tc := ⟨.hbm, 565, rfl⟩
abbrev main_call5_call0_call0_v174 : Ref sig .tc := ⟨.hbm, 566, rfl⟩
abbrev main_call5_call0_v18_1 : Ref sig .tc := ⟨.hbm, 567, rfl⟩
abbrev main_call5_call0_v19 : Ref sig .tc := ⟨.hbm, 568, rfl⟩
abbrev main_call5_call0_c_2 : Ref sig .tc := ⟨.hbm, 569, rfl⟩
abbrev main_call5_call0_v20 : Ref sig .tc := ⟨.hbm, 570, rfl⟩
abbrev main_call5_call0_v21 : Ref sig .tc := ⟨.hbm, 571, rfl⟩
abbrev main_call5_call0_c_3 : Ref sig .tc := ⟨.hbm, 572, rfl⟩
abbrev main_call5_call0_v22 : Ref sig .tc := ⟨.hbm, 573, rfl⟩
abbrev main_call5_call0_v23 : Ref sig .tc := ⟨.hbm, 574, rfl⟩
abbrev main_call5_call0_v24 : Ref sig .tc := ⟨.hbm, 575, rfl⟩
abbrev main_call5_call0_cst : Ref sig .tc := ⟨.hbm, 576, rfl⟩
abbrev main_call5_call0_v25 : Ref sig .tc := ⟨.hbm, 577, rfl⟩
abbrev main_call5_call0_v26 : Ref sig .tc := ⟨.hbm, 578, rfl⟩
abbrev main_call5_call0_v27 : Ref sig .tc := ⟨.hbm, 579, rfl⟩
abbrev main_call5_call0_v28 : Ref sig .tc := ⟨.hbm, 580, rfl⟩
abbrev main_call5_call0_v29 : Ref sig .tc := ⟨.hbm, 581, rfl⟩
abbrev main_call5_call0_v30 : Ref sig .tc := ⟨.hbm, 582, rfl⟩
abbrev main_call5_call0_v31 : Ref sig .tc := ⟨.hbm, 583, rfl⟩
abbrev main_call5_call0_v32 : Ref sig .tc := ⟨.hbm, 584, rfl⟩
abbrev main_call5_v0 : Ref sig .tc := ⟨.hbm, 585, rfl⟩
abbrev main_call5_v1 : Ref sig .tc := ⟨.hbm, 586, rfl⟩
abbrev main_call5_v2 : Ref sig .tc := ⟨.hbm, 587, rfl⟩
abbrev main_call5_v3 : Ref sig .tc := ⟨.hbm, 588, rfl⟩
abbrev main_v57 : Ref sig .tc := ⟨.hbm, 589, rfl⟩
abbrev main_v58 : Ref sig .tc := ⟨.hbm, 590, rfl⟩
abbrev main_call6_v0 : Ref sig .tc := ⟨.hbm, 591, rfl⟩
abbrev main_call6_cst : Ref sig .tc := ⟨.hbm, 592, rfl⟩
abbrev main_call6_c : Ref sig .tc := ⟨.hbm, 593, rfl⟩
abbrev main_call6_v1_0 : Ref sig .tc := ⟨.hbm, 594, rfl⟩
abbrev main_v59 : Ref sig .tc := ⟨.hbm, 595, rfl⟩
abbrev main_v60 : Ref sig .tc := ⟨.hbm, 596, rfl⟩
abbrev main_v61 : Ref sig .tc := ⟨.hbm, 597, rfl⟩
abbrev main_cst_17 : Ref sig .tc := ⟨.hbm, 598, rfl⟩
abbrev main_cst_18 : Ref sig .tc := ⟨.hbm, 599, rfl⟩
abbrev main_call7_v0 : Ref sig .tc := ⟨.hbm, 600, rfl⟩
abbrev main_call7_v1 : Ref sig .tc := ⟨.hbm, 601, rfl⟩
abbrev main_call7_v2 : Ref sig .tc := ⟨.hbm, 602, rfl⟩
abbrev main_call7_v3 : Ref sig .tc := ⟨.hbm, 603, rfl⟩
abbrev main_call7_v4 : Ref sig .tc := ⟨.hbm, 604, rfl⟩
abbrev main_call7_v5 : Ref sig .tc := ⟨.hbm, 605, rfl⟩
abbrev main_call7_v6 : Ref sig .tc := ⟨.hbm, 606, rfl⟩
abbrev main_call7_v7 : Ref sig .tc := ⟨.hbm, 607, rfl⟩
abbrev main_call7_v8 : Ref sig .tc := ⟨.hbm, 608, rfl⟩
abbrev main_call7_v9 : Ref sig .tc := ⟨.hbm, 609, rfl⟩
abbrev main_call7_c : Ref sig .tc := ⟨.hbm, 610, rfl⟩
abbrev main_call7_v10 : Ref sig .tc := ⟨.hbm, 611, rfl⟩
abbrev main_call7_v11 : Ref sig .tc := ⟨.hbm, 612, rfl⟩
abbrev main_call7_c_0 : Ref sig .tc := ⟨.hbm, 613, rfl⟩
abbrev main_call7_v12 : Ref sig .tc := ⟨.hbm, 614, rfl⟩
abbrev main_call7_v13 : Ref sig .tc := ⟨.hbm, 615, rfl⟩
abbrev main_call7_v14 : Ref sig .tc := ⟨.hbm, 616, rfl⟩
abbrev main_call7_c_1 : Ref sig .tc := ⟨.hbm, 617, rfl⟩
abbrev main_call7_v15 : Ref sig .tc := ⟨.hbm, 618, rfl⟩
abbrev main_call7_v16 : Ref sig .tc := ⟨.hbm, 619, rfl⟩
abbrev main_call7_v17 : Ref sig .tc := ⟨.hbm, 620, rfl⟩
abbrev main_call7_v18 : Ref sig .tc := ⟨.hbm, 621, rfl⟩
abbrev main_call7_call0_v0 : Ref sig .tc := ⟨.hbm, 622, rfl⟩
abbrev main_call7_call0_c : Ref sig .tc := ⟨.hbm, 623, rfl⟩
abbrev main_call7_call0_v1 : Ref sig .tc := ⟨.hbm, 624, rfl⟩
abbrev main_call7_call0_v2 : Ref sig .tc := ⟨.hbm, 625, rfl⟩
abbrev main_call7_call0_v3 : Ref sig .tc := ⟨.hbm, 626, rfl⟩
abbrev main_call7_call0_v4 : Ref sig .tc := ⟨.hbm, 627, rfl⟩
abbrev main_call7_call0_v5 : Ref sig .tc := ⟨.hbm, 628, rfl⟩
abbrev main_call7_call0_v6 : Ref sig .tc := ⟨.hbm, 629, rfl⟩
abbrev main_call7_call0_c_0 : Ref sig .tc := ⟨.hbm, 630, rfl⟩
abbrev main_call7_call0_v7 : Ref sig .tc := ⟨.hbm, 631, rfl⟩
abbrev main_call7_call0_v8 : Ref sig .tc := ⟨.hbm, 632, rfl⟩
abbrev main_call7_call0_c_1 : Ref sig .tc := ⟨.hbm, 633, rfl⟩
abbrev main_call7_call0_v9 : Ref sig .tc := ⟨.hbm, 634, rfl⟩
abbrev main_call7_call0_v10 : Ref sig .tc := ⟨.hbm, 635, rfl⟩
abbrev main_call7_call0_v11 : Ref sig .tc := ⟨.hbm, 636, rfl⟩
abbrev main_call7_call0_v12 : Ref sig .tc := ⟨.hbm, 637, rfl⟩
abbrev main_call7_call0_v13 : Ref sig .tc := ⟨.hbm, 638, rfl⟩
abbrev main_call7_call0_c_2 : Ref sig .tc := ⟨.hbm, 639, rfl⟩
abbrev main_call7_call0_v14 : Ref sig .tc := ⟨.hbm, 640, rfl⟩
abbrev main_call7_call0_v15 : Ref sig .tc := ⟨.hbm, 641, rfl⟩
abbrev main_call7_call0_c_3 : Ref sig .tc := ⟨.hbm, 642, rfl⟩
abbrev main_call7_call0_v16 : Ref sig .tc := ⟨.hbm, 643, rfl⟩
abbrev main_call7_call0_v17 : Ref sig .tc := ⟨.hbm, 644, rfl⟩
abbrev main_call7_call0_v18 : Ref sig .tc := ⟨.hbm, 645, rfl⟩
abbrev main_call7_call0_v19 : Ref sig .tc := ⟨.hbm, 646, rfl⟩
abbrev main_call7_call0_v20 : Ref sig .tc := ⟨.hbm, 647, rfl⟩
abbrev main_call7_call0_c_4 : Ref sig .tc := ⟨.hbm, 648, rfl⟩
abbrev main_call7_call0_v21 : Ref sig .tc := ⟨.hbm, 649, rfl⟩
abbrev main_call7_call0_v22 : Ref sig .tc := ⟨.hbm, 650, rfl⟩
abbrev main_call7_call0_c_5 : Ref sig .tc := ⟨.hbm, 651, rfl⟩
abbrev main_call7_call0_v23 : Ref sig .tc := ⟨.hbm, 652, rfl⟩
abbrev main_call7_call0_v24 : Ref sig .tc := ⟨.hbm, 653, rfl⟩
abbrev main_call7_call0_v25 : Ref sig .tc := ⟨.hbm, 654, rfl⟩
abbrev main_call7_call0_v26 : Ref sig .tc := ⟨.hbm, 655, rfl⟩
abbrev main_call7_call0_v27 : Ref sig .tc := ⟨.hbm, 656, rfl⟩
abbrev main_call7_call0_c_6 : Ref sig .tc := ⟨.hbm, 657, rfl⟩
abbrev main_call7_call0_v28 : Ref sig .tc := ⟨.hbm, 658, rfl⟩
abbrev main_call7_call0_v29 : Ref sig .tc := ⟨.hbm, 659, rfl⟩
abbrev main_call7_call0_c_7 : Ref sig .tc := ⟨.hbm, 660, rfl⟩
abbrev main_call7_call0_v30 : Ref sig .tc := ⟨.hbm, 661, rfl⟩
abbrev main_call7_call0_v31 : Ref sig .tc := ⟨.hbm, 662, rfl⟩
abbrev main_call7_call0_v32 : Ref sig .tc := ⟨.hbm, 663, rfl⟩
abbrev main_call7_call0_v33 : Ref sig .tc := ⟨.hbm, 664, rfl⟩
abbrev main_call7_call0_v34 : Ref sig .tc := ⟨.hbm, 665, rfl⟩
abbrev main_call7_call0_v35 : Ref sig .tc := ⟨.hbm, 666, rfl⟩
abbrev main_call7_call0_v36 : Ref sig .tc := ⟨.hbm, 667, rfl⟩
abbrev main_call7_call0_v37 : Ref sig .tc := ⟨.hbm, 668, rfl⟩
abbrev main_call7_call0_c_8 : Ref sig .tc := ⟨.hbm, 669, rfl⟩
abbrev main_call7_call0_v38 : Ref sig .tc := ⟨.hbm, 670, rfl⟩
abbrev main_call7_call0_v39 : Ref sig .tc := ⟨.hbm, 671, rfl⟩
abbrev main_call7_call0_v40 : Ref sig .tc := ⟨.hbm, 672, rfl⟩
abbrev main_call7_call0_c_9 : Ref sig .tc := ⟨.hbm, 673, rfl⟩
abbrev main_call7_call0_v41 : Ref sig .tc := ⟨.hbm, 674, rfl⟩
abbrev main_call7_call0_v42 : Ref sig .tc := ⟨.hbm, 675, rfl⟩
abbrev main_call7_call0_c_10 : Ref sig .tc := ⟨.hbm, 676, rfl⟩
abbrev main_call7_call0_v43 : Ref sig .tc := ⟨.hbm, 677, rfl⟩
abbrev main_call7_call0_v44 : Ref sig .tc := ⟨.hbm, 678, rfl⟩
abbrev main_call7_call0_v45 : Ref sig .tc := ⟨.hbm, 679, rfl⟩
abbrev main_call7_call0_v46 : Ref sig .tc := ⟨.hbm, 680, rfl⟩
abbrev main_call7_call0_v47 : Ref sig .tc := ⟨.hbm, 681, rfl⟩
abbrev main_call7_call0_c_11 : Ref sig .tc := ⟨.hbm, 682, rfl⟩
abbrev main_call7_call0_v48 : Ref sig .tc := ⟨.hbm, 683, rfl⟩
abbrev main_call7_call0_v49 : Ref sig .tc := ⟨.hbm, 684, rfl⟩
abbrev main_call7_call0_c_12 : Ref sig .tc := ⟨.hbm, 685, rfl⟩
abbrev main_call7_call0_v50 : Ref sig .tc := ⟨.hbm, 686, rfl⟩
abbrev main_call7_call0_v51 : Ref sig .tc := ⟨.hbm, 687, rfl⟩
abbrev main_call7_call0_v52 : Ref sig .tc := ⟨.hbm, 688, rfl⟩
abbrev main_call7_call0_v53 : Ref sig .tc := ⟨.hbm, 689, rfl⟩
abbrev main_call7_call0_v54 : Ref sig .tc := ⟨.hbm, 690, rfl⟩
abbrev main_call7_call0_c_13 : Ref sig .tc := ⟨.hbm, 691, rfl⟩
abbrev main_call7_call0_v55 : Ref sig .tc := ⟨.hbm, 692, rfl⟩
abbrev main_call7_call0_v56 : Ref sig .tc := ⟨.hbm, 693, rfl⟩
abbrev main_call7_call0_c_14 : Ref sig .tc := ⟨.hbm, 694, rfl⟩
abbrev main_call7_call0_v57 : Ref sig .tc := ⟨.hbm, 695, rfl⟩
abbrev main_call7_call0_v58 : Ref sig .tc := ⟨.hbm, 696, rfl⟩
abbrev main_call7_call0_v59 : Ref sig .tc := ⟨.hbm, 697, rfl⟩
abbrev main_call7_call0_v60 : Ref sig .tc := ⟨.hbm, 698, rfl⟩
abbrev main_call7_call0_v61 : Ref sig .tc := ⟨.hbm, 699, rfl⟩
abbrev main_call7_call0_c_15 : Ref sig .tc := ⟨.hbm, 700, rfl⟩
abbrev main_call7_call0_v62 : Ref sig .tc := ⟨.hbm, 701, rfl⟩
abbrev main_call7_call0_v63 : Ref sig .tc := ⟨.hbm, 702, rfl⟩
abbrev main_call7_call0_c_16 : Ref sig .tc := ⟨.hbm, 703, rfl⟩
abbrev main_call7_call0_v64 : Ref sig .tc := ⟨.hbm, 704, rfl⟩
abbrev main_call7_call0_v65 : Ref sig .tc := ⟨.hbm, 705, rfl⟩
abbrev main_call7_call0_v66 : Ref sig .tc := ⟨.hbm, 706, rfl⟩
abbrev main_call7_call0_v67 : Ref sig .tc := ⟨.hbm, 707, rfl⟩
abbrev main_call7_call0_v68 : Ref sig .tc := ⟨.hbm, 708, rfl⟩
abbrev main_call7_call0_v69 : Ref sig .tc := ⟨.hbm, 709, rfl⟩
abbrev main_call7_call0_v70 : Ref sig .tc := ⟨.hbm, 710, rfl⟩
abbrev main_call7_call0_v71 : Ref sig .tc := ⟨.hbm, 711, rfl⟩
abbrev main_call7_call0_c_17 : Ref sig .tc := ⟨.hbm, 712, rfl⟩
abbrev main_call7_call0_v72 : Ref sig .tc := ⟨.hbm, 713, rfl⟩
abbrev main_call7_call0_v73 : Ref sig .tc := ⟨.hbm, 714, rfl⟩
abbrev main_call7_call0_v74 : Ref sig .tc := ⟨.hbm, 715, rfl⟩
abbrev main_call7_call0_c_18 : Ref sig .tc := ⟨.hbm, 716, rfl⟩
abbrev main_call7_call0_v75 : Ref sig .tc := ⟨.hbm, 717, rfl⟩
abbrev main_call7_call0_v76 : Ref sig .tc := ⟨.hbm, 718, rfl⟩
abbrev main_call7_call0_c_19 : Ref sig .tc := ⟨.hbm, 719, rfl⟩
abbrev main_call7_call0_v77 : Ref sig .tc := ⟨.hbm, 720, rfl⟩
abbrev main_call7_call0_v78 : Ref sig .tc := ⟨.hbm, 721, rfl⟩
abbrev main_call7_call0_v79 : Ref sig .tc := ⟨.hbm, 722, rfl⟩
abbrev main_call7_call0_v80 : Ref sig .tc := ⟨.hbm, 723, rfl⟩
abbrev main_call7_call0_v81 : Ref sig .tc := ⟨.hbm, 724, rfl⟩
abbrev main_call7_call0_c_20 : Ref sig .tc := ⟨.hbm, 725, rfl⟩
abbrev main_call7_call0_v82 : Ref sig .tc := ⟨.hbm, 726, rfl⟩
abbrev main_call7_call0_v83 : Ref sig .tc := ⟨.hbm, 727, rfl⟩
abbrev main_call7_call0_c_21 : Ref sig .tc := ⟨.hbm, 728, rfl⟩
abbrev main_call7_call0_v84 : Ref sig .tc := ⟨.hbm, 729, rfl⟩
abbrev main_call7_call0_v85 : Ref sig .tc := ⟨.hbm, 730, rfl⟩
abbrev main_call7_call0_v86 : Ref sig .tc := ⟨.hbm, 731, rfl⟩
abbrev main_call7_call0_v87 : Ref sig .tc := ⟨.hbm, 732, rfl⟩
abbrev main_call7_call0_v88 : Ref sig .tc := ⟨.hbm, 733, rfl⟩
abbrev main_call7_call0_c_22 : Ref sig .tc := ⟨.hbm, 734, rfl⟩
abbrev main_call7_call0_v89 : Ref sig .tc := ⟨.hbm, 735, rfl⟩
abbrev main_call7_call0_v90 : Ref sig .tc := ⟨.hbm, 736, rfl⟩
abbrev main_call7_call0_c_23 : Ref sig .tc := ⟨.hbm, 737, rfl⟩
abbrev main_call7_call0_v91 : Ref sig .tc := ⟨.hbm, 738, rfl⟩
abbrev main_call7_call0_v92 : Ref sig .tc := ⟨.hbm, 739, rfl⟩
abbrev main_call7_call0_v93 : Ref sig .tc := ⟨.hbm, 740, rfl⟩
abbrev main_call7_call0_v94 : Ref sig .tc := ⟨.hbm, 741, rfl⟩
abbrev main_call7_call0_v95 : Ref sig .tc := ⟨.hbm, 742, rfl⟩
abbrev main_call7_call0_c_24 : Ref sig .tc := ⟨.hbm, 743, rfl⟩
abbrev main_call7_call0_v96 : Ref sig .tc := ⟨.hbm, 744, rfl⟩
abbrev main_call7_call0_v97 : Ref sig .tc := ⟨.hbm, 745, rfl⟩
abbrev main_call7_call0_c_25 : Ref sig .tc := ⟨.hbm, 746, rfl⟩
abbrev main_call7_call0_v98 : Ref sig .tc := ⟨.hbm, 747, rfl⟩
abbrev main_call7_call0_v99 : Ref sig .tc := ⟨.hbm, 748, rfl⟩
abbrev main_call7_call0_v100 : Ref sig .tc := ⟨.hbm, 749, rfl⟩
abbrev main_call7_call0_v101 : Ref sig .tc := ⟨.hbm, 750, rfl⟩
abbrev main_call7_call0_v102 : Ref sig .tc := ⟨.hbm, 751, rfl⟩
abbrev main_call7_call0_v103 : Ref sig .tc := ⟨.hbm, 752, rfl⟩
abbrev main_call7_call0_v104 : Ref sig .tc := ⟨.hbm, 753, rfl⟩
abbrev main_call7_call0_v105 : Ref sig .tc := ⟨.hbm, 754, rfl⟩
abbrev main_call7_call0_c_26 : Ref sig .tc := ⟨.hbm, 755, rfl⟩
abbrev main_call7_call0_v106 : Ref sig .tc := ⟨.hbm, 756, rfl⟩
abbrev main_call7_call0_v107 : Ref sig .tc := ⟨.hbm, 757, rfl⟩
abbrev main_call7_call0_v108 : Ref sig .tc := ⟨.hbm, 758, rfl⟩
abbrev main_call7_call0_c_27 : Ref sig .tc := ⟨.hbm, 759, rfl⟩
abbrev main_call7_call0_v109 : Ref sig .tc := ⟨.hbm, 760, rfl⟩
abbrev main_call7_call0_v110 : Ref sig .tc := ⟨.hbm, 761, rfl⟩
abbrev main_call7_call0_c_28 : Ref sig .tc := ⟨.hbm, 762, rfl⟩
abbrev main_call7_call0_v111 : Ref sig .tc := ⟨.hbm, 763, rfl⟩
abbrev main_call7_call0_v112 : Ref sig .tc := ⟨.hbm, 764, rfl⟩
abbrev main_call7_call0_v113 : Ref sig .tc := ⟨.hbm, 765, rfl⟩
abbrev main_call7_call0_v114 : Ref sig .tc := ⟨.hbm, 766, rfl⟩
abbrev main_call7_call0_v115 : Ref sig .tc := ⟨.hbm, 767, rfl⟩
abbrev main_call7_call0_c_29 : Ref sig .tc := ⟨.hbm, 768, rfl⟩
abbrev main_call7_call0_v116 : Ref sig .tc := ⟨.hbm, 769, rfl⟩
abbrev main_call7_call0_v117 : Ref sig .tc := ⟨.hbm, 770, rfl⟩
abbrev main_call7_call0_c_30 : Ref sig .tc := ⟨.hbm, 771, rfl⟩
abbrev main_call7_call0_v118 : Ref sig .tc := ⟨.hbm, 772, rfl⟩
abbrev main_call7_call0_v119 : Ref sig .tc := ⟨.hbm, 773, rfl⟩
abbrev main_call7_call0_v120 : Ref sig .tc := ⟨.hbm, 774, rfl⟩
abbrev main_call7_call0_v121 : Ref sig .tc := ⟨.hbm, 775, rfl⟩
abbrev main_call7_call0_v122 : Ref sig .tc := ⟨.hbm, 776, rfl⟩
abbrev main_call7_call0_c_31 : Ref sig .tc := ⟨.hbm, 777, rfl⟩
abbrev main_call7_call0_v123 : Ref sig .tc := ⟨.hbm, 778, rfl⟩
abbrev main_call7_call0_v124 : Ref sig .tc := ⟨.hbm, 779, rfl⟩
abbrev main_call7_call0_c_32 : Ref sig .tc := ⟨.hbm, 780, rfl⟩
abbrev main_call7_call0_v125 : Ref sig .tc := ⟨.hbm, 781, rfl⟩
abbrev main_call7_call0_v126 : Ref sig .tc := ⟨.hbm, 782, rfl⟩
abbrev main_call7_call0_v127 : Ref sig .tc := ⟨.hbm, 783, rfl⟩
abbrev main_call7_call0_v128 : Ref sig .tc := ⟨.hbm, 784, rfl⟩
abbrev main_call7_call0_v129 : Ref sig .tc := ⟨.hbm, 785, rfl⟩
abbrev main_call7_call0_c_33 : Ref sig .tc := ⟨.hbm, 786, rfl⟩
abbrev main_call7_call0_v130 : Ref sig .tc := ⟨.hbm, 787, rfl⟩
abbrev main_call7_call0_v131 : Ref sig .tc := ⟨.hbm, 788, rfl⟩
abbrev main_call7_call0_c_34 : Ref sig .tc := ⟨.hbm, 789, rfl⟩
abbrev main_call7_call0_v132 : Ref sig .tc := ⟨.hbm, 790, rfl⟩
abbrev main_call7_call0_v133 : Ref sig .tc := ⟨.hbm, 791, rfl⟩
abbrev main_call7_call0_v134 : Ref sig .tc := ⟨.hbm, 792, rfl⟩
abbrev main_call7_call0_v135 : Ref sig .tc := ⟨.hbm, 793, rfl⟩
abbrev main_call7_call0_v136 : Ref sig .tc := ⟨.hbm, 794, rfl⟩
abbrev main_call7_call0_v137 : Ref sig .tc := ⟨.hbm, 795, rfl⟩
abbrev main_call7_call0_v138 : Ref sig .tc := ⟨.hbm, 796, rfl⟩
abbrev main_call7_call0_v139 : Ref sig .tc := ⟨.hbm, 797, rfl⟩
abbrev main_call7_call0_c_35 : Ref sig .tc := ⟨.hbm, 798, rfl⟩
abbrev main_call7_call0_v140 : Ref sig .tc := ⟨.hbm, 799, rfl⟩
abbrev main_call7_call0_v141 : Ref sig .tc := ⟨.hbm, 800, rfl⟩
abbrev main_call7_call0_v142 : Ref sig .tc := ⟨.hbm, 801, rfl⟩
abbrev main_call7_call0_c_36 : Ref sig .tc := ⟨.hbm, 802, rfl⟩
abbrev main_call7_call0_v143 : Ref sig .tc := ⟨.hbm, 803, rfl⟩
abbrev main_call7_call0_v144 : Ref sig .tc := ⟨.hbm, 804, rfl⟩
abbrev main_call7_call0_c_37 : Ref sig .tc := ⟨.hbm, 805, rfl⟩
abbrev main_call7_call0_v145 : Ref sig .tc := ⟨.hbm, 806, rfl⟩
abbrev main_call7_call0_v146 : Ref sig .tc := ⟨.hbm, 807, rfl⟩
abbrev main_call7_call0_v147 : Ref sig .tc := ⟨.hbm, 808, rfl⟩
abbrev main_call7_call0_v148 : Ref sig .tc := ⟨.hbm, 809, rfl⟩
abbrev main_call7_call0_v149 : Ref sig .tc := ⟨.hbm, 810, rfl⟩
abbrev main_call7_call0_c_38 : Ref sig .tc := ⟨.hbm, 811, rfl⟩
abbrev main_call7_call0_v150 : Ref sig .tc := ⟨.hbm, 812, rfl⟩
abbrev main_call7_call0_v151 : Ref sig .tc := ⟨.hbm, 813, rfl⟩
abbrev main_call7_call0_c_39 : Ref sig .tc := ⟨.hbm, 814, rfl⟩
abbrev main_call7_call0_v152 : Ref sig .tc := ⟨.hbm, 815, rfl⟩
abbrev main_call7_call0_v153 : Ref sig .tc := ⟨.hbm, 816, rfl⟩
abbrev main_call7_call0_v154 : Ref sig .tc := ⟨.hbm, 817, rfl⟩
abbrev main_call7_call0_v155 : Ref sig .tc := ⟨.hbm, 818, rfl⟩
abbrev main_call7_call0_v156 : Ref sig .tc := ⟨.hbm, 819, rfl⟩
abbrev main_call7_call0_c_40 : Ref sig .tc := ⟨.hbm, 820, rfl⟩
abbrev main_call7_call0_v157 : Ref sig .tc := ⟨.hbm, 821, rfl⟩
abbrev main_call7_call0_v158 : Ref sig .tc := ⟨.hbm, 822, rfl⟩
abbrev main_call7_call0_c_41 : Ref sig .tc := ⟨.hbm, 823, rfl⟩
abbrev main_call7_call0_v159 : Ref sig .tc := ⟨.hbm, 824, rfl⟩
abbrev main_call7_call0_v160 : Ref sig .tc := ⟨.hbm, 825, rfl⟩
abbrev main_call7_call0_v161 : Ref sig .tc := ⟨.hbm, 826, rfl⟩
abbrev main_call7_call0_v162 : Ref sig .tc := ⟨.hbm, 827, rfl⟩
abbrev main_call7_call0_v163 : Ref sig .tc := ⟨.hbm, 828, rfl⟩
abbrev main_call7_call0_c_42 : Ref sig .tc := ⟨.hbm, 829, rfl⟩
abbrev main_call7_call0_v164 : Ref sig .tc := ⟨.hbm, 830, rfl⟩
abbrev main_call7_call0_v165 : Ref sig .tc := ⟨.hbm, 831, rfl⟩
abbrev main_call7_call0_c_43 : Ref sig .tc := ⟨.hbm, 832, rfl⟩
abbrev main_call7_call0_v166 : Ref sig .tc := ⟨.hbm, 833, rfl⟩
abbrev main_call7_call0_v167 : Ref sig .tc := ⟨.hbm, 834, rfl⟩
abbrev main_call7_call0_v168 : Ref sig .tc := ⟨.hbm, 835, rfl⟩
abbrev main_call7_call0_v169 : Ref sig .tc := ⟨.hbm, 836, rfl⟩
abbrev main_call7_call0_v170 : Ref sig .tc := ⟨.hbm, 837, rfl⟩
abbrev main_call7_v19_0 : Ref sig .tc := ⟨.hbm, 838, rfl⟩
abbrev main_call7_call0_v172 : Ref sig .tc := ⟨.hbm, 839, rfl⟩
abbrev main_call7_call0_v173 : Ref sig .tc := ⟨.hbm, 840, rfl⟩
abbrev main_call7_call0_c_44 : Ref sig .tc := ⟨.hbm, 841, rfl⟩
abbrev main_call7_call0_v174 : Ref sig .tc := ⟨.hbm, 842, rfl⟩
abbrev main_call7_v19_1 : Ref sig .tc := ⟨.hbm, 843, rfl⟩
abbrev main_call7_v20 : Ref sig .tc := ⟨.hbm, 844, rfl⟩
abbrev main_call7_c_2 : Ref sig .tc := ⟨.hbm, 845, rfl⟩
abbrev main_call7_v21 : Ref sig .tc := ⟨.hbm, 846, rfl⟩
abbrev main_call7_v22 : Ref sig .tc := ⟨.hbm, 847, rfl⟩
abbrev main_call7_c_3 : Ref sig .tc := ⟨.hbm, 848, rfl⟩
abbrev main_call7_v23 : Ref sig .tc := ⟨.hbm, 849, rfl⟩
abbrev main_call7_v24 : Ref sig .tc := ⟨.hbm, 850, rfl⟩
abbrev main_call7_v25 : Ref sig .tc := ⟨.hbm, 851, rfl⟩
abbrev main_call7_cst : Ref sig .tc := ⟨.hbm, 852, rfl⟩
abbrev main_call7_v26 : Ref sig .tc := ⟨.hbm, 853, rfl⟩
abbrev main_call7_v27 : Ref sig .tc := ⟨.hbm, 854, rfl⟩
abbrev main_call7_v28 : Ref sig .tc := ⟨.hbm, 855, rfl⟩
abbrev main_call7_v29 : Ref sig .tc := ⟨.hbm, 856, rfl⟩
abbrev main_call7_v30 : Ref sig .tc := ⟨.hbm, 857, rfl⟩
abbrev main_call7_v31 : Ref sig .tc := ⟨.hbm, 858, rfl⟩
abbrev main_call7_v32 : Ref sig .tc := ⟨.hbm, 859, rfl⟩
abbrev main_call7_v33 : Ref sig .tc := ⟨.hbm, 860, rfl⟩
abbrev main_v62 : Ref sig .tc := ⟨.hbm, 861, rfl⟩
abbrev main_v63 : Ref sig .tc := ⟨.hbm, 862, rfl⟩
abbrev main_cst_19 : Ref sig .tc := ⟨.hbm, 863, rfl⟩
abbrev main_v64 : Ref sig .tc := ⟨.hbm, 864, rfl⟩
abbrev main_v65 : Ref sig .tc := ⟨.hbm, 865, rfl⟩
abbrev main_v66 : Ref sig .tc := ⟨.hbm, 866, rfl⟩
abbrev main_v67 : Ref sig .tc := ⟨.hbm, 867, rfl⟩
abbrev main_v68 : Ref sig .tc := ⟨.hbm, 868, rfl⟩
abbrev main_v69 : Ref sig .tc := ⟨.hbm, 869, rfl⟩
abbrev main_cst_20 : Ref sig .tc := ⟨.hbm, 870, rfl⟩
abbrev main_v70 : Ref sig .tc := ⟨.hbm, 871, rfl⟩
abbrev main_v71 : Ref sig .tc := ⟨.hbm, 872, rfl⟩
abbrev main_cst_21 : Ref sig .tc := ⟨.hbm, 873, rfl⟩
abbrev main_call8_v0 : Ref sig .tc := ⟨.hbm, 874, rfl⟩
abbrev main_call8_v1 : Ref sig .tc := ⟨.hbm, 875, rfl⟩
abbrev main_v72 : Ref sig .tc := ⟨.hbm, 876, rfl⟩
abbrev main_c_22 : Ref sig .tc := ⟨.hbm, 877, rfl⟩
abbrev main_v73 : Ref sig .tc := ⟨.hbm, 878, rfl⟩
abbrev main_v74 : Ref sig .tc := ⟨.hbm, 879, rfl⟩

abbrev nD : Nat := 1
abbrev τ : Topo := Topo.v7x

variable {F : FTy → Type} [FloatOps F]
-- ==== Proof.First.lean ====
/- The first place at which a row of extended reals is greatest: what it is, how two adjacent stretches' answers make the
   answer of both, and the two ways in which it is computed (a maximum and then the least place that holds it, over a block;
   one pass over the places with their indices, over a whole row). -/
module

public import Idealize.ShloMosaic.PureOps
public import Idealize.ShloMosaic.PureOps.Ideal.Laws
public import Idealize.ShloMosaic.PureOps.Reduce
public import Idealize.ShloMosaic.Lib.SortNet.Extract

@[expose] public section

noncomputable section

namespace Cert.Proof

open Idealize.ShloMosaic

/-- On the places from `lo` up to `hi`, the greatest of `s` is `v`, and `i` is the first place that has it. -/
structure First (s : ℕ → EReal) (lo hi : ℕ) (v : EReal) (i : ℕ) : Prop where
  lo_le : lo ≤ i
  lt_hi : i < hi
  at_i : s i = v
  le : ∀ c, lo ≤ c → c < hi → s c ≤ v
  before : ∀ c, lo ≤ c → c < i → s c < v

namespace First

variable {s : ℕ → EReal} {lo mid hi i j : ℕ} {v w : EReal}

/-- There is only one. -/
theorem unique (h : First s lo hi v i) (k : First s lo hi w j) : i = j := by
  have e : v = w := le_antisymm (h.at_i ▸ k.le i h.lo_le h.lt_hi) (k.at_i ▸ h.le j k.lo_le k.lt_hi)
  subst e
  rcases lt_trichotomy i j with q | q | q
  · exact absurd h.at_i (ne_of_lt (k.before i h.lo_le q))
  · exact q
  · exact absurd k.at_i (ne_of_lt (h.before j k.lo_le q))

/-- Two stretches, the earlier one's greatest at least the later one's: the earlier one's. -/
theorem earlier (h : First s lo mid v i) (k : First s mid hi w j) (hwv : w ≤ v) : First s lo hi v i where
  lo_le := h.lo_le
  lt_hi := lt_trans h.lt_hi (lt_of_le_of_lt k.lo_le k.lt_hi)
  at_i := h.at_i
  le c hl hh := by
    rcases Nat.lt_or_ge c mid with q | q
    · exact h.le c hl q
    · exact (k.le c q hh).trans hwv
  before := h.before

/-- Two stretches, the earlier one's greatest less than the later one's: the later one's. -/
theorem later (h : First s lo mid v i) (k : First s mid hi w j) (hvw : v < w) : First s lo hi w j where
  lo_le := (h.lo_le.trans h.lt_hi.le).trans k.lo_le
  lt_hi := k.lt_hi
  at_i := k.at_i
  le c hl hh := by
    rcases Nat.lt_or_ge c mid with q | q
    · exact (h.le c hl q).trans hvw.le
    · exact k.le c q hh
  before c hl hh := by
    rcases Nat.lt_or_ge c mid with q | q
    · exact lt_of_le_of_lt (h.le c hl q) hvw
    · exact k.before c q hh

end First

/-! ## A block: the greatest value, then the least place that holds it -/

/-- The signed least of finitely many words, started at the greatest word, is the least of them. -/
theorem fold_minsi {n : ℕ} (g : Fin n → BitVec 32) (r : Fin n) (h : ∀ q, (g r).toInt ≤ (g q).toInt) :
    Finset.fold IntOp.minsi 2147483647#32 g Finset.univ = g r := by
  refine BitVec.eq_of_toInt_eq ?_
  rw [← Finset.fold_hom (op := IntOp.minsi) (op' := min) (m := BitVec.toInt) (hm := SortNet.toInt_minsi)]
  refine le_antisymm ((Finset.fold_min_le _).2 (Or.inr ⟨r, Finset.mem_univ _, le_refl _⟩)) ((Finset.le_fold_min _).2 ⟨?_, fun q _ => h q⟩)
  have := BitVec.toInt_lt (x := g r)
  have e : (2147483647#32 : BitVec 32).toInt = 2147483647 := by decide
  rw [e]; omega

/-- The signed greatest of finitely many bits, each a word, started at the least word: one if a bit is set, else zero. -/
theorem fold_maxsi {n : ℕ} (hn : 0 < n) (p : Fin n → BitVec 1) :
    Finset.fold IntOp.maxsi 2147483648#32 (fun r => BitVec.setWidth 32 (p r)) Finset.univ
      = if ∃ r, p r = 1#1 then 1#32 else 0#32 := by
  have hb : ∀ b : BitVec 1, (BitVec.setWidth 32 b).toInt = if b = 1#1 then 1 else 0 := by decide
  refine BitVec.eq_of_toInt_eq ?_
  rw [← Finset.fold_hom (op := IntOp.maxsi) (op' := max) (m := BitVec.toInt) (hm := SortNet.toInt_maxsi)]
  have e : (2147483648#32 : BitVec 32).toInt = -2147483648 := by decide
  simp only [hb, e]
  split
  · next h =>
    obtain ⟨r, hr⟩ := h
    refine le_antisymm ((Finset.fold_max_le _).2 ⟨by decide, fun q _ => ?_⟩) ((Finset.le_fold_max _).2 (Or.inr ⟨r, Finset.mem_univ _, ?_⟩))
    · show (if p q = 1#1 then (1 : ℤ) else 0) ≤ 1
      split <;> decide
    · rw [if_pos hr]; decide
  · next h =>
    have h' : ∀ r, ¬p r = 1#1 := fun r hr => h ⟨r, hr⟩
    simp only [h', if_false]
    refine le_antisymm ((Finset.fold_max_le _).2 ⟨by decide, fun q _ => by decide⟩) ((Finset.le_fold_max _).2 (Or.inr ⟨⟨0, hn⟩, Finset.mem_univ _, by decide⟩))

/-- A natural number below `2 ^ 31`, as a word, reads signed as itself. -/
theorem toInt_ofNat {n : ℕ} (h : n < 2147483648) : (BitVec.ofNat 32 n).toInt = (n : ℤ) := by
  have e : (BitVec.ofNat 32 n).toNat = n := by rw [BitVec.toNat_ofNat]; omega
  rw [BitVec.toInt_eq_toNat_cond, e, if_pos (by omega)]

/-- A block of `n` places from `B`: the greatest value by one fold, the least place that holds it by another. -/
theorem first_block {n B : ℕ} (hn : 0 < n) (hB : B + n ≤ 1073741824) (s : ℕ → EReal) (f : Fin n → EReal)
    (hs : ∀ r : Fin n, s (B + r.val) = f r) :
    ∃ i, First s B (B + n) (Finset.fold max ⊥ f Finset.univ) i ∧
      Finset.fold IntOp.minsi 2147483647#32
        (fun r => if f r = Finset.fold max ⊥ f Finset.univ then BitVec.ofNat 32 (B + r.val) else 1073741824#32) Finset.univ
        = BitVec.ofNat 32 i := by
  classical
  haveI : Nonempty (Fin n) := ⟨⟨0, hn⟩⟩
  obtain ⟨r₀, -, hr₀⟩ := Finset.exists_max_image Finset.univ f Finset.univ_nonempty
  have hv : Finset.fold max ⊥ f Finset.univ = f r₀ :=
    le_antisymm ((Finset.fold_max_le _).2 ⟨bot_le, fun q _ => hr₀ q (Finset.mem_univ _)⟩)
      ((Finset.le_fold_max _).2 (Or.inr ⟨r₀, Finset.mem_univ _, le_refl _⟩))
  rw [hv]
  have hex : ∃ k : ℕ, ∃ h : k < n, f ⟨k, h⟩ = f r₀ := ⟨r₀.val, r₀.isLt, rfl⟩
  obtain ⟨hk, hfk⟩ := Nat.find_spec hex
  set k := Nat.find hex with hkdef
  refine ⟨B + k, ⟨Nat.le_add_right _ _, Nat.add_lt_add_left hk B, (hs ⟨k, hk⟩).trans hfk, fun c hl hh => ?_, fun c hl hh => ?_⟩, ?_⟩
  · have e := hs ⟨c - B, by omega⟩
    rw [show B + (c - B) = c by omega] at e
    rw [e]; exact hr₀ _ (Finset.mem_univ _)
  · have hlt : c - B < n := by omega
    have e := hs ⟨c - B, hlt⟩
    rw [show B + (c - B) = c by omega] at e
    rw [e]
    refine lt_of_le_of_ne (hr₀ _ (Finset.mem_univ _)) fun q => ?_
    exact Nat.find_min hex (m := c - B) (by omega) ⟨hlt, q⟩
  · rw [fold_minsi _ ⟨k, hk⟩ fun q => ?_]
    · exact if_pos hfk
    · rw [if_pos hfk]
      have hkB : (BitVec.ofNat 32 (B + k)).toInt = ((B + k : ℕ) : ℤ) := toInt_ofNat (by omega)
      have h2 : (1073741824#32 : BitVec 32).toInt = 1073741824 := by decide
      split
      · next hq =>
        have hqB : (BitVec.ofNat 32 (B + q.val)).toInt = ((B + q.val : ℕ) : ℤ) := toInt_ofNat (by have := q.isLt; omega)
        have : k ≤ q.val := Nat.find_min' hex ⟨q.isLt, hq⟩
        rw [hkB, hqB]; omega
      · rw [hkB, h2]; omega

/-! ## A row: one pass over the places with their indices -/

/-- One step of the pass: the pair of the greater value; of two equal values, the pair of the lesser index. -/
def pick (a b : EReal × BitVec 32) : EReal × BitVec 32 :=
  if b.1 < a.1 then a else if a.1 = b.1 ∧ a.2.toInt < b.2.toInt then a else b

/-- `a` comes out of the pass before `b`: its value is greater, or the same and its index no greater. -/
def Wins (a b : EReal × BitVec 32) : Prop := b.1 < a.1 ∨ (a.1 = b.1 ∧ a.2.toInt ≤ b.2.toInt)

/-- Every entry wins over itself, or ties with it. -/
theorem Wins.refl (a : EReal × BitVec 32) : Wins a a := Or.inr ⟨rfl, le_refl _⟩

/-- Winning is transitive. -/
theorem Wins.trans {a b c : EReal × BitVec 32} (h : Wins a b) (k : Wins b c) : Wins a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- The pick of two entries is one of them and wins over both. -/
theorem pick_wins (a b : EReal × BitVec 32) : (pick a b = a ∨ pick a b = b) ∧ Wins (pick a b) a ∧ Wins (pick a b) b := by
  unfold pick
  by_cases h : b.1 < a.1
  · rw [if_pos h]; exact ⟨Or.inl rfl, Wins.refl _, Or.inl h⟩
  · rw [if_neg h]
    by_cases k : a.1 = b.1 ∧ a.2.toInt < b.2.toInt
    · rw [if_pos k]; exact ⟨Or.inl rfl, Wins.refl _, Or.inr ⟨k.1, k.2.le⟩⟩
    · rw [if_neg k]
      refine ⟨Or.inr rfl, ?_, Wins.refl _⟩
      rcases lt_or_eq_of_le (not_lt.1 h) with q | q
      · exact Or.inl q
      · exact Or.inr ⟨q.symm, not_lt.1 fun r => k ⟨q, r⟩⟩

/-- The pass over a list ends with one of its pairs or the initial one, which wins over them all. -/
theorem foldl_pick (l : List (EReal × BitVec 32)) : ∀ a : EReal × BitVec 32,
    (l.foldl pick a = a ∨ l.foldl pick a ∈ l) ∧ Wins (l.foldl pick a) a ∧ ∀ b ∈ l, Wins (l.foldl pick a) b := by
  induction l with
  | nil => exact fun a => ⟨Or.inl rfl, Wins.refl a, fun b hb => by simp at hb⟩
  | cons b l ih =>
    intro a
    obtain ⟨h1, h2, h3⟩ := ih (pick a b)
    obtain ⟨p1, p2, p3⟩ := pick_wins a b
    rw [List.foldl_cons]
    refine ⟨?_, h2.trans p2, fun c hc => ?_⟩
    · rcases h1 with h1 | h1
      · rcases p1 with p1 | p1
        · exact Or.inl (h1.trans p1)
        · exact Or.inr (by rw [h1, p1]; exact List.mem_cons_self)
      · exact Or.inr (List.mem_cons_of_mem _ h1)
    · rcases List.mem_cons.1 hc with rfl | hc
      · exact h2.trans p3
      · exact h3 c hc

/-- The pass from the least value at index zero, over the places of a row with their indices, ends at the row's first
    greatest place. -/
theorem first_pass {n : ℕ} (hn : 0 < n) (hn' : n < 2147483648) (s : ℕ → EReal) (l : List (EReal × BitVec 32))
    (hl : ∀ p, p ∈ l ↔ ∃ c, c < n ∧ p = (s c, BitVec.ofNat 32 c)) :
    ∃ i, First s 0 n (l.foldl pick (⊥, 0#32)).1 i ∧ (l.foldl pick (⊥, 0#32)).2 = BitVec.ofNat 32 i := by
  obtain ⟨h1, h2, h3⟩ := foldl_pick l (⊥, 0#32)
  have hmem : ∃ i, i < n ∧ l.foldl pick (⊥, 0#32) = (s i, BitVec.ofNat 32 i) := by
    rcases h1 with h1 | h1
    · refine ⟨0, hn, ?_⟩
      have h0 := h3 (s 0, BitVec.ofNat 32 0) ((hl _).2 ⟨0, hn, rfl⟩)
      rw [h1] at h0 ⊢
      rcases h0 with h0 | h0
      · exact absurd h0 not_lt_bot
      · exact Prod.ext h0.1 rfl
    · exact (hl _).1 h1
  obtain ⟨i, hi, e⟩ := hmem
  refine ⟨i, ⟨Nat.zero_le _, hi, by rw [e], fun c _ hc => ?_, fun c _ hc => ?_⟩, by rw [e]⟩
  · rcases h3 (s c, BitVec.ofNat 32 c) ((hl _).2 ⟨c, hc, rfl⟩) with q | q
    · exact q.le
    · exact q.1.symm.le
  · rcases h3 (s c, BitVec.ofNat 32 c) ((hl _).2 ⟨c, hc.trans hi, rfl⟩) with q | q
    · exact q
    · have q2 := q.2
      rw [e] at q2
      have a1 : (BitVec.ofNat 32 i).toInt = (i : ℤ) := toInt_ofNat (by omega)
      have a2 : (BitVec.ofNat 32 c).toInt = (c : ℤ) := toInt_ofNat (by omega)
      simp only at q2
      rw [a1, a2] at q2
      omega

end Cert.Proof

end
-- ==== Proof.Spec.lean ====
/- What the sampling computes, on plain functions: which elements are kept, the masked array, the scores, the first greatest
   column of a row and the next token made of it. -/
module

public import proofs.«01_k».proof.Proof.First
public import Idealize.ShloMosaic.PureOps.Ideal
public import Idealize.ShloMosaic.PureOps.Ideal.Laws
public import Idealize.ShloMosaic.Lib.PointwiseCore

@[expose] public section

noncomputable section

namespace Cert.Proof

open Idealize.ShloMosaic

/-- The threshold below which an element is not kept. -/
def thr : EReal := Ideal.ofBits FTy.f32 1036831949#32

/-- The threshold is positive. -/
theorem thr_pos : 0 < thr := by
  have h : thr = (((13421773 : ℝ) / 134217728 : ℝ) : EReal) := by
    simp [thr, Ideal.ofBits, Ideal.ieee]
    norm_num
    rw [← EReal.coe_mul]
    norm_num
  rw [h]
  exact_mod_cast (by norm_num : (0 : ℝ) < 13421773 / 134217728)

/-- The least value, as the word that spells it. -/
theorem ofBits_bot : Ideal.ofBits FTy.f32 4286578688#32 = ⊥ := by simp [Ideal.ofBits, Ideal.ieee]

/-- Zero, as the word that spells it. -/
theorem ofBits_zero : Ideal.ofBits FTy.f32 0#32 = 0 := by simp [Ideal.ofBits, Ideal.ieee]

/-- A quotient by one. -/
theorem div_one_eq (x : EReal) : Ideal.div x 1 = x := by
  simp [Ideal.div]

variable (X : Fin 128 → Fin 2 → Fin 100000 → EReal) (L : Fin 128 → BitVec 32) (G : Fin 128 → Fin 2 → Fin 100000 → EReal)

/-- Some column of feature 1 other than column 0 reaches the threshold. -/
def Other (b : Fin 128) : Prop := ∃ c : Fin 100000, 1 ≤ c.val ∧ thr ≤ X b 1 c

/-- The elements kept: those that reach the threshold, in feature 0 up to the column limit, in feature 1 without column 0
    where another column is kept. -/
def Kept (b : Fin 128) (f : Fin 2) (c : Fin 100000) : Prop :=
  thr ≤ X b f c ∧ (f = 0 → (c.val : ℤ) ≤ (L b).toInt) ∧ (f = 1 → ¬(c.val = 0 ∧ Other X b))

open Classical in
/-- The array with zero at every element not kept. -/
def masked (b : Fin 128) (f : Fin 2) (c : Fin 100000) : EReal := if Kept X L b f c then X b f c else 0

open Classical in
/-- The scores: the logarithm with its noise at the elements kept, the least value elsewhere. -/
def score (b : Fin 128) (f : Fin 2) (c : Fin 100000) : EReal :=
  if Kept X L b f c then Ideal.log (max (X b f c) (Ideal.ofBits FTy.f32 228737632#32)) + G b f c else ⊥

/-- A row over columns counted by natural numbers. -/
def row (s : Fin 100000 → EReal) (c : ℕ) : EReal := if h : c < 100000 then s ⟨c, h⟩ else ⊥

/-- A row's value at a column. -/
theorem row_val (s : Fin 100000 → EReal) (c : Fin 100000) : row s c.val = s c := dif_pos c.isLt

/-- The first greatest place of a row. -/
def winner (s : ℕ → EReal) : ℕ := Classical.epsilon fun i => ∃ v, First s 0 100000 v i

/-- The first greatest column is the winner. -/
theorem winner_eq {s : ℕ → EReal} {v : EReal} {i : ℕ} (h : First s 0 100000 v i) : winner s = i := by
  obtain ⟨w, hw⟩ := Classical.epsilon_spec (p := fun i => ∃ v, First s 0 100000 v i) ⟨i, v, h⟩
  exact hw.unique h

/-- The place with its noise as a share of the number of columns. -/
def share (i : BitVec 32) (u : EReal) : EReal :=
  Ideal.div (FloatOps.sitofp (F := Ideal) FTy.f32 i + u) (Ideal.ofBits FTy.f32 1203982336#32)

/-- The next token made of a place and its noise: the share; in feature 0, zero where it is less than one column. -/
def token (f : Fin 2) (i : BitVec 32) (u : EReal) : EReal :=
  if f = 0 ∧ share i u < Ideal.ofBits FTy.f32 925353388#32 then 0 else share i u

/-- An "or" over bits. -/
theorem fold_ori {n : ℕ} (p : Fin n → BitVec 1) :
    Finset.fold IntOp.ori 0#1 p Finset.univ = if ∃ r, p r = 1#1 then 1#1 else 0#1 := by
  have key : ∀ t : Finset (Fin n), (Finset.fold IntOp.ori 0#1 p t = 1#1 ↔ ∃ r ∈ t, p r = 1#1) := by
    intro t
    induction t using Finset.induction_on with
    | empty => simp
    | insert a t ha ih =>
      rw [Finset.fold_insert ha]
      have h1 : ∀ x y : BitVec 1, IntOp.ori x y = 1#1 ↔ x = 1#1 ∨ y = 1#1 := by decide
      rw [h1, ih]
      simp
  have h := key Finset.univ
  have two : ∀ x : BitVec 1, x ≠ 1#1 → x = 0#1 := by decide
  split
  · next k =>
    obtain ⟨r, hr⟩ := k
    exact h.2 ⟨r, Finset.mem_univ _, hr⟩
  · next k => exact two _ fun e => k (by obtain ⟨r, _, hr⟩ := h.1 e; exact ⟨r, hr⟩)

end Cert.Proof

end
-- ==== Proof.KernelStep.lean ====
/- One block of the kernel, one lane at a time: which elements it keeps, its scores, and what it makes of the greatest score so
   far, its column and the flag. -/
module

public import proofs.«01_k».proof.Proof.Gen.KernelIdeal.Frame
public import proofs.«01_k».proof.Proof.Spec
public import proofs.«01_k».proof.Proof.First
public import Idealize.ShloMosaic.Lib.Pipeline.ValueKit
public import Idealize.ShloMosaic.Lib.ValueIdx

@[expose] public section

set_option maxRecDepth 16384

noncomputable section

namespace Cert.Proof.K

open Idealize.ShloMosaic Idealize.ShloMosaic.StableHlo Idealize.SL.Sem Cert.KernelIdeal Cert.KernelIdeal.Gen

/-- The first column of the block of grid coordinates `i`: the blocks are taken from the last to the first. -/
def base (i : grid0.Coords) : ℕ := 5000 * (19 - (i 0).val)

/-- A block ends inside the array. -/
theorem base_le (i : grid0.Coords) : base i + 5000 ≤ 100000 := by unfold base; omega

/-- Row `r` of a block, as a column of the array. -/
def col (i : grid0.Coords) (r : Fin 5000) : Fin 100000 := ⟨base i + r.val, by have := base_le i; omega⟩

/-- The column numbers of a block. -/
theorem col_at (i : grid0.Coords) (r : Fin 5000) (b : Fin 128) : k0_pay12 i (ix2 r b) = BitVec.ofNat 32 (base i + r.val) := by
  have w : ∀ k : Fin 20, Scalar.muli (Scalar.subi (19#32) (BitVec.ofNat 32 k.val)) 5000#32 = BitVec.ofNat 32 (5000 * (19 - k.val)) := by
    decide
  unfold k0_pay12
  pointwise
  rw [w (i 0), base, Nat.add_comm, BitVec.ofNat_add]
  rfl

/-- The column numbers are positive as signed words. -/
theorem col_toInt (i : grid0.Coords) (r : Fin 5000) : (BitVec.ofNat 32 (base i + r.val)).toInt = ((base i + r.val : ℕ) : ℤ) :=
  toInt_ofNat (by have := base_le i; omega)

/-- A select by the bit of a proposition. -/
theorem sel {α : Type} (p : Prop) [Decidable p] (x y : α) : Scalar.select (BitVec.ofBool (decide p)) x y = if p then x else y := by
  by_cases h : p <;> simp [h, Scalar.select]

/-- The "and" of two bits is the bit of the conjunction. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A block of the four arrays holds, in lane `b`, its columns of `X`, of `G` and of the limit. -/
structure Block (X G : Fin 128 → Fin 2 → Fin 100000 → EReal) (L : Fin 128 → BitVec 32) (i : grid0.Coords)
    (x0 x1 g0 g1 : Vec Ideal S1x5000x128 .f32) (lim : Vec Ideal S1x128 .i32) (b : Fin 128) : Prop where
  x0 : ∀ r, x0 (ix3 0 r b) = X b 0 (col i r)
  x1 : ∀ r, x1 (ix3 0 r b) = X b 1 (col i r)
  g0 : ∀ r, g0 (ix3 0 r b) = G b 0 (col i r)
  g1 : ∀ r, g1 (ix3 0 r b) = G b 1 (col i r)
  lim : ∀ c : Fin 100000, (c.val : ℤ) ≤ BitVec.toInt (lim (ix2 0 b)) ↔ (c.val : ℤ) ≤ (L b).toInt

variable {X G : Fin 128 → Fin 2 → Fin 100000 → EReal} {L : Fin 128 → BitVec 32} {i : grid0.Coords}
  {x0 x1 g0 g1 : Vec Ideal S1x5000x128 .f32} {lim : Vec Ideal S1x128 .i32} {b : Fin 128}

open Classical in
/-- The mask of feature 0. -/
theorem mask0_at (h : Block X G L i x0 x1 g0 g1 lim b) (r : Fin 5000) :
    k0_pay13 i x0 lim (ix2 r b) = BitVec.ofBool (decide (Kept X L b 0 (col i r))) := by
  have e : k0_pay13 i x0 lim (ix2 r b) = BitVec.ofBool (decide
      (thr ≤ X b 0 (col i r) ∧ ((col i r).val : ℤ) ≤ BitVec.toInt (lim (ix2 0 b)))) := by
    rw [← and_bits, ← h.x0]
    unfold k0_pay13 thr
    pointwise
    rw [col_at]
    unfold k0_pay9
    pointwise
    refine congrArg₂ IntOp.andi ?_ ?_
    · congr
    · show BitVec.ofBool (decide ((BitVec.ofNat 32 (base i + r.val)).toInt ≤ BitVec.toInt (lim (ix2 0 b)))) = _
      rw [col_toInt]
      congr
  rw [e]
  congr 1
  refine decide_eq_decide.2 ?_
  rw [h.lim]
  unfold Kept
  simp

open Classical in
/-- The scores of feature 0. -/
theorem score0_at (h : Block X G L i x0 x1 g0 g1 lim b) (r : Fin 5000) :
    Scalar.select (k0_pay13 i x0 lim (ix2 r b)) (k0_pay15 x0 g0 (ix2 r b)) (Ideal.ofBits FTy.f32 4286578688#32) =
      score X L G b 0 (col i r) := by
  rw [mask0_at h, sel, ofBits_bot]
  unfold score
  have e : k0_pay15 x0 g0 (ix2 r b) = Ideal.log (max (X b 0 (col i r)) (Ideal.ofBits FTy.f32 228737632#32)) + G b 0 (col i r) := by
    rw [← h.x0, ← h.g0]
    unfold k0_pay15
    pointwise
    unfold k0_pay9
    pointwise
  rw [e]

open Classical in
/-- The masked elements of feature 0. -/
theorem out0_at (h : Block X G L i x0 x1 g0 g1 lim b) (r : Fin 5000) :
    k0_pay14 i x0 lim (ix3 0 r b) = masked X L b 0 (col i r) := by
  have e : k0_pay14 i x0 lim (ix3 0 r b) = Scalar.select (k0_pay13 i x0 lim (ix2 r b)) (X b 0 (col i r)) (0 : EReal) := by
    rw [← h.x0]
    unfold k0_pay14
    pointwise
    unfold k0_pay9
    pointwise
  rw [e, mask0_at h, sel]
  rfl

/-- Some column from `lo` on, other than column 0, reaches the threshold in feature 1. -/
def OtherFrom (X : Fin 128 → Fin 2 → Fin 100000 → EReal) (b : Fin 128) (lo : ℕ) : Prop :=
  ∃ c : Fin 100000, lo ≤ c.val ∧ 1 ≤ c.val ∧ thr ≤ X b 1 c

open Classical in
/-- The flag of feature 1 after a block: whether a column from the block's first on, other than column 0, reaches the
    threshold. -/
theorem flag_at (h : Block X G L i x0 x1 g0 g1 lim b) (any : Vec Ideal S1x128 .i32)
    (ha : any (ix2 0 b) = if OtherFrom X b (base i + 5000) then 1#32 else 0#32) :
    k0_pay22 (k0_pay10 x1) (k0_pay12 i) any (ix2 0 b) = if OtherFrom X b (base i) then 1#32 else 0#32 := by
  have e : k0_pay22 (k0_pay10 x1) (k0_pay12 i) any (ix2 0 b) = IntOp.maxsi (any (ix2 0 b))
      (Finset.fold IntOp.maxsi (2147483648#32) (fun r : Fin 5000 => BitVec.setWidth 32
        (BitVec.ofBool (decide (thr ≤ X b 1 (col i r) ∧ 1 ≤ (col i r).val)))) Finset.univ) := by
    unfold k0_pay22
    pointwise
    refine congrArg (fun p => IntOp.maxsi (any (ix2 0 b)) (Finset.fold IntOp.maxsi (2147483648#32) p Finset.univ)) (funext fun r => ?_)
    rw [← and_bits, col_at, ← h.x1]
    refine congrArg (BitVec.setWidth 32) (congrArg₂ IntOp.andi ?_ ?_)
    · unfold k0_pay21 k0_pay10 thr
      pointwise
    · show BitVec.ofBool (decide ((1#32 : BitVec 32).toInt ≤ (BitVec.ofNat 32 (base i + r.val)).toInt)) = _
      rw [col_toInt]
      refine congrArg BitVec.ofBool (decide_eq_decide.2 ?_)
      have o : (1#32 : BitVec 32).toInt = 1 := by decide
      rw [o]
      show (1 : ℤ) ≤ ((base i + r.val : ℕ) : ℤ) ↔ 1 ≤ base i + r.val
      omega
  rw [e, fold_maxsi (by decide), ha]
  have k : OtherFrom X b (base i) ↔ OtherFrom X b (base i + 5000) ∨
      ∃ r : Fin 5000, BitVec.ofBool (decide (thr ≤ X b 1 (col i r) ∧ 1 ≤ (col i r).val)) = 1#1 := by
    constructor
    · rintro ⟨c, h1, h2, h3⟩
      by_cases hc : base i + 5000 ≤ c.val
      · exact Or.inl ⟨c, hc, h2, h3⟩
      · refine Or.inr ⟨⟨c.val - base i, by omega⟩, ?_⟩
        have ec : col i ⟨c.val - base i, by omega⟩ = c := Fin.ext (by show base i + (c.val - base i) = c.val; omega)
        rw [ec]
        simp [h2, h3]
    · rintro (⟨c, h1, h2, h3⟩ | ⟨r, hr⟩)
      · exact ⟨c, by omega, h2, h3⟩
      · have q : thr ≤ X b 1 (col i r) ∧ 1 ≤ (col i r).val := by
          by_contra q
          simp [q] at hr
        exact ⟨col i r, Nat.le_add_right _ _, q.2, q.1⟩
  have m11 : IntOp.maxsi (1#32) (1#32) = 1#32 := by decide
  have m10 : IntOp.maxsi (1#32) (0#32) = 1#32 := by decide
  have m01 : IntOp.maxsi (0#32) (1#32) = 1#32 := by decide
  have m00 : IntOp.maxsi (0#32) (0#32) = 0#32 := by decide
  by_cases p : OtherFrom X b (base i + 5000) <;>
    by_cases q : ∃ r : Fin 5000, BitVec.ofBool (decide (thr ≤ X b 1 (col i r) ∧ 1 ≤ (col i r).val)) = 1#1
  · rw [if_pos p, if_pos q, if_pos (k.2 (Or.inl p)), m11]
  · rw [if_pos p, if_neg q, if_pos (k.2 (Or.inl p)), m10]
  · rw [if_neg p, if_pos q, if_pos (k.2 (Or.inr q)), m01]
  · rw [if_neg p, if_neg q, if_neg (fun o => (k.1 o).elim p q), m00]

open Classical in
/-- The mask of feature 1, once the block's own columns are in the flag. -/
theorem mask1_at (h : Block X G L i x0 x1 g0 g1 lim b) (any : Vec Ideal S1x128 .i32)
    (ha : any (ix2 0 b) = if OtherFrom X b (base i) then 1#32 else 0#32) (r : Fin 5000) :
    k0_pay24 (k0_pay12 i) (k0_pay21 (k0_pay10 x1)) k0_pay23 any (ix2 r b) = BitVec.ofBool (decide (Kept X L b 1 (col i r))) := by
  have e : k0_pay24 (k0_pay12 i) (k0_pay21 (k0_pay10 x1)) k0_pay23 any (ix2 r b) =
      IntOp.andi (BitVec.ofBool (decide (thr ≤ X b 1 (col i r)))) (IntOp.xori (IntOp.andi (BitVec.ofBool (decide ((col i r).val = 0)))
        (BitVec.ofBool (decide (OtherFrom X b (base i))))) 1#1) := by
    unfold k0_pay24 k0_pay23
    pointwise
    rw [col_at, ha, ← h.x1]
    refine congrArg₂ IntOp.andi ?_ (congrArg (fun w => IntOp.xori w 1#1) (congrArg₂ IntOp.andi ?_ ?_))
    · unfold k0_pay21 k0_pay10 thr
      pointwise
    · show BitVec.ofBool (BitVec.ofNat 32 (base i + r.val) == 0#32) = _
      refine congrArg BitVec.ofBool ?_
      have := base_le i
      rw [Bool.eq_iff_iff]
      simp only [beq_iff_eq, decide_eq_true_eq]
      constructor
      · intro q
        have := congrArg BitVec.toNat q
        rw [BitVec.toNat_ofNat] at this
        show base i + r.val = 0
        have z : (0#32 : BitVec 32).toNat = 0 := rfl
        omega
      · intro q
        have q' : base i + r.val = 0 := q
        rw [q']
    · by_cases o : OtherFrom X b (base i)
      · rw [if_pos o]; simp [o]; decide
      · rw [if_neg o]; simp [o]; decide
  rw [e]
  have k : Kept X L b 1 (col i r) ↔ thr ≤ X b 1 (col i r) ∧ ¬((col i r).val = 0 ∧ OtherFrom X b (base i)) := by
    unfold Kept
    refine and_congr_right fun _ => ?_
    constructor
    · rintro ⟨-, q⟩ ⟨z, c, -, h2, h3⟩
      exact q rfl ⟨z, c, h2, h3⟩
    · intro q
      refine ⟨fun w => absurd w (by decide), fun _ => ?_⟩
      rintro ⟨z, c, h2, h3⟩
      have z' : base i + r.val = 0 := z
      exact q ⟨z, c, by omega, h2, h3⟩
  by_cases p : thr ≤ X b 1 (col i r) <;> by_cases q : (col i r).val = 0 <;> by_cases o : OtherFrom X b (base i) <;>
    simp [p, q, o, k, IntOp.andi, IntOp.xori]

open Classical in
/-- The scores of feature 1. -/
theorem score1_at (h : Block X G L i x0 x1 g0 g1 lim b) (any : Vec Ideal S1x128 .i32)
    (ha : any (ix2 0 b) = if OtherFrom X b (base i) then 1#32 else 0#32) (r : Fin 5000) :
    k0_pay26 (k0_pay10 x1) (k0_pay11 g1) (k0_pay12 i) (k0_pay21 (k0_pay10 x1)) k0_pay23 any (ix2 r b) = score X L G b 1 (col i r) := by
  have e : k0_pay26 (k0_pay10 x1) (k0_pay11 g1) (k0_pay12 i) (k0_pay21 (k0_pay10 x1)) k0_pay23 any (ix2 r b) =
      Scalar.select (k0_pay24 (k0_pay12 i) (k0_pay21 (k0_pay10 x1)) k0_pay23 any (ix2 r b))
        (Ideal.log (max (X b 1 (col i r)) (Ideal.ofBits FTy.f32 228737632#32)) + G b 1 (col i r)) (Ideal.ofBits FTy.f32 4286578688#32) := by
    rw [← h.x1, ← h.g1]
    unfold k0_pay26
    pointwise
    unfold k0_pay10 k0_pay11
    pointwise
  rw [e, mask1_at h any ha, sel, ofBits_bot]
  rfl

open Classical in
/-- The masked elements of feature 1. -/
theorem out1_at (h : Block X G L i x0 x1 g0 g1 lim b) (any : Vec Ideal S1x128 .i32)
    (ha : any (ix2 0 b) = if OtherFrom X b (base i) then 1#32 else 0#32) (r : Fin 5000) :
    k0_pay25 (k0_pay10 x1) (k0_pay12 i) (k0_pay21 (k0_pay10 x1)) k0_pay23 any (ix3 0 r b) = masked X L b 1 (col i r) := by
  have e : k0_pay25 (k0_pay10 x1) (k0_pay12 i) (k0_pay21 (k0_pay10 x1)) k0_pay23 any (ix3 0 r b) =
      Scalar.select (k0_pay24 (k0_pay12 i) (k0_pay21 (k0_pay10 x1)) k0_pay23 any (ix2 r b)) (X b 1 (col i r)) (0 : EReal) := by
    rw [← h.x1]
    unfold k0_pay25
    pointwise
    unfold k0_pay10
    pointwise
  rw [e, mask1_at h any ha, sel]
  rfl

/-- What is known once the columns from `lo` on have been seen: the greatest score among them and the first column that has
    it; before any has been seen, only that the score is `⊥`. -/
def Held (s : ℕ → EReal) (lo : ℕ) (v : EReal) (w : BitVec 32) : Prop :=
  (lo = 100000 ∧ v = ⊥) ∨ ∃ n, First s lo 100000 v n ∧ w = BitVec.ofNat 32 n

/-- One block more: the block's greatest score wins when it is no less than the one held. -/
theorem held_step (s : ℕ → EReal) (i : grid0.Coords) (f : Fin 5000 → EReal) (hs : ∀ r : Fin 5000, s (base i + r.val) = f r)
    (v : EReal) (w : BitVec 32) (h : Held s (base i + 5000) v w) :
    Held s (base i) (if v ≤ Finset.fold max ⊥ f Finset.univ then Finset.fold max ⊥ f Finset.univ else v)
      (if v ≤ Finset.fold max ⊥ f Finset.univ then
        Finset.fold IntOp.minsi (2147483647#32) (fun r => if f r = Finset.fold max ⊥ f Finset.univ then
          BitVec.ofNat 32 (base i + r.val) else 1073741824#32) Finset.univ else w) := by
  have hb := base_le i
  obtain ⟨n, hn, e⟩ := first_block (n := 5000) (B := base i) (by decide) (by omega) s f hs
  refine Or.inr ?_
  rcases h with ⟨q, z⟩ | ⟨k, hk, z⟩
  · have hv : v ≤ Finset.fold max ⊥ f Finset.univ := by
      rw [z]
      exact bot_le
    rw [if_pos hv, if_pos hv]
    rw [q] at hn
    exact ⟨n, hn, e⟩
  · by_cases c : v ≤ Finset.fold max ⊥ f Finset.univ
    · rw [if_pos c, if_pos c]
      exact ⟨n, hn.earlier hk c, e⟩
    · rw [if_neg c, if_neg c]
      exact ⟨k, hn.later hk (not_le.1 c), z⟩

/-- A block's row of a row of scores is its column's score. -/
theorem row_col (s : Fin 100000 → EReal) (i : grid0.Coords) (r : Fin 5000) : row s (base i + r.val) = s (col i r) :=
  row_val s (col i r)

/-- The greatest score of feature 0 and its column, after a block. -/
theorem held0 (h : Block X G L i x0 x1 g0 g1 lim b) (best : Vec Ideal S1x128 .f32) (idx : Vec Ideal S1x128 .i32)
    (hh : Held (row (score X L G b 0)) (base i + 5000) (best (ix2 0 b)) (idx (ix2 0 b))) :
    Held (row (score X L G b 0)) (base i)
      (k0_pay20 (k0_pay13 i x0 lim) (k0_pay15 x0 g0) (FloatOps.ofBits FTy.f32 4286578688#32) best best (ix2 0 b))
      (k0_pay19 (k0_pay12 i) (k0_pay13 i x0 lim) (k0_pay15 x0 g0) (FloatOps.ofBits FTy.f32 4286578688#32) best idx (ix2 0 b)) := by
  have e := held_step _ i _ (fun r => row_col (score X L G b 0) i r) _ _ hh
  have sc : ∀ r : Fin 5000, Scalar.select (k0_pay13 i x0 lim (ix2 r b)) (k0_pay15 x0 g0 (ix2 r b)) (⊥ : EReal) =
      score X L G b 0 (col i r) := fun r => ofBits_bot ▸ score0_at h r
  convert e using 1
  · unfold k0_pay20 k0_pay18 k0_pay17 k0_pay16
    pointwise
    simp only [ofBits_bot, sc]
  · unfold k0_pay19 k0_pay18 k0_pay17 k0_pay16
    pointwise
    simp only [ofBits_bot, sc, col_at]

open Classical in
/-- The greatest score of feature 1 and its column, after a block. -/
theorem held1 (h : Block X G L i x0 x1 g0 g1 lim b) (any : Vec Ideal S1x128 .i32)
    (ha : any (ix2 0 b) = if OtherFrom X b (base i) then 1#32 else 0#32)
    (best : Vec Ideal S1x128 .f32) (idx : Vec Ideal S1x128 .i32)
    (hh : Held (row (score X L G b 1)) (base i + 5000) (best (ix2 0 b)) (idx (ix2 0 b))) :
    Held (row (score X L G b 1)) (base i)
      (k0_pay1 (k0_pay30 (k0_pay10 x1) (k0_pay11 g1) (k0_pay12 i) (k0_pay21 (k0_pay10 x1)) k0_pay23 any best best) (ix2 0 b))
      (k0_pay29 (k0_pay10 x1) (k0_pay11 g1) (k0_pay12 i) (k0_pay21 (k0_pay10 x1)) k0_pay23 any best idx (ix2 0 b)) := by
  have e := held_step _ i _ (fun r => row_col (score X L G b 1) i r) _ _ hh
  have sc := fun r => score1_at h any ha r
  convert e using 1
  · unfold k0_pay1 k0_pay30 k0_pay28 k0_pay27
    pointwise
    simp only [ofBits_bot, sc]
  · unfold k0_pay29 k0_pay28 k0_pay27
    pointwise
    simp only [ofBits_bot, sc, col_at]

/-- The token of feature 0, from the column held. -/
theorem token0_at (idx : Vec Ideal S1x128 .i32) (u : Vec Ideal S1x1x128 .f32) (b : Fin 128) :
    k0_pay2 idx u (ix3 0 0 b) = token 0 (idx (ix2 0 b)) (u (ix3 0 0 b)) := by
  unfold k0_pay2 token share
  pointwise

/-- The token of feature 1, from the column held. -/
theorem token1_at (idx : Vec Ideal S1x128 .i32) (u : Vec Ideal S1x1x128 .f32) (b : Fin 128) :
    k0_pay3 idx u (ix3 0 0 b) = token 1 (idx (ix2 0 b)) (u (ix3 0 0 b)) := by
  unfold k0_pay3 token share
  pointwise
  simp

/-- What is held before the first block. -/
theorem held_start (s : ℕ → EReal) (b : Fin 128) (w : BitVec 32) :
    Held s 100000 ((k0_pay4 (F := Ideal)) (ix2 0 b)) w ∧ Held s 100000 ((k0_pay6 (F := Ideal)) (ix2 0 b)) w := by
  refine ⟨Or.inl ⟨rfl, ?_⟩, Or.inl ⟨rfl, ?_⟩⟩
  · unfold k0_pay4
    pointwise
    exact ofBits_bot
  · unfold k0_pay6
    pointwise
    exact ofBits_bot

open Classical in
/-- The flag before the first block. -/
theorem flag_start (X : Fin 128 → Fin 2 → Fin 100000 → EReal) (b : Fin 128) :
    k0_pay8 (ix2 0 b) = if OtherFrom X b 100000 then 1#32 else 0#32 := by
  rw [if_neg (fun ⟨c, h, _⟩ => absurd c.isLt (not_lt.2 h))]
  unfold k0_pay8
  pointwise

end Cert.Proof.K

end
-- ==== Proof.KernelCase.lean ====
/- What one grid point of the kernel leaves: the two halves of the masked block, the scratch carried to the next point, and at
   the last point the tokens. -/
module

public import proofs.«01_k».proof.Proof.KernelStep

@[expose] public section

set_option maxRecDepth 16384

noncomputable section

namespace Cert.Proof.K

open Idealize.ShloMosaic Idealize.ShloMosaic.StableHlo Idealize.SL.Sem Cert.KernelIdeal Cert.KernelIdeal.Gen

/-- Feature 0 of a block. -/
abbrev half0 (v : Vec Ideal S2x5000x128 .f32) : Vec Ideal S1x5000x128 .f32 :=
  View.ld v (Rect.unit ![0, 0, 0] ![1, 5000, 128] inb_S2x5000x128_S1x5000x128_0_0_0)

/-- Feature 1 of a block. -/
abbrev half1 (v : Vec Ideal S2x5000x128 .f32) : Vec Ideal S1x5000x128 .f32 :=
  View.ld v (Rect.unit ![1, 0, 0] ![1, 5000, 128] inb_S2x5000x128_S1x5000x128_1_0_0)

/-- The scratch carried from point to point: greatest score and column of feature 0, the same of feature 1, the flag. -/
abbrev Scratch := Vec Ideal S1x128 .f32 × Vec Ideal S1x128 .i32 × Vec Ideal S1x128 .f32 × Vec Ideal S1x128 .i32 × Vec Ideal S1x128 .i32

/-- The scratch before the first point. -/
def start : Scratch := (k0_pay4 (F := Ideal), k0_pay5, k0_pay6 (F := Ideal), k0_pay7, k0_pay8)

/-- The flag after a point. -/
abbrev flag (i : grid0.Coords) (x : Vec Ideal S2x5000x128 .f32) (s : Scratch) : Vec Ideal S1x128 .i32 :=
  k0_pay22 (k0_pay10 (half1 x)) (k0_pay12 i) s.2.2.2.2

/-- The scratch after a point. -/
def next (i : grid0.Coords) (x g : Vec Ideal S2x5000x128 .f32) (lim : Vec Ideal S1x128 .i32) (s : Scratch) : Scratch :=
  (k0_pay20 (k0_pay13 i (half0 x) lim) (k0_pay15 (half0 x) (half0 g)) (FloatOps.ofBits FTy.f32 4286578688#32) s.1 s.1,
   k0_pay19 (k0_pay12 i) (k0_pay13 i (half0 x) lim) (k0_pay15 (half0 x) (half0 g)) (FloatOps.ofBits FTy.f32 4286578688#32) s.1 s.2.1,
   k0_pay1 (k0_pay30 (k0_pay10 (half1 x)) (k0_pay11 (half1 g)) (k0_pay12 i) (k0_pay21 (k0_pay10 (half1 x))) k0_pay23 (flag i x s)
     s.2.2.1 s.2.2.1),
   k0_pay29 (k0_pay10 (half1 x)) (k0_pay11 (half1 g)) (k0_pay12 i) (k0_pay21 (k0_pay10 (half1 x))) k0_pay23 (flag i x s)
     s.2.2.1 s.2.2.2.1,
   flag i x s)

/-- The masked block a point leaves. -/
def maskedBlock (i : grid0.Coords) (x : Vec Ideal S2x5000x128 .f32) (lim : Vec Ideal S1x128 .i32) (s : Scratch) :
    Vec Ideal S2x5000x128 .f32 :=
  View.canon [⟨Rect.unit ![1, 0, 0] ![1, 5000, 128] inb_S2x5000x128_S1x5000x128_1_0_0,
      k0_pay25 (k0_pay10 (half1 x)) (k0_pay12 i) (k0_pay21 (k0_pay10 (half1 x))) k0_pay23 (flag i x s)⟩,
    ⟨Rect.unit ![0, 0, 0] ![1, 5000, 128] inb_S2x5000x128_S1x5000x128_0_0_0, k0_pay14 i (half0 x) lim⟩]

/-- The tokens the last point leaves, from the scratch after it. -/
def tokens (u : Vec Ideal S2x1x128 .f32) (s : Scratch) : Vec Ideal S2x1x128 .f32 :=
  View.canon [⟨Rect.unit ![1, 0, 0] ![1, 1, 128] inb_S2x1x128_S1x1x128_1_0_0,
      k0_pay3 s.2.2.2.1 (View.ld u (Rect.unit ![1, 0, 0] ![1, 1, 128] inb_S2x1x128_S1x1x128_1_0_0))⟩,
    ⟨Rect.unit ![0, 0, 0] ![1, 1, 128] inb_S2x1x128_S1x1x128_0_0_0,
      k0_pay2 s.2.1 (View.ld u (Rect.unit ![0, 0, 0] ![1, 1, 128] inb_S2x1x128_S1x1x128_0_0_0))⟩]

variable (m : (ℓ : Loc nD τ sig) → Buf (Elt Ideal) ℓ) (c : Dev nD) (t : Fin cfg0.N)

/-- The scratch a point finds. -/
def found : Scratch := if t.val = 0 then start else (outsAt0 m c (t.val - 1) (by have := t.isLt; omega)).2.2

/-- The scratch a point leaves is one block more of the scratch it finds. -/
theorem scratch_eq : (outsAt0 m c t.val t.isLt).2.2 = next (grid0.coords t) (iblk m c 0 t) (iblk m c 1 t) (iblk m c 2 t) (found m c t) := by
  have hN : t.val < 20 := lt_of_lt_of_eq t.isLt (show cfg0.N = 20 from N_0)
  unfold next found
  by_cases h0 : t.val = 0
  · rw [outsAt0_A m c t (by omega) (by omega), if_pos h0]
    unfold start
    frame_out
    try simp only [(Memref.isWhole_whole _).read_unread]
  · rw [if_neg h0]
    by_cases h1 : t.val = 19
    · rw [outsAt0_C m c t (by omega) (by omega)]
      frame_out
      try simp only [(Memref.isWhole_whole _).read_unread]
    · rw [outsAt0_B m c t (by omega) (by omega)]
      frame_out
      try simp only [(Memref.isWhole_whole _).read_unread]

/-- The first output of a point is its masked block. -/
theorem masked_eq : (outsAt0 m c t.val t.isLt).1 = maskedBlock (grid0.coords t) (iblk m c 0 t) (iblk m c 2 t) (found m c t) := by
  have hN : t.val < 20 := lt_of_lt_of_eq t.isLt (show cfg0.N = 20 from N_0)
  unfold maskedBlock found
  by_cases h0 : t.val = 0
  · rw [outsAt0_A m c t (by omega) (by omega), if_pos h0]
    unfold start
    frame_out
    try simp only [(Memref.isWhole_whole _).read_unread]
  · rw [if_neg h0]
    by_cases h1 : t.val = 19
    · rw [outsAt0_C m c t (by omega) (by omega)]
      frame_out
      try simp only [(Memref.isWhole_whole _).read_unread]
    · rw [outsAt0_B m c t (by omega) (by omega)]
      frame_out
      try simp only [(Memref.isWhole_whole _).read_unread]

/-- The second output of the last point is the tokens of its scratch. -/
theorem tokens_eq (h : t.val = 19) : (outsAt0 m c t.val t.isLt).2.1 = tokens (iblk m c 3 t) (outsAt0 m c t.val t.isLt).2.2 := by
  rw [scratch_eq]
  unfold tokens next found
  rw [if_neg (by omega)]
  rw [outsAt0_C m c t (by omega) (by omega)]
  frame_out
  try simp only [(Memref.isWhole_whole _).read_unread]

/-- A cell of feature 0 of a block. -/
theorem half0_at (v : Vec Ideal S2x5000x128 .f32) (r : Fin 5000) (b : Fin 128) : half0 v (ix3 0 r b) = v (ix3 0 r b) := by
  unfold half0
  pointwise

/-- A cell of feature 1 of a block. -/
theorem half1_at (v : Vec Ideal S2x5000x128 .f32) (r : Fin 5000) (b : Fin 128) : half1 v (ix3 0 r b) = v (ix3 1 r b) := by
  unfold half1
  pointwise

/-- The masked block, feature by feature. -/
theorem maskedBlock_at (i : grid0.Coords) (x : Vec Ideal S2x5000x128 .f32) (lim : Vec Ideal S1x128 .i32) (s : Scratch)
    (r : Fin 5000) (b : Fin 128) :
    maskedBlock i x lim s (ix3 0 r b) = k0_pay14 i (half0 x) lim (ix3 0 r b) ∧
    maskedBlock i x lim s (ix3 1 r b) =
      k0_pay25 (k0_pay10 (half1 x)) (k0_pay12 i) (k0_pay21 (k0_pay10 (half1 x))) k0_pay23 (flag i x s) (ix3 0 r b) := by
  unfold maskedBlock
  constructor
  · canon_tiles y h
    · exact absurd (show (0 : ℕ) = 1 + (y 0).val from h0) (by omega)
    · refine congrArg _ ((eq_ix3 y).trans (congr (congr (congrArg ix3 (Fin.ext ?_)) (Fin.ext ?_)) (Fin.ext ?_)))
      · exact h0.symm
      · exact h1.symm
      · exact h2.symm
  · canon_tiles y h
    · refine congrArg _ ((eq_ix3 y).trans (congr (congr (congrArg ix3 (Fin.ext ?_)) (Fin.ext ?_)) (Fin.ext ?_)))
      · have q : (1 : ℕ) = 1 + (y 0).val := h0
        show (y 0).val = 0
        omega
      · exact h1.symm
      · exact h2.symm
    · exact absurd (show (1 : ℕ) = (y 0).val from h0) (by omega)

/-- The tokens, feature by feature, from the columns held. -/
theorem tokens_at (u : Vec Ideal S2x1x128 .f32) (s : Scratch) (b : Fin 128) :
    tokens u s (ix3 0 0 b) = token 0 (s.2.1 (ix2 0 b)) (u (ix3 0 0 b)) ∧
    tokens u s (ix3 1 0 b) = token 1 (s.2.2.2.1 (ix2 0 b)) (u (ix3 1 0 b)) := by
  have e0 : View.ld u (Rect.unit ![0, 0, 0] ![1, 1, 128] inb_S2x1x128_S1x1x128_0_0_0) (ix3 0 0 b) = u (ix3 0 0 b) := by pointwise
  have e1 : View.ld u (Rect.unit ![1, 0, 0] ![1, 1, 128] inb_S2x1x128_S1x1x128_1_0_0) (ix3 0 0 b) = u (ix3 1 0 b) := by pointwise
  unfold tokens
  rw [← e0, ← e1, ← token0_at, ← token1_at]
  constructor
  · canon_tiles y h
    · exact absurd (show (0 : ℕ) = 1 + (y 0).val from h0) (by omega)
    · refine congrArg _ ((eq_ix3 y).trans (congr (congr (congrArg ix3 (Fin.ext ?_)) (Fin.ext ?_)) (Fin.ext ?_)))
      · exact h0.symm
      · exact h1.symm
      · exact h2.symm
  · canon_tiles y h
    · refine congrArg _ ((eq_ix3 y).trans (congr (congr (congrArg ix3 (Fin.ext ?_)) (Fin.ext ?_)) (Fin.ext ?_)))
      · have q : (1 : ℕ) = 1 + (y 0).val := h0
        show (y 0).val = 0
        omega
      · exact h1.symm
      · exact h2.symm
    · exact absurd (show (1 : ℕ) = (y 0).val from h0) (by omega)

end Cert.Proof.K

end
-- ==== Proof.KernelScan.lean ====
/- The kernel's scan over its twenty blocks, last block first: after each block the scratch holds the greatest score of the
   columns seen, its column and the flag; the two arrays the kernel writes hold the masked array and the tokens. -/
module

public import proofs.«01_k».proof.Proof.KernelCase

@[expose] public section

set_option maxRecDepth 16384

noncomputable section

namespace Cert.Proof.K

open Idealize.ShloMosaic Idealize.ShloMosaic.StableHlo Idealize.SL.Sem Cert.KernelIdeal Cert.KernelIdeal.Gen

/-- The four arrays the kernel reads hold the values `X`, the noise `G`, the limit `L` (up to the last column) and the noise
    `U`. -/
structure Arrays (m : (ℓ : Loc nD τ sig) → Buf (Elt Ideal) ℓ) (c : Dev nD) (X G : Fin 128 → Fin 2 → Fin 100000 → EReal)
    (L : Fin 128 → BitVec 32) (U : Fin 128 → Fin 2 → EReal) : Prop where
  x : ∀ b f k, (V m c main_v23 : Vec Ideal S2x100000x128 .f32) (ix3 f k b) = X b f k
  g : ∀ b f k, (V m c main_v20 : Vec Ideal S2x100000x128 .f32) (ix3 f k b) = G b f k
  l : ∀ (b : Fin 128) (k : Fin 100000),
    (k.val : ℤ) ≤ BitVec.toInt ((V m c main_v31 : Vec Ideal S1x128 .i32) (ix2 0 b)) ↔ (k.val : ℤ) ≤ (L b).toInt
  u : ∀ b f, (V m c main_v22 : Vec Ideal S2x1x128 .f32) (ix3 f 0 b) = U b f

/-- A point's coordinate is its number. -/
theorem coords_val : ∀ t : Fin cfg0.N, (grid0.coords t 0).val = t.val := by decide +kernel

/-- The first column of a point's block. -/
theorem base_coords (t : Fin cfg0.N) : base (grid0.coords t) = 5000 * (19 - t.val) := by
  unfold base
  rw [coords_val]

/-- Where the blocks lie. -/
theorem place0 : ∀ t : Fin cfg0.N, win0_0.index t = ![0, 19 - t.val, 0] := by decide +kernel
/-- Where the noise blocks lie. -/
theorem place1 : ∀ t : Fin cfg0.N, win0_1.index t = ![0, 19 - t.val, 0] := by decide +kernel
/-- The limit is one block. -/
theorem place2 : ∀ t : Fin cfg0.N, win0_2.index t = ![0, 0] := by decide +kernel
/-- The uniform noise is one block. -/
theorem place3 : ∀ t : Fin cfg0.N, win0_3.index t = ![0, 0, 0] := by decide +kernel
/-- Where the masked blocks lie. -/
theorem place4 : ∀ t : Fin cfg0.N, win0_4.index t = ![0, 19 - t.val, 0] := by decide +kernel
/-- The tokens are one block. -/
theorem place5 : ∀ t : Fin cfg0.N, win0_5.index t = ![0, 0, 0] := by decide +kernel

variable {m : (ℓ : Loc nD τ sig) → Buf (Elt Ideal) ℓ} {c : Dev nD} {X G : Fin 128 → Fin 2 → Fin 100000 → EReal}
  {L : Fin 128 → BitVec 32} {U : Fin 128 → Fin 2 → EReal}

/-- An array read through the block of a point, at a cell of the block. -/
theorem cell0 (A : Vec Ideal S2x100000x128 .f32) (t : Fin cfg0.N) (f : Fin 2) (r : Fin 5000) (b : Fin 128) :
    (((cfg0.win 0).blk t).view.read (Elt Ideal) A : Vec Ideal S2x5000x128 .f32) (ix3 f r b) = A (ix3 f (col (grid0.coords t) r) b) := by
  have e := base_coords t
  have q : (col (grid0.coords t) r).val = (19 - t.val) * 5000 + r.val := by
    show base (grid0.coords t) + r.val = _
    omega
  blk_ext [place0 t]

/-- The same for the Gumbel noise. -/
theorem cell1 (A : Vec Ideal S2x100000x128 .f32) (t : Fin cfg0.N) (f : Fin 2) (r : Fin 5000) (b : Fin 128) :
    (((cfg0.win 1).blk t).view.read (Elt Ideal) A : Vec Ideal S2x5000x128 .f32) (ix3 f r b) = A (ix3 f (col (grid0.coords t) r) b) := by
  have e := base_coords t
  have q : (col (grid0.coords t) r).val = (19 - t.val) * 5000 + r.val := by
    show base (grid0.coords t) + r.val = _
    omega
  blk_ext [place1 t]

/-- The same for the limit, whose block is the array. -/
theorem cell2 (A : Vec Ideal S1x128 .i32) (t : Fin cfg0.N) (b : Fin 128) :
    (((cfg0.win 2).blk t).view.read (Elt Ideal) A : Vec Ideal S1x128 .i32) (ix2 0 b) = A (ix2 0 b) := by
  blk_ext [place2 t]

/-- The same for the uniform noise, whose block is the array. -/
theorem cell3 (A : Vec Ideal S2x1x128 .f32) (t : Fin cfg0.N) (f : Fin 2) (b : Fin 128) :
    (((cfg0.win 3).blk t).view.read (Elt Ideal) A : Vec Ideal S2x1x128 .f32) (ix3 f 0 b) = A (ix3 f 0 b) := by
  blk_ext [place3 t]

/-- A cell of the block of the first array. -/
theorem read0 (t : Fin cfg0.N) (f : Fin 2) (r : Fin 5000) (b : Fin 128) :
    (iblk m c 0 t : Vec Ideal S2x5000x128 .f32) (ix3 f r b) =
      (V m c main_v23 : Vec Ideal S2x100000x128 .f32) (ix3 f (col (grid0.coords t) r) b) :=
  cell0 (V m c main_v23) t f r b

/-- A cell of the block of the Gumbel noise. -/
theorem read1 (t : Fin cfg0.N) (f : Fin 2) (r : Fin 5000) (b : Fin 128) :
    (iblk m c 1 t : Vec Ideal S2x5000x128 .f32) (ix3 f r b) =
      (V m c main_v20 : Vec Ideal S2x100000x128 .f32) (ix3 f (col (grid0.coords t) r) b) :=
  cell1 (V m c main_v20) t f r b

/-- A cell of the limit. -/
theorem read2 (t : Fin cfg0.N) (b : Fin 128) :
    (iblk m c 2 t : Vec Ideal S1x128 .i32) (ix2 0 b) = (V m c main_v31 : Vec Ideal S1x128 .i32) (ix2 0 b) :=
  cell2 (V m c main_v31) t b

/-- A cell of the uniform noise. -/
theorem read3 (t : Fin cfg0.N) (f : Fin 2) (b : Fin 128) :
    (iblk m c 3 t : Vec Ideal S2x1x128 .f32) (ix3 f 0 b) = (V m c main_v22 : Vec Ideal S2x1x128 .f32) (ix3 f 0 b) :=
  cell3 (V m c main_v22) t f b

/-- Each block holds its columns. -/
theorem block_at (h : Arrays m c X G L U) (t : Fin cfg0.N) (b : Fin 128) :
    Block X G L (grid0.coords t) (half0 (iblk m c 0 t)) (half1 (iblk m c 0 t)) (half0 (iblk m c 1 t)) (half1 (iblk m c 1 t))
      (iblk m c 2 t) b where
  x0 r := (half0_at _ r b).trans ((read0 t 0 r b).trans (h.x b 0 _))
  x1 r := (half1_at _ r b).trans ((read0 t 1 r b).trans (h.x b 1 _))
  g0 r := (half0_at _ r b).trans ((read1 t 0 r b).trans (h.g b 0 _))
  g1 r := (half1_at _ r b).trans ((read1 t 1 r b).trans (h.g b 1 _))
  lim k := by
    rw [read2]
    exact h.l b k

open Classical in
/-- What the scratch holds once the columns from `lo` on have been seen. -/
structure Seen (X G : Fin 128 → Fin 2 → Fin 100000 → EReal) (L : Fin 128 → BitVec 32) (lo : ℕ) (s : Scratch) (b : Fin 128) :
    Prop where
  zero : Held (row (score X L G b 0)) lo (s.1 (ix2 0 b)) (s.2.1 (ix2 0 b))
  one : Held (row (score X L G b 1)) lo (s.2.2.1 (ix2 0 b)) (s.2.2.2.1 (ix2 0 b))
  flag : s.2.2.2.2 (ix2 0 b) = if OtherFrom X b lo then 1#32 else 0#32

/-- Before the first block no column has been seen. -/
theorem seen_start (b : Fin 128) : Seen X G L 100000 start b where
  zero := (held_start _ b _).1
  one := (held_start _ b _).2
  flag := flag_start X b

/-- One block more. -/
theorem seen_next {i : grid0.Coords} {x g : Vec Ideal S2x5000x128 .f32} {lim : Vec Ideal S1x128 .i32} {b : Fin 128} {s : Scratch}
    (h : Block X G L i (half0 x) (half1 x) (half0 g) (half1 g) lim b) (hs : Seen X G L (base i + 5000) s b) :
    Seen X G L (base i) (next i x g lim s) b where
  zero := held0 h _ _ hs.zero
  one := held1 h _ (flag_at h _ hs.flag) _ _ hs.one
  flag := flag_at h _ hs.flag

/-- After point `n` the columns of its block and of those after it have been seen. -/
theorem seen_after (h : Arrays m c X G L U) (b : Fin 128) :
    ∀ (n : ℕ) (hn : n < cfg0.N), Seen X G L (5000 * (19 - n)) (outsAt0 m c n hn).2.2 b := by
  intro n
  induction n with
  | zero =>
    intro hn
    have e := seen_next (s := start) (block_at h ⟨0, hn⟩ b) (by rw [base_coords]; exact seen_start b)
    rw [base_coords] at e
    rw [scratch_eq m c ⟨0, hn⟩]
    exact e
  | succ n ih =>
    intro hn
    have hN : n + 1 < 20 := lt_of_lt_of_eq hn (show cfg0.N = 20 from N_0)
    have e := seen_next (s := (outsAt0 m c n (Nat.lt_of_succ_lt hn)).2.2) (block_at h ⟨n + 1, hn⟩ b) (by
      rw [base_coords]
      have q : 5000 * (19 - (n + 1)) + 5000 = 5000 * (19 - n) := by omega
      show Seen X G L (5000 * (19 - (n + 1)) + 5000) _ b
      rw [q]
      exact ih _)
    rw [base_coords] at e
    rw [scratch_eq m c ⟨n + 1, hn⟩]
    exact e

/-- What a point finds. -/
theorem seen_before (h : Arrays m c X G L U) (t : Fin cfg0.N) (b : Fin 128) :
    Seen X G L (base (grid0.coords t) + 5000) (found m c t) b := by
  have hN : t.val < 20 := lt_of_lt_of_eq t.isLt (show cfg0.N = 20 from N_0)
  rw [base_coords]
  unfold found
  by_cases h0 : t.val = 0
  · rw [if_pos h0, h0]
    exact seen_start b
  · rw [if_neg h0]
    have q : 5000 * (19 - t.val) + 5000 = 5000 * (19 - (t.val - 1)) := by omega
    rw [q]
    exact seen_after h b _ _

/-- The masked block a point leaves. -/
theorem masked_at (h : Arrays m c X G L U) (t : Fin cfg0.N) (f : Fin 2) (r : Fin 5000) (b : Fin 128) :
    (outsAt0 m c t.val t.isLt).1 (ix3 f r b) = masked X L b f (col (grid0.coords t) r) := by
  rw [masked_eq]
  have k := block_at h t b
  have e := maskedBlock_at (grid0.coords t) (iblk m c 0 t) (iblk m c 2 t) (found m c t) r b
  match f with
  | 0 => exact e.1.trans (out0_at k r)
  | 1 => exact e.2.trans (out1_at k _ (flag_at k _ (seen_before h t b).flag) r)

/-- Once every column has been seen, the column held is the winner. -/
theorem held_all {s : ℕ → EReal} {v : EReal} {w : BitVec 32} (h : Held s 0 v w) : w = BitVec.ofNat 32 (winner s) := by
  rcases h with ⟨q, -⟩ | ⟨n, hn, e⟩
  · exact absurd q (by decide)
  · rw [winner_eq hn, e]

/-- The tokens the last point leaves. -/
theorem token_at (h : Arrays m c X G L U) (t : Fin cfg0.N) (ht : t.val = 19) (f : Fin 2) (b : Fin 128) :
    (outsAt0 m c t.val t.isLt).2.1 (ix3 f 0 b) = token f (BitVec.ofNat 32 (winner (row (score X L G b f)))) (U b f) := by
  rw [tokens_eq m c t ht]
  have s := seen_after h b t.val t.isLt
  have z : 5000 * (19 - t.val) = 0 := by omega
  rw [z] at s
  have e := tokens_at (iblk m c 3 t) (outsAt0 m c t.val t.isLt).2.2 b
  match f with
  | 0 => rw [e.1, held_all s.zero, read3, h.u]
  | 1 => rw [e.2, held_all s.one, read3, h.u]

/-- The array the kernel writes the masked blocks to. -/
theorem masked_array (h : Arrays m c X G L U) : (dats m 0 c).arrAt 4 (cfgs 0).N =
    (fun y => masked X L (y 2) (y 0) (y 1) : Vec Ideal S2x100000x128 .f32) := by
  refine (dats m 0 c).arrAt_eq_of_covers 4 _ (by decide +kernel) fun t hf y => ?_
  blk_simp
  rw [after0_4]
  have p : (win0_4.blk t).view.emb y = (ix3 (y 0) (col (grid0.coords t) (y 1)) (y 2) : S2x100000x128.Idx) := by
    have e := base_coords t
    have q : (col (grid0.coords t) (y 1)).val = (19 - t.val) * 5000 + (y 1).val := by
      show base (grid0.coords t) + (y 1).val = _
      omega
    blk_ext [place4 t]
  rw [p]
  exact (congrArg (outsAt0 m c t.val t.isLt).1 (eq_ix3 y)).trans (masked_at h t (y 0) (y 1) (y 2))

/-- The array the kernel writes the tokens to. -/
theorem token_array (h : Arrays m c X G L U) : (dats m 0 c).arrAt 5 (cfgs 0).N =
    (fun y => token (y 0) (BitVec.ofNat 32 (winner (row (score X L G (y 2) (y 0))))) (U (y 2) (y 0)) : Vec Ideal S2x1x128 .f32) := by
  refine (dats m 0 c).arrAt_eq_of_covers 5 _ (by decide +kernel) fun t hf y => ?_
  blk_simp
  rw [after0_5]
  have ht : t.val = 19 := by
    have := (flush0_5 t).1 hf
    have hN : t.val < 20 := lt_of_lt_of_eq t.isLt (show cfg0.N = 20 from N_0)
    omega
  have p : (win0_5.blk t).view.emb y = (ix3 (y 0) 0 (y 2) : S2x1x128.Idx) := by
    blk_ext [place5 t]
  have z : y = (ix3 (y 0) 0 (y 2) : S2x1x128.Idx) := by
    blk_ext
  rw [p]
  exact (congrArg (outsAt0 m c t.val t.isLt).2.1 z).trans (token_at h t ht (y 0) (y 2))

end Cert.Proof.K

end
-- ==== Proof.Sim.lean ====
/- Two programs that run the same host operations over buffers of their own.

   A `Pair` is one tensor value as both programs hold it: a typed reference of the left program beside one of the right.
   A `POp` is one host operation over pairs; its projections `left` and `right` are the operation in each program.
   Where the two memories agree on the pairs in a list `D`, and a line of paired operations reads only pairs of `D` or
   pairs that it has written, and writes each buffer once, the memories that the two lines leave agree on every pair
   that was in `D` or is written (`agree_after`). What the operations compute plays no part. -/
module

public import Idealize.ShloMosaic.Lib.StableHlo.Run

@[expose] public section

namespace Cert.Proof.Sim

open Idealize.ShloMosaic Idealize.ShloMosaic.StableHlo

variable {τl τr : Topo} {sl sr : RefSig} {Val : EltTy → Type} {T S U : BufTy}

/-- One value of type `T`: the left program's buffer for it and the right program's, both in device memory. -/
structure Pair (sl sr : RefSig) (T : BufTy) where
  l : TRef sl T
  r : TRef sr T
  lh : l.ref.space = .hbm
  rh : r.ref.space = .hbm

/-- The pair of two references, its two facts by computation. -/
abbrev pr (l : TRef sl T) (r : TRef sr T) (lh : l.ref.space = .hbm := by rfl) (rh : r.ref.space = .hbm := by rfl) : Pair sl sr T :=
  ⟨l, r, lh, rh⟩

/-- The two buffers' indices. -/
def Pair.key (x : Pair sl sr T) : ℕ × ℕ := (x.l.ref.idx.val, x.r.ref.idx.val)

/-- Two references in device memory with one index are one reference. -/
theorem ref_eq {s : RefSig} {a b : Ref s .tc} (ha : a.space = .hbm) (hb : b.space = .hbm) (h : a.idx.val = b.idx.val) : a = b := by
  obtain ⟨sa, ia, na⟩ := a
  obtain ⟨sb, ib, nb⟩ := b
  simp only at ha hb h
  subst ha; subst hb
  obtain rfl : ia = ib := Fin.ext h
  rfl

/-- A reference's index is its own. -/
theorem idx_eq {s : RefSig} {a b : Ref s .tc} (h : a = b) : a.idx.val = b.idx.val := by subst h; rfl

/-- The memories agree on every pair whose indices are in `D`. -/
def Agree (D : List (ℕ × ℕ)) (Vl : Valuation τl sl Val) (Vr : Valuation τr sr Val) : Prop :=
  ∀ (T : BufTy) (x : Pair sl sr T), x.key ∈ D →
    x.l.ofBuf (Vl (Proc.devRef .tc x.l.ref)) = x.r.ofBuf (Vr (Proc.devRef .tc x.r.ref))

/-- Fewer pairs: agreement on `D` is agreement on every part of it. -/
theorem Agree.mono {D E : List (ℕ × ℕ)} {Vl : Valuation τl sl Val} {Vr : Valuation τr sr Val} (h : Agree D Vl Vr)
    (hE : ∀ k ∈ E, k ∈ D) : Agree E Vl Vr := fun T x hx => h T x (hE _ hx)

/-- One value more: if only the buffers of `y` are written, neither of them a buffer of `D`, and they end with one value,
    the memories agree on `y` and `D`. -/
theorem Agree.insert {D : List (ℕ × ℕ)} {Vl Vl' : Valuation τl sl Val} {Vr Vr' : Valuation τr sr Val} (h : Agree D Vl Vr)
    (y : Pair sl sr T) (hl : ∀ k ∈ D, k.1 ≠ y.key.1) (hr : ∀ k ∈ D, k.2 ≠ y.key.2)
    (hy : y.l.ofBuf (Vl' (Proc.devRef .tc y.l.ref)) = y.r.ofBuf (Vr' (Proc.devRef .tc y.r.ref)))
    (hnl : ∀ r : Ref sl .tc, r ≠ y.l.ref → Vl' (Proc.devRef .tc r) = Vl (Proc.devRef .tc r))
    (hnr : ∀ r : Ref sr .tc, r ≠ y.r.ref → Vr' (Proc.devRef .tc r) = Vr (Proc.devRef .tc r)) :
    Agree (y.key :: D) Vl' Vr' := by
  intro T' x hx
  rcases List.mem_cons.1 hx with hk | hD
  · have e1 : x.l.ref = y.l.ref := ref_eq x.lh y.lh (congrArg Prod.fst hk)
    have e2 : x.r.ref = y.r.ref := ref_eq x.rh y.rh (congrArg Prod.snd hk)
    obtain ⟨⟨lx, tlx, dlx, ulx⟩, ⟨rx, trx, drx, urx⟩, lhx, rhx⟩ := x
    obtain ⟨⟨ly, tly, dly, uly⟩, ⟨ry, try', dry, ury⟩, lhy, rhy⟩ := y
    simp only at e1 e2
    subst e1; subst e2
    obtain rfl : T = T' := tly.symm.trans tlx
    exact hy
  · have n1 : x.l.ref ≠ y.l.ref := fun e => hl _ hD (idx_eq e)
    have n2 : x.r.ref ≠ y.r.ref := fun e => hr _ hD (idx_eq e)
    rw [hnl _ n1, hnr _ n2]
    exact h T' x hD

/-- A host operation over pairs. -/
inductive POp (sl sr : RefSig) (Val : EltTy → Type) where
  | nullary {T : BufTy} (y : Pair sl sr T) (v : T.Contents Val)
  | unary {S T : BufTy} (x : Pair sl sr S) (y : Pair sl sr T) (f : S.Contents Val → T.Contents Val)
  | binary {S U T : BufTy} (a : Pair sl sr S) (b : Pair sl sr U) (y : Pair sl sr T)
      (f : S.Contents Val → U.Contents Val → T.Contents Val)
  | reshape {S T : BufTy} (x : Pair sl sr S) (y : Pair sl sr T) (he : S.elt = T.elt) (hn : S.shape.ShapeCasts T.shape)

namespace POp

/-- The operation in the left program. -/
def left : POp sl sr Val → HloOp τl sl Val
  | .nullary y v => TRef.nullary y.l v
  | .unary x y f => TRef.unary x.l y.l f
  | .binary a b y f => TRef.binary a.l b.l y.l f
  | .reshape x y he hn => TRef.reshape x.l y.l he hn

/-- The operation in the right program. -/
def right : POp sl sr Val → HloOp τr sr Val
  | .nullary y v => TRef.nullary y.r v
  | .unary x y f => TRef.unary x.r y.r f
  | .binary a b y f => TRef.binary a.r b.r y.r f
  | .reshape x y he hn => TRef.reshape x.r y.r he hn

/-- The indices of the value written. -/
def dst : POp sl sr Val → ℕ × ℕ
  | .nullary y _ => y.key
  | .unary _ y _ => y.key
  | .binary _ _ y _ => y.key
  | .reshape _ y _ _ => y.key

/-- The indices of the values read. -/
def src : POp sl sr Val → List (ℕ × ℕ)
  | .nullary _ _ => []
  | .unary x _ _ => [x.key]
  | .binary a b _ _ => [a.key, b.key]
  | .reshape x _ _ _ => [x.key]

end POp

/-- `k` is in the list: by comparison of numbers. -/
def has (k : ℕ × ℕ) : List (ℕ × ℕ) → Bool
  | [] => false
  | d :: D => (Nat.beq k.1 d.1 && Nat.beq k.2 d.2) || has k D

/-- Neither index of `k` occurs in the list. -/
def fresh (k : ℕ × ℕ) : List (ℕ × ℕ) → Bool
  | [] => true
  | d :: D => (!Nat.beq d.1 k.1 && !Nat.beq d.2 k.2) && fresh k D

/-- From the values `D`: every operation reads known values and writes a new one. -/
def ok : List (ℕ × ℕ) → List (List (ℕ × ℕ) × (ℕ × ℕ)) → Bool
  | _, [] => true
  | D, op :: ops => (op.1.all fun k => has k D) && fresh op.2 D && ok (op.2 :: D) ops

/-- The membership test finds only members. -/
theorem mem_of_has {k : ℕ × ℕ} : ∀ {D : List (ℕ × ℕ)}, has k D = true → k ∈ D
  | [], h => by simp [has] at h
  | d :: D, h => by
    simp only [has, Bool.or_eq_true, Bool.and_eq_true] at h
    rcases h with h | h
    · exact List.mem_cons.2 (Or.inl (Prod.ext (Nat.eq_of_beq_eq_true h.1) (Nat.eq_of_beq_eq_true h.2)))
    · exact List.mem_cons_of_mem _ (mem_of_has h)

/-- The freshness test passes only indices no pair of the list has. -/
theorem ne_of_fresh {k : ℕ × ℕ} : ∀ {D : List (ℕ × ℕ)}, fresh k D = true → ∀ d ∈ D, d.1 ≠ k.1 ∧ d.2 ≠ k.2
  | [], _, _, hd => by simp at hd
  | e :: D, h, d, hd => by
    simp only [fresh, Bool.and_eq_true, Bool.not_eq_true', ← Bool.not_eq_true] at h
    rcases List.mem_cons.1 hd with rfl | hd
    · exact ⟨fun e => h.1.1 (by rw [e]; exact Nat.beq_refl _), fun e => h.1.2 (by rw [e]; exact Nat.beq_refl _)⟩
    · exact ne_of_fresh h.2 d hd

/-- A reshape through typed references, read at the value's type. -/
theorem reshape_ofBuf {τ : Topo} {s : RefSig} (x : TRef s S) (y : TRef s T) (he : S.elt = T.elt) (hn : S.shape.ShapeCasts T.shape)
    (V : Valuation τ s Val) :
    y.ofBuf ((TRef.reshape x y he hn).result V (Proc.devRef .tc y.ref))
      = fun i => he ▸ shapeCast T.shape (x.ofBuf (V (Proc.devRef .tc x.ref))) hn i := by
  rw [StableHlo.reshape_result]
  obtain ⟨xr, xt, xd, xu⟩ := x
  obtain ⟨yr, yt, yd, yu⟩ := y
  simp only at he hn ⊢
  subst xt; subst yt
  rfl

/-- One operation keeps the agreement and adds the value it writes. -/
theorem agree_step (op : POp sl sr Val) {D : List (ℕ × ℕ)} {Vl : Valuation τl sl Val} {Vr : Valuation τr sr Val}
    (h : Agree D Vl Vr) (hs : ∀ k ∈ op.src, k ∈ D) (hf : ∀ k ∈ D, k.1 ≠ op.dst.1 ∧ k.2 ≠ op.dst.2) :
    Agree (op.dst :: D) (op.left.result Vl) (op.right.result Vr) := by
  have h1 := fun k hk => (hf k hk).1
  have h2 := fun k hk => (hf k hk).2
  cases op with
  | nullary y v =>
    simp only [POp.left, POp.right]
    refine h.insert y h1 h2 ?_ (fun r hr => by rw [StableHlo.nullary_result_ne]; exact hr)
      (fun r hr => by rw [StableHlo.nullary_result_ne]; exact hr)
    simp only [StableHlo.nullary_result', StableHlo.TRef.ofBuf_toBuf]
  | unary x y f =>
    simp only [POp.left, POp.right]
    refine h.insert y h1 h2 ?_ (fun r hr => by rw [StableHlo.unary_result_ne]; exact hr)
      (fun r hr => by rw [StableHlo.unary_result_ne]; exact hr)
    simp only [StableHlo.unary_result', StableHlo.TRef.ofBuf_toBuf]
    exact congrArg f (h _ x (hs _ (by simp [POp.src])))
  | binary a b y f =>
    simp only [POp.left, POp.right]
    refine h.insert y h1 h2 ?_ (fun r hr => by rw [StableHlo.binary_result_ne]; exact hr)
      (fun r hr => by rw [StableHlo.binary_result_ne]; exact hr)
    simp only [StableHlo.binary_result', StableHlo.TRef.ofBuf_toBuf]
    exact congrArg₂ f (h _ a (hs _ (by simp [POp.src]))) (h _ b (hs _ (by simp [POp.src])))
  | reshape x y he hn =>
    simp only [POp.left, POp.right]
    refine h.insert y h1 h2 ?_ (fun r hr => by rw [StableHlo.reshape_result_ne]; exact hr)
      (fun r hr => by rw [StableHlo.reshape_result_ne]; exact hr)
    rw [reshape_ofBuf, reshape_ofBuf, h _ x (hs _ (by simp [POp.src]))]

/-- What a line of operations reads and writes. -/
def trace (ops : List (POp sl sr Val)) : List (List (ℕ × ℕ) × (ℕ × ℕ)) := ops.map fun op => (op.src, op.dst)

/-- The values known after a line of operations. -/
def known : List (ℕ × ℕ) → List (List (ℕ × ℕ) × (ℕ × ℕ)) → List (ℕ × ℕ)
  | D, [] => D
  | D, op :: ops => known (op.2 :: D) ops

/-- The two programs' lines, from memories that agree on `D`, leave memories that agree on all that is then known. -/
theorem agree_after (ops : List (POp sl sr Val)) : ∀ {D : List (ℕ × ℕ)} {Vl : Valuation τl sl Val} {Vr : Valuation τr sr Val},
    Agree D Vl Vr → ok D (trace ops) = true →
    Agree (known D (trace ops)) (after (ops.map POp.left) Vl) (after (ops.map POp.right) Vr) := by
  induction ops with
  | nil => intro D Vl Vr h _; exact h
  | cons op ops ih =>
    intro D Vl Vr h hok
    simp only [trace, List.map_cons, ok, Bool.and_eq_true, List.all_eq_true] at hok
    exact ih (agree_step op h (fun k hk => mem_of_has (hok.1.1 k hk)) (ne_of_fresh hok.1.2)) hok.2

/-- One value of a line: the two lines leave the same contents in the two buffers of `x`. -/
theorem after_eq (ops : List (POp sl sr Val)) {D : List (ℕ × ℕ)} {Vl : Valuation τl sl Val} {Vr : Valuation τr sr Val}
    (h : Agree D Vl Vr) (x : Pair sl sr T) (hok : (ok D (trace ops) && has x.key (known D (trace ops))) = true) :
    x.l.ofBuf (after (ops.map POp.left) Vl (Proc.devRef .tc x.l.ref))
      = x.r.ofBuf (after (ops.map POp.right) Vr (Proc.devRef .tc x.r.ref)) := by
  rw [Bool.and_eq_true] at hok
  exact agree_after ops h hok.1 T x (mem_of_has hok.2)

end Cert.Proof.Sim
-- ==== Proof.Noise.lean ====
/- The random noise of the two programs. Both compute it by one sequence of host operations (threefry2x32: the key split in two,
   the Gumbel noise of the first half, the uniform noise of the second), each in buffers of its own. Here that sequence is
   written once, over pairs of buffers. -/
module

public import proofs.«01_k».proof.Proof.Sim
public import proofs.«01_k».proof.Proof.Gen.KernelIdeal.Launch
public import proofs.«01_k».proof.Proof.Gen.ReferenceIdeal

@[expose] public section

set_option maxRecDepth 16384

noncomputable section

namespace Cert.Proof.Noise

open Idealize.ShloMosaic Idealize.ShloMosaic.StableHlo Cert.Proof.Sim
open Cert.KernelIdeal (S1 S2 S_ S1x1 S1x2 S2x1 S2x2 S128x2 S256x100000)
open Cert.KernelIdeal.Gen

variable {F : FTy → Type} [FloatOps F]

/-- A value of the two programs. -/
abbrev Pr (T : BufTy) : Type := Pair KernelIdeal.sig ReferenceIdeal.sig T
/-- An operation of the two programs. -/
abbrev Op (F : FTy → Type) : Type := POp KernelIdeal.sig ReferenceIdeal.sig (Elt F)

/-! ## The calls' buffers -/

abbrev kSplit := KernelIdeal.main_call0
abbrev rSplit := ReferenceIdeal.main_call4
abbrev kSplitT := KernelIdeal.main_call0.call0
abbrev rSplitT := ReferenceIdeal.main_call4.call0
abbrev kGumbel := KernelIdeal.main_call1
abbrev rGumbel := ReferenceIdeal.main_call5
abbrev kGumbelU := KernelIdeal.main_call1.call0
abbrev rGumbelU := ReferenceIdeal.main_call5.call0
abbrev kGumbelT := KernelIdeal.main_call1.call0.call0
abbrev rGumbelT := ReferenceIdeal.main_call5.call0.call0
abbrev kUnif := KernelIdeal.main_call2
abbrev rUnif := ReferenceIdeal.main_call7
abbrev kUnifT := KernelIdeal.main_call2.call0
abbrev rUnifT := ReferenceIdeal.main_call7.call0

/-! ## threefry2x32 -/

section Threefry

variable {s : Shape} (bc : (⟨S_, .i32⟩ : BufTy).Contents (Elt F) → (⟨s, .i32⟩ : BufTy).Contents (Elt F))

/-- One round on the words `x0`, `x1`: `v b` becomes their sum, `v (b + 6)` that sum xor `x1` rotated left by `n`; the two
    shift counts go to `cl` and `cr`. -/
def round (x0 x1 : Pr ⟨s, .i32⟩) (cl cr : Pr ⟨S_, .i32⟩) (n : ℕ) (v : ℕ → Pr ⟨s, .i32⟩) (b : ℕ) : List (Op F) :=
  [ .binary x0 x1 (v b) addi,
    .nullary cl (constantI S_ 32 (BitVec.ofNat 32 n)),
    .unary cl (v (b + 1)) bc,
    .binary x1 (v (b + 1)) (v (b + 2)) Host.shli,
    .nullary cr (constantI S_ 32 (BitVec.ofNat 32 (32 - n))),
    .unary cr (v (b + 3)) bc,
    .binary x1 (v (b + 3)) (v (b + 4)) Host.shrui,
    .binary (v (b + 2)) (v (b + 4)) (v (b + 5)) ori,
    .binary (v b) (v (b + 5)) (v (b + 6)) xori ]

/-- Four rounds by the rotations `n0 … n3`, then the key words `ka`, `kb` and the number `i` added in: the words end at
    `v (b + 29)` and `v (b + 33)`. The constants are `c 0 … c 8`. -/
def group (x0 x1 : Pr ⟨s, .i32⟩) (ka kb : Pr ⟨S_, .i32⟩) (n0 n1 n2 n3 i : ℕ) (c : ℕ → Pr ⟨S_, .i32⟩)
    (v : ℕ → Pr ⟨s, .i32⟩) (b : ℕ) : List (Op F) :=
  round bc x0 x1 (c 0) (c 1) n0 v b
  ++ round bc (v b) (v (b + 6)) (c 2) (c 3) n1 v (b + 7)
  ++ round bc (v (b + 7)) (v (b + 13)) (c 4) (c 5) n2 v (b + 14)
  ++ round bc (v (b + 14)) (v (b + 20)) (c 6) (c 7) n3 v (b + 21)
  ++ [ .unary ka (v (b + 28)) bc,
       .binary (v (b + 21)) (v (b + 28)) (v (b + 29)) addi,
       .unary kb (v (b + 30)) bc,
       .binary (v (b + 27)) (v (b + 30)) (v (b + 31)) addi,
       .nullary (c 8) (constantI S_ 32 (BitVec.ofNat 32 i)),
       .unary (c 8) (v (b + 32)) bc,
       .binary (v (b + 31)) (v (b + 32)) (v (b + 33)) addi ]

/-- threefry2x32 of the key words `a0`, `a1` on the count words `a2`, `a3`: the third key word is `k2` (`kx` and `kc` on the
    way), the twenty rounds' constants are `c` and their values `v`; the words end at `v 169` and `v 173`. -/
def threefry (a0 a1 : Pr ⟨S_, .i32⟩) (a2 a3 : Pr ⟨s, .i32⟩) (kx kc k2 : Pr ⟨S_, .i32⟩) (c : ℕ → Pr ⟨S_, .i32⟩)
    (v : ℕ → Pr ⟨s, .i32⟩) : List (Op F) :=
  [ .binary a0 a1 kx xori,
    .nullary kc (constantI S_ 32 466688986#32),
    .binary kx kc k2 xori,
    .unary a0 (v 0) bc,
    .binary a2 (v 0) (v 1) addi,
    .unary a1 (v 2) bc,
    .binary a3 (v 2) (v 3) addi ]
  ++ group bc (v 1) (v 3) a1 k2 13 15 26 6 1 c v 4
  ++ group bc (v 33) (v 37) k2 a0 17 29 16 24 2 (fun n => c (9 + n)) v 38
  ++ group bc (v 67) (v 71) a0 a1 13 15 26 6 3 (fun n => c (18 + n)) v 72
  ++ group bc (v 101) (v 105) a1 k2 17 29 16 24 4 (fun n => c (27 + n)) v 106
  ++ group bc (v 135) (v 139) k2 a0 13 15 26 6 5 (fun n => c (36 + n)) v 140

end Threefry

/-! ## The key and its two halves -/

/-- The constants of the key split. -/
def splitConsts : List (Pr ⟨S_, .i32⟩) :=
  [ pr kSplitT.c_0 rSplitT.c_0, pr kSplitT.c_1 rSplitT.c_1,
    pr kSplitT.c_2 rSplitT.c_2, pr kSplitT.c_3 rSplitT.c_3,
    pr kSplitT.c_4 rSplitT.c_4, pr kSplitT.c_5 rSplitT.c_5,
    pr kSplitT.c_6 rSplitT.c_6, pr kSplitT.c_7 rSplitT.c_7,
    pr kSplitT.c_8 rSplitT.c_8, pr kSplitT.c_9 rSplitT.c_9,
    pr kSplitT.c_10 rSplitT.c_10, pr kSplitT.c_11 rSplitT.c_11,
    pr kSplitT.c_12 rSplitT.c_12, pr kSplitT.c_13 rSplitT.c_13,
    pr kSplitT.c_14 rSplitT.c_14, pr kSplitT.c_15 rSplitT.c_15,
    pr kSplitT.c_16 rSplitT.c_16, pr kSplitT.c_17 rSplitT.c_17,
    pr kSplitT.c_18 rSplitT.c_18, pr kSplitT.c_19 rSplitT.c_19,
    pr kSplitT.c_20 rSplitT.c_20, pr kSplitT.c_21 rSplitT.c_21,
    pr kSplitT.c_22 rSplitT.c_22, pr kSplitT.c_23 rSplitT.c_23,
    pr kSplitT.c_24 rSplitT.c_24, pr kSplitT.c_25 rSplitT.c_25,
    pr kSplitT.c_26 rSplitT.c_26, pr kSplitT.c_27 rSplitT.c_27,
    pr kSplitT.c_28 rSplitT.c_28, pr kSplitT.c_29 rSplitT.c_29,
    pr kSplitT.c_30 rSplitT.c_30, pr kSplitT.c_31 rSplitT.c_31,
    pr kSplitT.c_32 rSplitT.c_32, pr kSplitT.c_33 rSplitT.c_33,
    pr kSplitT.c_34 rSplitT.c_34, pr kSplitT.c_35 rSplitT.c_35,
    pr kSplitT.c_36 rSplitT.c_36, pr kSplitT.c_37 rSplitT.c_37,
    pr kSplitT.c_38 rSplitT.c_38, pr kSplitT.c_39 rSplitT.c_39,
    pr kSplitT.c_40 rSplitT.c_40, pr kSplitT.c_41 rSplitT.c_41,
    pr kSplitT.c_42 rSplitT.c_42, pr kSplitT.c_43 rSplitT.c_43,
    pr kSplitT.c_44 rSplitT.c_44 ]
/-- The words of the key split. -/
def splitWords : List (Pr ⟨S2, .i32⟩) :=
  [ pr kSplitT.v2 rSplitT.v2, pr kSplitT.v3 rSplitT.v3,
    pr kSplitT.v4 rSplitT.v4, pr kSplitT.v5 rSplitT.v5,
    pr kSplitT.v6 rSplitT.v6, pr kSplitT.v7 rSplitT.v7,
    pr kSplitT.v8 rSplitT.v8, pr kSplitT.v9 rSplitT.v9,
    pr kSplitT.v10 rSplitT.v10, pr kSplitT.v11 rSplitT.v11,
    pr kSplitT.v12 rSplitT.v12, pr kSplitT.v13 rSplitT.v13,
    pr kSplitT.v14 rSplitT.v14, pr kSplitT.v15 rSplitT.v15,
    pr kSplitT.v16 rSplitT.v16, pr kSplitT.v17 rSplitT.v17,
    pr kSplitT.v18 rSplitT.v18, pr kSplitT.v19 rSplitT.v19,
    pr kSplitT.v20 rSplitT.v20, pr kSplitT.v21 rSplitT.v21,
    pr kSplitT.v22 rSplitT.v22, pr kSplitT.v23 rSplitT.v23,
    pr kSplitT.v24 rSplitT.v24, pr kSplitT.v25 rSplitT.v25,
    pr kSplitT.v26 rSplitT.v26, pr kSplitT.v27 rSplitT.v27,
    pr kSplitT.v28 rSplitT.v28, pr kSplitT.v29 rSplitT.v29,
    pr kSplitT.v30 rSplitT.v30, pr kSplitT.v31 rSplitT.v31,
    pr kSplitT.v32 rSplitT.v32, pr kSplitT.v33 rSplitT.v33,
    pr kSplitT.v34 rSplitT.v34, pr kSplitT.v35 rSplitT.v35,
    pr kSplitT.v36 rSplitT.v36, pr kSplitT.v37 rSplitT.v37,
    pr kSplitT.v38 rSplitT.v38, pr kSplitT.v39 rSplitT.v39,
    pr kSplitT.v40 rSplitT.v40, pr kSplitT.v41 rSplitT.v41,
    pr kSplitT.v42 rSplitT.v42, pr kSplitT.v43 rSplitT.v43,
    pr kSplitT.v44 rSplitT.v44, pr kSplitT.v45 rSplitT.v45,
    pr kSplitT.v46 rSplitT.v46, pr kSplitT.v47 rSplitT.v47,
    pr kSplitT.v48 rSplitT.v48, pr kSplitT.v49 rSplitT.v49,
    pr kSplitT.v50 rSplitT.v50, pr kSplitT.v51 rSplitT.v51,
    pr kSplitT.v52 rSplitT.v52, pr kSplitT.v53 rSplitT.v53,
    pr kSplitT.v54 rSplitT.v54, pr kSplitT.v55 rSplitT.v55,
    pr kSplitT.v56 rSplitT.v56, pr kSplitT.v57 rSplitT.v57,
    pr kSplitT.v58 rSplitT.v58, pr kSplitT.v59 rSplitT.v59,
    pr kSplitT.v60 rSplitT.v60, pr kSplitT.v61 rSplitT.v61,
    pr kSplitT.v62 rSplitT.v62, pr kSplitT.v63 rSplitT.v63,
    pr kSplitT.v64 rSplitT.v64, pr kSplitT.v65 rSplitT.v65,
    pr kSplitT.v66 rSplitT.v66, pr kSplitT.v67 rSplitT.v67,
    pr kSplitT.v68 rSplitT.v68, pr kSplitT.v69 rSplitT.v69,
    pr kSplitT.v70 rSplitT.v70, pr kSplitT.v71 rSplitT.v71,
    pr kSplitT.v72 rSplitT.v72, pr kSplitT.v73 rSplitT.v73,
    pr kSplitT.v74 rSplitT.v74, pr kSplitT.v75 rSplitT.v75,
    pr kSplitT.v76 rSplitT.v76, pr kSplitT.v77 rSplitT.v77,
    pr kSplitT.v78 rSplitT.v78, pr kSplitT.v79 rSplitT.v79,
    pr kSplitT.v80 rSplitT.v80, pr kSplitT.v81 rSplitT.v81,
    pr kSplitT.v82 rSplitT.v82, pr kSplitT.v83 rSplitT.v83,
    pr kSplitT.v84 rSplitT.v84, pr kSplitT.v85 rSplitT.v85,
    pr kSplitT.v86 rSplitT.v86, pr kSplitT.v87 rSplitT.v87,
    pr kSplitT.v88 rSplitT.v88, pr kSplitT.v89 rSplitT.v89,
    pr kSplitT.v90 rSplitT.v90, pr kSplitT.v91 rSplitT.v91,
    pr kSplitT.v92 rSplitT.v92, pr kSplitT.v93 rSplitT.v93,
    pr kSplitT.v94 rSplitT.v94, pr kSplitT.v95 rSplitT.v95,
    pr kSplitT.v96 rSplitT.v96, pr kSplitT.v97 rSplitT.v97,
    pr kSplitT.v98 rSplitT.v98, pr kSplitT.v99 rSplitT.v99,
    pr kSplitT.v100 rSplitT.v100, pr kSplitT.v101 rSplitT.v101,
    pr kSplitT.v102 rSplitT.v102, pr kSplitT.v103 rSplitT.v103,
    pr kSplitT.v104 rSplitT.v104, pr kSplitT.v105 rSplitT.v105,
    pr kSplitT.v106 rSplitT.v106, pr kSplitT.v107 rSplitT.v107,
    pr kSplitT.v108 rSplitT.v108, pr kSplitT.v109 rSplitT.v109,
    pr kSplitT.v110 rSplitT.v110, pr kSplitT.v111 rSplitT.v111,
    pr kSplitT.v112 rSplitT.v112, pr kSplitT.v113 rSplitT.v113,
    pr kSplitT.v114 rSplitT.v114, pr kSplitT.v115 rSplitT.v115,
    pr kSplitT.v116 rSplitT.v116, pr kSplitT.v117 rSplitT.v117,
    pr kSplitT.v118 rSplitT.v118, pr kSplitT.v119 rSplitT.v119,
    pr kSplitT.v120 rSplitT.v120, pr kSplitT.v121 rSplitT.v121,
    pr kSplitT.v122 rSplitT.v122, pr kSplitT.v123 rSplitT.v123,
    pr kSplitT.v124 rSplitT.v124, pr kSplitT.v125 rSplitT.v125,
    pr kSplitT.v126 rSplitT.v126, pr kSplitT.v127 rSplitT.v127,
    pr kSplitT.v128 rSplitT.v128, pr kSplitT.v129 rSplitT.v129,
    pr kSplitT.v130 rSplitT.v130, pr kSplitT.v131 rSplitT.v131,
    pr kSplitT.v132 rSplitT.v132, pr kSplitT.v133 rSplitT.v133,
    pr kSplitT.v134 rSplitT.v134, pr kSplitT.v135 rSplitT.v135,
    pr kSplitT.v136 rSplitT.v136, pr kSplitT.v137 rSplitT.v137,
    pr kSplitT.v138 rSplitT.v138, pr kSplitT.v139 rSplitT.v139,
    pr kSplitT.v140 rSplitT.v140, pr kSplitT.v141 rSplitT.v141,
    pr kSplitT.v142 rSplitT.v142, pr kSplitT.v143 rSplitT.v143,
    pr kSplitT.v144 rSplitT.v144, pr kSplitT.v145 rSplitT.v145,
    pr kSplitT.v146 rSplitT.v146, pr kSplitT.v147 rSplitT.v147,
    pr kSplitT.v148 rSplitT.v148, pr kSplitT.v149 rSplitT.v149,
    pr kSplitT.v150 rSplitT.v150, pr kSplitT.v151 rSplitT.v151,
    pr kSplitT.v152 rSplitT.v152, pr kSplitT.v153 rSplitT.v153,
    pr kSplitT.v154 rSplitT.v154, pr kSplitT.v155 rSplitT.v155,
    pr kSplitT.v156 rSplitT.v156, pr kSplitT.v157 rSplitT.v157,
    pr kSplitT.v158 rSplitT.v158, pr kSplitT.v159 rSplitT.v159,
    pr kSplitT.v160 rSplitT.v160, pr kSplitT.v161 rSplitT.v161,
    pr kSplitT.v162 rSplitT.v162, pr kSplitT.v163 rSplitT.v163,
    pr kSplitT.v164 rSplitT.v164, pr kSplitT.v165 rSplitT.v165,
    pr kSplitT.v166 rSplitT.v166, pr kSplitT.v167 rSplitT.v167,
    pr kSplitT.v168 rSplitT.v168, pr kSplitT.v169 rSplitT.v169,
    pr kSplitT.v170 rSplitT.v170, pr kSplitT.v171 rSplitT.v171,
    pr kSplitT.v172 rSplitT.v172, pr kSplitT.v173 rSplitT.v173,
    pr kSplitT.v174 rSplitT.v174, pr kSplitT.v175 rSplitT.v175 ]

/-- The key 42 as two words. -/
def keyOps : List (Op F) :=
  [ .nullary (pr (.of KernelIdeal.main_c) (.of ReferenceIdeal.main_c_14) : Pr ⟨S_, .i32⟩) (constantI S_ 32 42#32),
    .nullary (pr (.of KernelIdeal.main_c_0) (.of ReferenceIdeal.main_c_15) : Pr ⟨S_, .i32⟩) (constantI S_ 32 32#32),
    .binary (pr (.of KernelIdeal.main_c) (.of ReferenceIdeal.main_c_14) : Pr ⟨S_, .i32⟩) (pr (.of KernelIdeal.main_c_0) (.of ReferenceIdeal.main_c_15) : Pr ⟨S_, .i32⟩) (pr (.of KernelIdeal.main_v0) (.of ReferenceIdeal.main_v45) : Pr ⟨S_, .i32⟩) Host.shrui,
    .unary (pr (.of KernelIdeal.main_v0) (.of ReferenceIdeal.main_v45) : Pr ⟨S_, .i32⟩) (pr (.of KernelIdeal.main_v1) (.of ReferenceIdeal.main_v46) : Pr ⟨S_, .i32⟩) (id),
    .unary (pr (.of KernelIdeal.main_v1) (.of ReferenceIdeal.main_v46) : Pr ⟨S_, .i32⟩) (pr (.of KernelIdeal.main_v2) (.of ReferenceIdeal.main_v47) : Pr ⟨S1, .i32⟩) (broadcastInDim S1 ![] bcast_S_S1),
    .nullary (pr (.of KernelIdeal.main_c_1) (.of ReferenceIdeal.main_c_16) : Pr ⟨S_, .i32⟩) (constantI S_ 32 4294967295#32),
    .binary (pr (.of KernelIdeal.main_c) (.of ReferenceIdeal.main_c_14) : Pr ⟨S_, .i32⟩) (pr (.of KernelIdeal.main_c_1) (.of ReferenceIdeal.main_c_16) : Pr ⟨S_, .i32⟩) (pr (.of KernelIdeal.main_v3) (.of ReferenceIdeal.main_v48) : Pr ⟨S_, .i32⟩) (andi),
    .unary (pr (.of KernelIdeal.main_v3) (.of ReferenceIdeal.main_v48) : Pr ⟨S_, .i32⟩) (pr (.of KernelIdeal.main_v4) (.of ReferenceIdeal.main_v49) : Pr ⟨S_, .i32⟩) (id),
    .unary (pr (.of KernelIdeal.main_v4) (.of ReferenceIdeal.main_v49) : Pr ⟨S_, .i32⟩) (pr (.of KernelIdeal.main_v5) (.of ReferenceIdeal.main_v50) : Pr ⟨S1, .i32⟩) (broadcastInDim S1 ![] bcast_S_S1),
    .binary (pr (.of KernelIdeal.main_v2) (.of ReferenceIdeal.main_v47) : Pr ⟨S1, .i32⟩) (pr (.of KernelIdeal.main_v5) (.of ReferenceIdeal.main_v50) : Pr ⟨S1, .i32⟩) (pr (.of KernelIdeal.main_v6) (.of ReferenceIdeal.main_v51) : Pr ⟨S2, .i32⟩) (fun a b => concatenate S2 0 [⟨S1, a⟩, ⟨S1, b⟩] concatenates_S1_S1_S2_d0) ]

/-- The key split: threefry2x32 of the counts 0 and 1. -/
def splitOps : List (Op F) :=
  [ .unary (pr (.of KernelIdeal.main_v6) (.of ReferenceIdeal.main_v51) : Pr ⟨S2, .i32⟩) (pr kSplit.v0 rSplit.v0) (extractStridedSlice S1 ![0] · slices_S2_S1_0),
       .reshape (pr kSplit.v0 rSplit.v0) (pr kSplit.v1 rSplit.v1) rfl shapeCasts_S1_S_,
       .unary (pr (.of KernelIdeal.main_v6) (.of ReferenceIdeal.main_v51) : Pr ⟨S2, .i32⟩) (pr kSplit.v2 rSplit.v2) (extractStridedSlice S1 ![1] · slices_S2_S1_1),
       .reshape (pr kSplit.v2 rSplit.v2) (pr kSplit.v3 rSplit.v3) rfl shapeCasts_S1_S_,
       .nullary (pr kSplit.v4 rSplit.v4) (iotaInDim S2 64 0),
       .nullary (pr kSplit.c rSplit.c) (constantI S_ 64 1#64),
       .unary (pr kSplit.c rSplit.c) (pr kSplit.v5 rSplit.v5) (broadcastInDim S2 ![] bcast_S_S2),
       .binary (pr kSplit.v5 rSplit.v5) (pr kSplit.v4 rSplit.v4) (pr kSplit.v6 rSplit.v6) muli,
       .nullary (pr kSplit.c_0 rSplit.c_0) (constantI S_ 64 32#64),
       .unary (pr kSplit.c_0 rSplit.c_0) (pr kSplit.v7 rSplit.v7) (broadcastInDim S2 ![] bcast_S_S2),
       .binary (pr kSplit.v6 rSplit.v6) (pr kSplit.v7 rSplit.v7) (pr kSplit.v8 rSplit.v8) Host.shrui,
       .unary (pr kSplit.v6 rSplit.v6) (pr kSplit.v9 rSplit.v9) (trunci 32 · natLt_32_64),
       .unary (pr kSplit.v8 rSplit.v8) (pr kSplit.v10 rSplit.v10) (trunci 32 · natLt_32_64) ]
  ++ threefry (broadcastInDim S2 ![] bcast_S_S2) (pr kSplit.v1 rSplit.v1) (pr kSplit.v3 rSplit.v3) (pr kSplit.v10 rSplit.v10) (pr kSplit.v9 rSplit.v9) (pr kSplitT.v0 rSplitT.v0) (pr kSplitT.c rSplitT.c) (pr kSplitT.v1 rSplitT.v1)
       (fun n => splitConsts.getD n (pr kSplitT.c rSplitT.c)) (fun n => splitWords.getD n (pr kSplitT.v2 rSplitT.v2))
  ++ [ .unary (pr kSplitT.v171 rSplitT.v171) (pr kSplit.v12 rSplit.v12) (broadcastInDim S2x1 ![0] bcast_S2_S2x1_0),
       .unary (pr kSplitT.v175 rSplitT.v175) (pr kSplit.v13 rSplit.v13) (broadcastInDim S2x1 ![0] bcast_S2_S2x1_0),
       .binary (pr kSplit.v12 rSplit.v12) (pr kSplit.v13 rSplit.v13) (pr kSplit.v14 rSplit.v14) (fun a b => concatenate S2x2 1 [⟨S2x1, a⟩, ⟨S2x1, b⟩] concatenates_S2x1_S2x1_S2x2_d1) ]

/-- The two halves of the split: the Gumbel noise's key and the uniform noise's. -/
def halvesOps : List (Op F) :=
  [ .unary (pr (.of KernelIdeal.main_v7) (.of ReferenceIdeal.main_v52) : Pr ⟨S2x2, .i32⟩) (pr (.of KernelIdeal.main_v8) (.of ReferenceIdeal.main_v53) : Pr ⟨S1x2, .i32⟩) (extractStridedSlice S1x2 ![0, 0] · slices_S2x2_S1x2_0_0),
    .reshape (pr (.of KernelIdeal.main_v8) (.of ReferenceIdeal.main_v53) : Pr ⟨S1x2, .i32⟩) (pr (.of KernelIdeal.main_v9) (.of ReferenceIdeal.main_v54) : Pr ⟨S2, .i32⟩) rfl shapeCasts_S1x2_S2,
    .unary (pr (.of KernelIdeal.main_v7) (.of ReferenceIdeal.main_v52) : Pr ⟨S2x2, .i32⟩) (pr (.of KernelIdeal.main_v10) (.of ReferenceIdeal.main_v55) : Pr ⟨S1x2, .i32⟩) (extractStridedSlice S1x2 ![1, 0] · slices_S2x2_S1x2_1_0),
    .reshape (pr (.of KernelIdeal.main_v10) (.of ReferenceIdeal.main_v55) : Pr ⟨S1x2, .i32⟩) (pr (.of KernelIdeal.main_v11) (.of ReferenceIdeal.main_v56) : Pr ⟨S2, .i32⟩) rfl shapeCasts_S1x2_S2 ]

/-! ## The Gumbel noise -/

/-- The constants of the Gumbel noise's bits. -/
def gumbelConsts : List (Pr ⟨S_, .i32⟩) :=
  [ pr kGumbelT.c_0 rGumbelT.c_0, pr kGumbelT.c_1 rGumbelT.c_1,
    pr kGumbelT.c_2 rGumbelT.c_2, pr kGumbelT.c_3 rGumbelT.c_3,
    pr kGumbelT.c_4 rGumbelT.c_4, pr kGumbelT.c_5 rGumbelT.c_5,
    pr kGumbelT.c_6 rGumbelT.c_6, pr kGumbelT.c_7 rGumbelT.c_7,
    pr kGumbelT.c_8 rGumbelT.c_8, pr kGumbelT.c_9 rGumbelT.c_9,
    pr kGumbelT.c_10 rGumbelT.c_10,
    pr kGumbelT.c_11 rGumbelT.c_11,
    pr kGumbelT.c_12 rGumbelT.c_12,
    pr kGumbelT.c_13 rGumbelT.c_13,
    pr kGumbelT.c_14 rGumbelT.c_14,
    pr kGumbelT.c_15 rGumbelT.c_15,
    pr kGumbelT.c_16 rGumbelT.c_16,
    pr kGumbelT.c_17 rGumbelT.c_17,
    pr kGumbelT.c_18 rGumbelT.c_18,
    pr kGumbelT.c_19 rGumbelT.c_19,
    pr kGumbelT.c_20 rGumbelT.c_20,
    pr kGumbelT.c_21 rGumbelT.c_21,
    pr kGumbelT.c_22 rGumbelT.c_22,
    pr kGumbelT.c_23 rGumbelT.c_23,
    pr kGumbelT.c_24 rGumbelT.c_24,
    pr kGumbelT.c_25 rGumbelT.c_25,
    pr kGumbelT.c_26 rGumbelT.c_26,
    pr kGumbelT.c_27 rGumbelT.c_27,
    pr kGumbelT.c_28 rGumbelT.c_28,
    pr kGumbelT.c_29 rGumbelT.c_29,
    pr kGumbelT.c_30 rGumbelT.c_30,
    pr kGumbelT.c_31 rGumbelT.c_31,
    pr kGumbelT.c_32 rGumbelT.c_32,
    pr kGumbelT.c_33 rGumbelT.c_33,
    pr kGumbelT.c_34 rGumbelT.c_34,
    pr kGumbelT.c_35 rGumbelT.c_35,
    pr kGumbelT.c_36 rGumbelT.c_36,
    pr kGumbelT.c_37 rGumbelT.c_37,
    pr kGumbelT.c_38 rGumbelT.c_38,
    pr kGumbelT.c_39 rGumbelT.c_39,
    pr kGumbelT.c_40 rGumbelT.c_40,
    pr kGumbelT.c_41 rGumbelT.c_41,
    pr kGumbelT.c_42 rGumbelT.c_42,
    pr kGumbelT.c_43 rGumbelT.c_43,
    pr kGumbelT.c_44 rGumbelT.c_44 ]
/-- The words of the Gumbel noise's bits. -/
def gumbelWords : List (Pr ⟨S256x100000, .i32⟩) :=
  [ pr kGumbelT.v2 rGumbelT.v2, pr kGumbelT.v3 rGumbelT.v3,
    pr kGumbelT.v4 rGumbelT.v4, pr kGumbelT.v5 rGumbelT.v5,
    pr kGumbelT.v6 rGumbelT.v6, pr kGumbelT.v7 rGumbelT.v7,
    pr kGumbelT.v8 rGumbelT.v8, pr kGumbelT.v9 rGumbelT.v9,
    pr kGumbelT.v10 rGumbelT.v10, pr kGumbelT.v11 rGumbelT.v11,
    pr kGumbelT.v12 rGumbelT.v12, pr kGumbelT.v13 rGumbelT.v13,
    pr kGumbelT.v14 rGumbelT.v14, pr kGumbelT.v15 rGumbelT.v15,
    pr kGumbelT.v16 rGumbelT.v16, pr kGumbelT.v17 rGumbelT.v17,
    pr kGumbelT.v18 rGumbelT.v18, pr kGumbelT.v19 rGumbelT.v19,
    pr kGumbelT.v20 rGumbelT.v20, pr kGumbelT.v21 rGumbelT.v21,
    pr kGumbelT.v22 rGumbelT.v22, pr kGumbelT.v23 rGumbelT.v23,
    pr kGumbelT.v24 rGumbelT.v24, pr kGumbelT.v25 rGumbelT.v25,
    pr kGumbelT.v26 rGumbelT.v26, pr kGumbelT.v27 rGumbelT.v27,
    pr kGumbelT.v28 rGumbelT.v28, pr kGumbelT.v29 rGumbelT.v29,
    pr kGumbelT.v30 rGumbelT.v30, pr kGumbelT.v31 rGumbelT.v31,
    pr kGumbelT.v32 rGumbelT.v32, pr kGumbelT.v33 rGumbelT.v33,
    pr kGumbelT.v34 rGumbelT.v34, pr kGumbelT.v35 rGumbelT.v35,
    pr kGumbelT.v36 rGumbelT.v36, pr kGumbelT.v37 rGumbelT.v37,
    pr kGumbelT.v38 rGumbelT.v38, pr kGumbelT.v39 rGumbelT.v39,
    pr kGumbelT.v40 rGumbelT.v40, pr kGumbelT.v41 rGumbelT.v41,
    pr kGumbelT.v42 rGumbelT.v42, pr kGumbelT.v43 rGumbelT.v43,
    pr kGumbelT.v44 rGumbelT.v44, pr kGumbelT.v45 rGumbelT.v45,
    pr kGumbelT.v46 rGumbelT.v46, pr kGumbelT.v47 rGumbelT.v47,
    pr kGumbelT.v48 rGumbelT.v48, pr kGumbelT.v49 rGumbelT.v49,
    pr kGumbelT.v50 rGumbelT.v50, pr kGumbelT.v51 rGumbelT.v51,
    pr kGumbelT.v52 rGumbelT.v52, pr kGumbelT.v53 rGumbelT.v53,
    pr kGumbelT.v54 rGumbelT.v54, pr kGumbelT.v55 rGumbelT.v55,
    pr kGumbelT.v56 rGumbelT.v56, pr kGumbelT.v57 rGumbelT.v57,
    pr kGumbelT.v58 rGumbelT.v58, pr kGumbelT.v59 rGumbelT.v59,
    pr kGumbelT.v60 rGumbelT.v60, pr kGumbelT.v61 rGumbelT.v61,
    pr kGumbelT.v62 rGumbelT.v62, pr kGumbelT.v63 rGumbelT.v63,
    pr kGumbelT.v64 rGumbelT.v64, pr kGumbelT.v65 rGumbelT.v65,
    pr kGumbelT.v66 rGumbelT.v66, pr kGumbelT.v67 rGumbelT.v67,
    pr kGumbelT.v68 rGumbelT.v68, pr kGumbelT.v69 rGumbelT.v69,
    pr kGumbelT.v70 rGumbelT.v70, pr kGumbelT.v71 rGumbelT.v71,
    pr kGumbelT.v72 rGumbelT.v72, pr kGumbelT.v73 rGumbelT.v73,
    pr kGumbelT.v74 rGumbelT.v74, pr kGumbelT.v75 rGumbelT.v75,
    pr kGumbelT.v76 rGumbelT.v76, pr kGumbelT.v77 rGumbelT.v77,
    pr kGumbelT.v78 rGumbelT.v78, pr kGumbelT.v79 rGumbelT.v79,
    pr kGumbelT.v80 rGumbelT.v80, pr kGumbelT.v81 rGumbelT.v81,
    pr kGumbelT.v82 rGumbelT.v82, pr kGumbelT.v83 rGumbelT.v83,
    pr kGumbelT.v84 rGumbelT.v84, pr kGumbelT.v85 rGumbelT.v85,
    pr kGumbelT.v86 rGumbelT.v86, pr kGumbelT.v87 rGumbelT.v87,
    pr kGumbelT.v88 rGumbelT.v88, pr kGumbelT.v89 rGumbelT.v89,
    pr kGumbelT.v90 rGumbelT.v90, pr kGumbelT.v91 rGumbelT.v91,
    pr kGumbelT.v92 rGumbelT.v92, pr kGumbelT.v93 rGumbelT.v93,
    pr kGumbelT.v94 rGumbelT.v94, pr kGumbelT.v95 rGumbelT.v95,
    pr kGumbelT.v96 rGumbelT.v96, pr kGumbelT.v97 rGumbelT.v97,
    pr kGumbelT.v98 rGumbelT.v98, pr kGumbelT.v99 rGumbelT.v99,
    pr kGumbelT.v100 rGumbelT.v100,
    pr kGumbelT.v101 rGumbelT.v101,
    pr kGumbelT.v102 rGumbelT.v102,
    pr kGumbelT.v103 rGumbelT.v103,
    pr kGumbelT.v104 rGumbelT.v104,
    pr kGumbelT.v105 rGumbelT.v105,
    pr kGumbelT.v106 rGumbelT.v106,
    pr kGumbelT.v107 rGumbelT.v107,
    pr kGumbelT.v108 rGumbelT.v108,
    pr kGumbelT.v109 rGumbelT.v109,
    pr kGumbelT.v110 rGumbelT.v110,
    pr kGumbelT.v111 rGumbelT.v111,
    pr kGumbelT.v112 rGumbelT.v112,
    pr kGumbelT.v113 rGumbelT.v113,
    pr kGumbelT.v114 rGumbelT.v114,
    pr kGumbelT.v115 rGumbelT.v115,
    pr kGumbelT.v116 rGumbelT.v116,
    pr kGumbelT.v117 rGumbelT.v117,
    pr kGumbelT.v118 rGumbelT.v118,
    pr kGumbelT.v119 rGumbelT.v119,
    pr kGumbelT.v120 rGumbelT.v120,
    pr kGumbelT.v121 rGumbelT.v121,
    pr kGumbelT.v122 rGumbelT.v122,
    pr kGumbelT.v123 rGumbelT.v123,
    pr kGumbelT.v124 rGumbelT.v124,
    pr kGumbelT.v125 rGumbelT.v125,
    pr kGumbelT.v126 rGumbelT.v126,
    pr kGumbelT.v127 rGumbelT.v127,
    pr kGumbelT.v128 rGumbelT.v128,
    pr kGumbelT.v129 rGumbelT.v129,
    pr kGumbelT.v130 rGumbelT.v130,
    pr kGumbelT.v131 rGumbelT.v131,
    pr kGumbelT.v132 rGumbelT.v132,
    pr kGumbelT.v133 rGumbelT.v133,
    pr kGumbelT.v134 rGumbelT.v134,
    pr kGumbelT.v135 rGumbelT.v135,
    pr kGumbelT.v136 rGumbelT.v136,
    pr kGumbelT.v137 rGumbelT.v137,
    pr kGumbelT.v138 rGumbelT.v138,
    pr kGumbelT.v139 rGumbelT.v139,
    pr kGumbelT.v140 rGumbelT.v140,
    pr kGumbelT.v141 rGumbelT.v141,
    pr kGumbelT.v142 rGumbelT.v142,
    pr kGumbelT.v143 rGumbelT.v143,
    pr kGumbelT.v144 rGumbelT.v144,
    pr kGumbelT.v145 rGumbelT.v145,
    pr kGumbelT.v146 rGumbelT.v146,
    pr kGumbelT.v147 rGumbelT.v147,
    pr kGumbelT.v148 rGumbelT.v148,
    pr kGumbelT.v149 rGumbelT.v149,
    pr kGumbelT.v150 rGumbelT.v150,
    pr kGumbelT.v151 rGumbelT.v151,
    pr kGumbelT.v152 rGumbelT.v152,
    pr kGumbelT.v153 rGumbelT.v153,
    pr kGumbelT.v154 rGumbelT.v154,
    pr kGumbelT.v155 rGumbelT.v155,
    pr kGumbelT.v156 rGumbelT.v156,
    pr kGumbelT.v157 rGumbelT.v157,
    pr kGumbelT.v158 rGumbelT.v158,
    pr kGumbelT.v159 rGumbelT.v159,
    pr kGumbelT.v160 rGumbelT.v160,
    pr kGumbelT.v161 rGumbelT.v161,
    pr kGumbelT.v162 rGumbelT.v162,
    pr kGumbelT.v163 rGumbelT.v163,
    pr kGumbelT.v164 rGumbelT.v164,
    pr kGumbelT.v165 rGumbelT.v165,
    pr kGumbelT.v166 rGumbelT.v166,
    pr kGumbelT.v167 rGumbelT.v167,
    pr kGumbelT.v168 rGumbelT.v168,
    pr kGumbelT.v169 rGumbelT.v169,
    pr kGumbelT.v170 rGumbelT.v170,
    pr kGumbelT.v171 rGumbelT.v171,
    pr kGumbelT.v172 rGumbelT.v172,
    pr kGumbelT.v173 rGumbelT.v173,
    pr kGumbelT.v174 rGumbelT.v174,
    pr kGumbelT.v175 rGumbelT.v175 ]

/-- The Gumbel noise: a uniform number `u` of each count, `-log (-log u)`. -/
def gumbelOps : List (Op F) :=
  [ .nullary (pr kGumbel.cst rGumbel.cst) (constant S_ .f32 0x3F800000#32),
       .nullary (pr kGumbel.cst_0 rGumbel.cst_0) (constant S_ .f32 0x00800000#32) ]
  ++ [ .unary (pr kGumbel.cst rGumbel.cst) (pr kGumbelU.v0 rGumbelU.v0) id,
       .unary (pr kGumbel.cst_0 rGumbel.cst_0) (pr kGumbelU.v1 rGumbelU.v1) (broadcastInDim S1x1 ![] bcast_S_S1x1),
       .unary (pr kGumbelU.v0 rGumbelU.v0) (pr kGumbelU.v2 rGumbelU.v2) (broadcastInDim S1x1 ![] bcast_S_S1x1),
       .unary (pr (.of KernelIdeal.main_v9) (.of ReferenceIdeal.main_v54) : Pr ⟨S2, .i32⟩) (pr kGumbelU.v3 rGumbelU.v3) (extractStridedSlice S1 ![0] · slices_S2_S1_0),
       .reshape (pr kGumbelU.v3 rGumbelU.v3) (pr kGumbelU.v4 rGumbelU.v4) rfl shapeCasts_S1_S_,
       .unary (pr (.of KernelIdeal.main_v9) (.of ReferenceIdeal.main_v54) : Pr ⟨S2, .i32⟩) (pr kGumbelU.v5 rGumbelU.v5) (extractStridedSlice S1 ![1] · slices_S2_S1_1),
       .reshape (pr kGumbelU.v5 rGumbelU.v5) (pr kGumbelU.v6 rGumbelU.v6) rfl shapeCasts_S1_S_,
       .nullary (pr kGumbelU.v7 rGumbelU.v7) (iotaInDim S256x100000 64 0),
       .nullary (pr kGumbelU.v8 rGumbelU.v8) (iotaInDim S256x100000 64 1),
       .nullary (pr kGumbelU.c rGumbelU.c) (constantI S_ 64 100000#64),
       .unary (pr kGumbelU.c rGumbelU.c) (pr kGumbelU.v9 rGumbelU.v9) (broadcastInDim S256x100000 ![] bcast_S_S256x100000),
       .binary (pr kGumbelU.v9 rGumbelU.v9) (pr kGumbelU.v7 rGumbelU.v7) (pr kGumbelU.v10 rGumbelU.v10) muli,
       .nullary (pr kGumbelU.c_0 rGumbelU.c_0) (constantI S_ 64 1#64),
       .unary (pr kGumbelU.c_0 rGumbelU.c_0) (pr kGumbelU.v11 rGumbelU.v11) (broadcastInDim S256x100000 ![] bcast_S_S256x100000),
       .binary (pr kGumbelU.v11 rGumbelU.v11) (pr kGumbelU.v8 rGumbelU.v8) (pr kGumbelU.v12 rGumbelU.v12) muli,
       .binary (pr kGumbelU.v10 rGumbelU.v10) (pr kGumbelU.v12 rGumbelU.v12) (pr kGumbelU.v13 rGumbelU.v13) addi,
       .nullary (pr kGumbelU.c_1 rGumbelU.c_1) (constantI S_ 64 32#64),
       .unary (pr kGumbelU.c_1 rGumbelU.c_1) (pr kGumbelU.v14 rGumbelU.v14) (broadcastInDim S256x100000 ![] bcast_S_S256x100000),
       .binary (pr kGumbelU.v13 rGumbelU.v13) (pr kGumbelU.v14 rGumbelU.v14) (pr kGumbelU.v15 rGumbelU.v15) Host.shrui,
       .unary (pr kGumbelU.v13 rGumbelU.v13) (pr kGumbelU.v16 rGumbelU.v16) (trunci 32 · natLt_32_64),
       .unary (pr kGumbelU.v15 rGumbelU.v15) (pr kGumbelU.v17 rGumbelU.v17) (trunci 32 · natLt_32_64) ]
  ++ threefry (broadcastInDim S256x100000 ![] bcast_S_S256x100000) (pr kGumbelU.v4 rGumbelU.v4) (pr kGumbelU.v6 rGumbelU.v6) (pr kGumbelU.v17 rGumbelU.v17) (pr kGumbelU.v16 rGumbelU.v16) (pr kGumbelT.v0 rGumbelT.v0) (pr kGumbelT.c rGumbelT.c) (pr kGumbelT.v1 rGumbelT.v1)
       (fun n => gumbelConsts.getD n (pr kGumbelT.c rGumbelT.c)) (fun n => gumbelWords.getD n (pr kGumbelT.v2 rGumbelT.v2))
  ++ [ .binary (pr kGumbelT.v171 rGumbelT.v171) (pr kGumbelT.v175 rGumbelT.v175) (pr kGumbelU.v19 rGumbelU.v19) xori,
       .nullary (pr kGumbelU.c_2 rGumbelU.c_2) (constantI S_ 32 9#32),
       .unary (pr kGumbelU.c_2 rGumbelU.c_2) (pr kGumbelU.v20 rGumbelU.v20) (broadcastInDim S256x100000 ![] bcast_S_S256x100000),
       .binary (pr kGumbelU.v19 rGumbelU.v19) (pr kGumbelU.v20 rGumbelU.v20) (pr kGumbelU.v21 rGumbelU.v21) Host.shrui,
       .nullary (pr kGumbelU.c_3 rGumbelU.c_3) (constantI S_ 32 1065353216#32),
       .unary (pr kGumbelU.c_3 rGumbelU.c_3) (pr kGumbelU.v22 rGumbelU.v22) (broadcastInDim S256x100000 ![] bcast_S_S256x100000),
       .binary (pr kGumbelU.v21 rGumbelU.v21) (pr kGumbelU.v22 rGumbelU.v22) (pr kGumbelU.v23 rGumbelU.v23) ori,
       .unary (pr kGumbelU.v23 rGumbelU.v23) (pr kGumbelU.v24 rGumbelU.v24) (bitcastToFloat .f32),
       .nullary (pr kGumbelU.cst rGumbelU.cst) (constant S_ .f32 0x3F800000#32),
       .unary (pr kGumbelU.cst rGumbelU.cst) (pr kGumbelU.v25 rGumbelU.v25) (broadcastInDim S256x100000 ![] bcast_S_S256x100000),
       .binary (pr kGumbelU.v24 rGumbelU.v24) (pr kGumbelU.v25 rGumbelU.v25) (pr kGumbelU.v26 rGumbelU.v26) subf,
       .binary (pr kGumbelU.v2 rGumbelU.v2) (pr kGumbelU.v1 rGumbelU.v1) (pr kGumbelU.v27 rGumbelU.v27) subf,
       .unary (pr kGumbelU.v27 rGumbelU.v27) (pr kGumbelU.v28 rGumbelU.v28) (broadcastInDim S256x100000 ![0, 1] bcast_S1x1_S256x100000_0_1),
       .binary (pr kGumbelU.v26 rGumbelU.v26) (pr kGumbelU.v28 rGumbelU.v28) (pr kGumbelU.v29 rGumbelU.v29) mulf,
       .unary (pr kGumbelU.v1 rGumbelU.v1) (pr kGumbelU.v30 rGumbelU.v30) (broadcastInDim S256x100000 ![0, 1] bcast_S1x1_S256x100000_0_1),
       .binary (pr kGumbelU.v29 rGumbelU.v29) (pr kGumbelU.v30 rGumbelU.v30) (pr kGumbelU.v31 rGumbelU.v31) addf,
       .unary (pr kGumbelU.v1 rGumbelU.v1) (pr kGumbelU.v32 rGumbelU.v32) (broadcastInDim S256x100000 ![0, 1] bcast_S1x1_S256x100000_0_1),
       .binary (pr kGumbelU.v32 rGumbelU.v32) (pr kGumbelU.v31 rGumbelU.v31) (pr kGumbelU.v33 rGumbelU.v33) maximumf ]
  ++ [ .unary (pr kGumbelU.v33 rGumbelU.v33) (pr kGumbel.v1 rGumbel.v1) Host.log,
       .unary (pr kGumbel.v1 rGumbel.v1) (pr kGumbel.v2 rGumbel.v2) Host.negf,
       .unary (pr kGumbel.v2 rGumbel.v2) (pr kGumbel.v3 rGumbel.v3) Host.log,
       .unary (pr kGumbel.v3 rGumbel.v3) (pr kGumbel.v4 rGumbel.v4) Host.negf ]

/-! ## The uniform noise -/

/-- The constants of the uniform noise's bits. -/
def unifConsts : List (Pr ⟨S_, .i32⟩) :=
  [ pr kUnifT.c_0 rUnifT.c_0, pr kUnifT.c_1 rUnifT.c_1,
    pr kUnifT.c_2 rUnifT.c_2, pr kUnifT.c_3 rUnifT.c_3,
    pr kUnifT.c_4 rUnifT.c_4, pr kUnifT.c_5 rUnifT.c_5,
    pr kUnifT.c_6 rUnifT.c_6, pr kUnifT.c_7 rUnifT.c_7,
    pr kUnifT.c_8 rUnifT.c_8, pr kUnifT.c_9 rUnifT.c_9,
    pr kUnifT.c_10 rUnifT.c_10, pr kUnifT.c_11 rUnifT.c_11,
    pr kUnifT.c_12 rUnifT.c_12, pr kUnifT.c_13 rUnifT.c_13,
    pr kUnifT.c_14 rUnifT.c_14, pr kUnifT.c_15 rUnifT.c_15,
    pr kUnifT.c_16 rUnifT.c_16, pr kUnifT.c_17 rUnifT.c_17,
    pr kUnifT.c_18 rUnifT.c_18, pr kUnifT.c_19 rUnifT.c_19,
    pr kUnifT.c_20 rUnifT.c_20, pr kUnifT.c_21 rUnifT.c_21,
    pr kUnifT.c_22 rUnifT.c_22, pr kUnifT.c_23 rUnifT.c_23,
    pr kUnifT.c_24 rUnifT.c_24, pr kUnifT.c_25 rUnifT.c_25,
    pr kUnifT.c_26 rUnifT.c_26, pr kUnifT.c_27 rUnifT.c_27,
    pr kUnifT.c_28 rUnifT.c_28, pr kUnifT.c_29 rUnifT.c_29,
    pr kUnifT.c_30 rUnifT.c_30, pr kUnifT.c_31 rUnifT.c_31,
    pr kUnifT.c_32 rUnifT.c_32, pr kUnifT.c_33 rUnifT.c_33,
    pr kUnifT.c_34 rUnifT.c_34, pr kUnifT.c_35 rUnifT.c_35,
    pr kUnifT.c_36 rUnifT.c_36, pr kUnifT.c_37 rUnifT.c_37,
    pr kUnifT.c_38 rUnifT.c_38, pr kUnifT.c_39 rUnifT.c_39,
    pr kUnifT.c_40 rUnifT.c_40, pr kUnifT.c_41 rUnifT.c_41,
    pr kUnifT.c_42 rUnifT.c_42, pr kUnifT.c_43 rUnifT.c_43,
    pr kUnifT.c_44 rUnifT.c_44 ]
/-- The words of the uniform noise's bits. -/
def unifWords : List (Pr ⟨S128x2, .i32⟩) :=
  [ pr kUnifT.v2 rUnifT.v2, pr kUnifT.v3 rUnifT.v3,
    pr kUnifT.v4 rUnifT.v4, pr kUnifT.v5 rUnifT.v5,
    pr kUnifT.v6 rUnifT.v6, pr kUnifT.v7 rUnifT.v7,
    pr kUnifT.v8 rUnifT.v8, pr kUnifT.v9 rUnifT.v9,
    pr kUnifT.v10 rUnifT.v10, pr kUnifT.v11 rUnifT.v11,
    pr kUnifT.v12 rUnifT.v12, pr kUnifT.v13 rUnifT.v13,
    pr kUnifT.v14 rUnifT.v14, pr kUnifT.v15 rUnifT.v15,
    pr kUnifT.v16 rUnifT.v16, pr kUnifT.v17 rUnifT.v17,
    pr kUnifT.v18 rUnifT.v18, pr kUnifT.v19 rUnifT.v19,
    pr kUnifT.v20 rUnifT.v20, pr kUnifT.v21 rUnifT.v21,
    pr kUnifT.v22 rUnifT.v22, pr kUnifT.v23 rUnifT.v23,
    pr kUnifT.v24 rUnifT.v24, pr kUnifT.v25 rUnifT.v25,
    pr kUnifT.v26 rUnifT.v26, pr kUnifT.v27 rUnifT.v27,
    pr kUnifT.v28 rUnifT.v28, pr kUnifT.v29 rUnifT.v29,
    pr kUnifT.v30 rUnifT.v30, pr kUnifT.v31 rUnifT.v31,
    pr kUnifT.v32 rUnifT.v32, pr kUnifT.v33 rUnifT.v33,
    pr kUnifT.v34 rUnifT.v34, pr kUnifT.v35 rUnifT.v35,
    pr kUnifT.v36 rUnifT.v36, pr kUnifT.v37 rUnifT.v37,
    pr kUnifT.v38 rUnifT.v38, pr kUnifT.v39 rUnifT.v39,
    pr kUnifT.v40 rUnifT.v40, pr kUnifT.v41 rUnifT.v41,
    pr kUnifT.v42 rUnifT.v42, pr kUnifT.v43 rUnifT.v43,
    pr kUnifT.v44 rUnifT.v44, pr kUnifT.v45 rUnifT.v45,
    pr kUnifT.v46 rUnifT.v46, pr kUnifT.v47 rUnifT.v47,
    pr kUnifT.v48 rUnifT.v48, pr kUnifT.v49 rUnifT.v49,
    pr kUnifT.v50 rUnifT.v50, pr kUnifT.v51 rUnifT.v51,
    pr kUnifT.v52 rUnifT.v52, pr kUnifT.v53 rUnifT.v53,
    pr kUnifT.v54 rUnifT.v54, pr kUnifT.v55 rUnifT.v55,
    pr kUnifT.v56 rUnifT.v56, pr kUnifT.v57 rUnifT.v57,
    pr kUnifT.v58 rUnifT.v58, pr kUnifT.v59 rUnifT.v59,
    pr kUnifT.v60 rUnifT.v60, pr kUnifT.v61 rUnifT.v61,
    pr kUnifT.v62 rUnifT.v62, pr kUnifT.v63 rUnifT.v63,
    pr kUnifT.v64 rUnifT.v64, pr kUnifT.v65 rUnifT.v65,
    pr kUnifT.v66 rUnifT.v66, pr kUnifT.v67 rUnifT.v67,
    pr kUnifT.v68 rUnifT.v68, pr kUnifT.v69 rUnifT.v69,
    pr kUnifT.v70 rUnifT.v70, pr kUnifT.v71 rUnifT.v71,
    pr kUnifT.v72 rUnifT.v72, pr kUnifT.v73 rUnifT.v73,
    pr kUnifT.v74 rUnifT.v74, pr kUnifT.v75 rUnifT.v75,
    pr kUnifT.v76 rUnifT.v76, pr kUnifT.v77 rUnifT.v77,
    pr kUnifT.v78 rUnifT.v78, pr kUnifT.v79 rUnifT.v79,
    pr kUnifT.v80 rUnifT.v80, pr kUnifT.v81 rUnifT.v81,
    pr kUnifT.v82 rUnifT.v82, pr kUnifT.v83 rUnifT.v83,
    pr kUnifT.v84 rUnifT.v84, pr kUnifT.v85 rUnifT.v85,
    pr kUnifT.v86 rUnifT.v86, pr kUnifT.v87 rUnifT.v87,
    pr kUnifT.v88 rUnifT.v88, pr kUnifT.v89 rUnifT.v89,
    pr kUnifT.v90 rUnifT.v90, pr kUnifT.v91 rUnifT.v91,
    pr kUnifT.v92 rUnifT.v92, pr kUnifT.v93 rUnifT.v93,
    pr kUnifT.v94 rUnifT.v94, pr kUnifT.v95 rUnifT.v95,
    pr kUnifT.v96 rUnifT.v96, pr kUnifT.v97 rUnifT.v97,
    pr kUnifT.v98 rUnifT.v98, pr kUnifT.v99 rUnifT.v99,
    pr kUnifT.v100 rUnifT.v100, pr kUnifT.v101 rUnifT.v101,
    pr kUnifT.v102 rUnifT.v102, pr kUnifT.v103 rUnifT.v103,
    pr kUnifT.v104 rUnifT.v104, pr kUnifT.v105 rUnifT.v105,
    pr kUnifT.v106 rUnifT.v106, pr kUnifT.v107 rUnifT.v107,
    pr kUnifT.v108 rUnifT.v108, pr kUnifT.v109 rUnifT.v109,
    pr kUnifT.v110 rUnifT.v110, pr kUnifT.v111 rUnifT.v111,
    pr kUnifT.v112 rUnifT.v112, pr kUnifT.v113 rUnifT.v113,
    pr kUnifT.v114 rUnifT.v114, pr kUnifT.v115 rUnifT.v115,
    pr kUnifT.v116 rUnifT.v116, pr kUnifT.v117 rUnifT.v117,
    pr kUnifT.v118 rUnifT.v118, pr kUnifT.v119 rUnifT.v119,
    pr kUnifT.v120 rUnifT.v120, pr kUnifT.v121 rUnifT.v121,
    pr kUnifT.v122 rUnifT.v122, pr kUnifT.v123 rUnifT.v123,
    pr kUnifT.v124 rUnifT.v124, pr kUnifT.v125 rUnifT.v125,
    pr kUnifT.v126 rUnifT.v126, pr kUnifT.v127 rUnifT.v127,
    pr kUnifT.v128 rUnifT.v128, pr kUnifT.v129 rUnifT.v129,
    pr kUnifT.v130 rUnifT.v130, pr kUnifT.v131 rUnifT.v131,
    pr kUnifT.v132 rUnifT.v132, pr kUnifT.v133 rUnifT.v133,
    pr kUnifT.v134 rUnifT.v134, pr kUnifT.v135 rUnifT.v135,
    pr kUnifT.v136 rUnifT.v136, pr kUnifT.v137 rUnifT.v137,
    pr kUnifT.v138 rUnifT.v138, pr kUnifT.v139 rUnifT.v139,
    pr kUnifT.v140 rUnifT.v140, pr kUnifT.v141 rUnifT.v141,
    pr kUnifT.v142 rUnifT.v142, pr kUnifT.v143 rUnifT.v143,
    pr kUnifT.v144 rUnifT.v144, pr kUnifT.v145 rUnifT.v145,
    pr kUnifT.v146 rUnifT.v146, pr kUnifT.v147 rUnifT.v147,
    pr kUnifT.v148 rUnifT.v148, pr kUnifT.v149 rUnifT.v149,
    pr kUnifT.v150 rUnifT.v150, pr kUnifT.v151 rUnifT.v151,
    pr kUnifT.v152 rUnifT.v152, pr kUnifT.v153 rUnifT.v153,
    pr kUnifT.v154 rUnifT.v154, pr kUnifT.v155 rUnifT.v155,
    pr kUnifT.v156 rUnifT.v156, pr kUnifT.v157 rUnifT.v157,
    pr kUnifT.v158 rUnifT.v158, pr kUnifT.v159 rUnifT.v159,
    pr kUnifT.v160 rUnifT.v160, pr kUnifT.v161 rUnifT.v161,
    pr kUnifT.v162 rUnifT.v162, pr kUnifT.v163 rUnifT.v163,
    pr kUnifT.v164 rUnifT.v164, pr kUnifT.v165 rUnifT.v165,
    pr kUnifT.v166 rUnifT.v166, pr kUnifT.v167 rUnifT.v167,
    pr kUnifT.v168 rUnifT.v168, pr kUnifT.v169 rUnifT.v169,
    pr kUnifT.v170 rUnifT.v170, pr kUnifT.v171 rUnifT.v171,
    pr kUnifT.v172 rUnifT.v172, pr kUnifT.v173 rUnifT.v173,
    pr kUnifT.v174 rUnifT.v174, pr kUnifT.v175 rUnifT.v175 ]

/-- The uniform noise's bounds, 0 and 1. -/
def boundsOps : List (Op F) :=
  [ .nullary (pr (.of KernelIdeal.main_cst) (.of ReferenceIdeal.main_cst_17) : Pr ⟨S_, .f32⟩) (constant S_ .f32 0x00000000#32),
    .nullary (pr (.of KernelIdeal.main_cst_2) (.of ReferenceIdeal.main_cst_18) : Pr ⟨S_, .f32⟩) (constant S_ .f32 0x3F800000#32) ]

/-- The uniform noise. -/
def unifOps : List (Op F) :=
  [ .unary (pr (.of KernelIdeal.main_cst) (.of ReferenceIdeal.main_cst_17) : Pr ⟨S_, .f32⟩) (pr kUnif.v0 rUnif.v0) id,
       .unary (pr (.of KernelIdeal.main_cst_2) (.of ReferenceIdeal.main_cst_18) : Pr ⟨S_, .f32⟩) (pr kUnif.v1 rUnif.v1) id,
       .unary (pr kUnif.v0 rUnif.v0) (pr kUnif.v2 rUnif.v2) (broadcastInDim S1x1 ![] bcast_S_S1x1),
       .unary (pr kUnif.v1 rUnif.v1) (pr kUnif.v3 rUnif.v3) (broadcastInDim S1x1 ![] bcast_S_S1x1),
       .unary (pr (.of KernelIdeal.main_v11) (.of ReferenceIdeal.main_v56) : Pr ⟨S2, .i32⟩) (pr kUnif.v4 rUnif.v4) (extractStridedSlice S1 ![0] · slices_S2_S1_0),
       .reshape (pr kUnif.v4 rUnif.v4) (pr kUnif.v5 rUnif.v5) rfl shapeCasts_S1_S_,
       .unary (pr (.of KernelIdeal.main_v11) (.of ReferenceIdeal.main_v56) : Pr ⟨S2, .i32⟩) (pr kUnif.v6 rUnif.v6) (extractStridedSlice S1 ![1] · slices_S2_S1_1),
       .reshape (pr kUnif.v6 rUnif.v6) (pr kUnif.v7 rUnif.v7) rfl shapeCasts_S1_S_,
       .nullary (pr kUnif.v8 rUnif.v8) (iotaInDim S128x2 64 0),
       .nullary (pr kUnif.v9 rUnif.v9) (iotaInDim S128x2 64 1),
       .nullary (pr kUnif.c rUnif.c) (constantI S_ 64 2#64),
       .unary (pr kUnif.c rUnif.c) (pr kUnif.v10 rUnif.v10) (broadcastInDim S128x2 ![] bcast_S_S128x2),
       .binary (pr kUnif.v10 rUnif.v10) (pr kUnif.v8 rUnif.v8) (pr kUnif.v11 rUnif.v11) muli,
       .nullary (pr kUnif.c_0 rUnif.c_0) (constantI S_ 64 1#64),
       .unary (pr kUnif.c_0 rUnif.c_0) (pr kUnif.v12 rUnif.v12) (broadcastInDim S128x2 ![] bcast_S_S128x2),
       .binary (pr kUnif.v12 rUnif.v12) (pr kUnif.v9 rUnif.v9) (pr kUnif.v13 rUnif.v13) muli,
       .binary (pr kUnif.v11 rUnif.v11) (pr kUnif.v13 rUnif.v13) (pr kUnif.v14 rUnif.v14) addi,
       .nullary (pr kUnif.c_1 rUnif.c_1) (constantI S_ 64 32#64),
       .unary (pr kUnif.c_1 rUnif.c_1) (pr kUnif.v15 rUnif.v15) (broadcastInDim S128x2 ![] bcast_S_S128x2),
       .binary (pr kUnif.v14 rUnif.v14) (pr kUnif.v15 rUnif.v15) (pr kUnif.v16 rUnif.v16) Host.shrui,
       .unary (pr kUnif.v14 rUnif.v14) (pr kUnif.v17 rUnif.v17) (trunci 32 · natLt_32_64),
       .unary (pr kUnif.v16 rUnif.v16) (pr kUnif.v18 rUnif.v18) (trunci 32 · natLt_32_64) ]
  ++ threefry (broadcastInDim S128x2 ![] bcast_S_S128x2) (pr kUnif.v5 rUnif.v5) (pr kUnif.v7 rUnif.v7) (pr kUnif.v18 rUnif.v18) (pr kUnif.v17 rUnif.v17) (pr kUnifT.v0 rUnifT.v0) (pr kUnifT.c rUnifT.c) (pr kUnifT.v1 rUnifT.v1)
       (fun n => unifConsts.getD n (pr kUnifT.c rUnifT.c)) (fun n => unifWords.getD n (pr kUnifT.v2 rUnifT.v2))
  ++ [ .binary (pr kUnifT.v171 rUnifT.v171) (pr kUnifT.v175 rUnifT.v175) (pr kUnif.v20 rUnif.v20) xori,
       .nullary (pr kUnif.c_2 rUnif.c_2) (constantI S_ 32 9#32),
       .unary (pr kUnif.c_2 rUnif.c_2) (pr kUnif.v21 rUnif.v21) (broadcastInDim S128x2 ![] bcast_S_S128x2),
       .binary (pr kUnif.v20 rUnif.v20) (pr kUnif.v21 rUnif.v21) (pr kUnif.v22 rUnif.v22) Host.shrui,
       .nullary (pr kUnif.c_3 rUnif.c_3) (constantI S_ 32 1065353216#32),
       .unary (pr kUnif.c_3 rUnif.c_3) (pr kUnif.v23 rUnif.v23) (broadcastInDim S128x2 ![] bcast_S_S128x2),
       .binary (pr kUnif.v22 rUnif.v22) (pr kUnif.v23 rUnif.v23) (pr kUnif.v24 rUnif.v24) ori,
       .unary (pr kUnif.v24 rUnif.v24) (pr kUnif.v25 rUnif.v25) (bitcastToFloat .f32),
       .nullary (pr kUnif.cst rUnif.cst) (constant S_ .f32 0x3F800000#32),
       .unary (pr kUnif.cst rUnif.cst) (pr kUnif.v26 rUnif.v26) (broadcastInDim S128x2 ![] bcast_S_S128x2),
       .binary (pr kUnif.v25 rUnif.v25) (pr kUnif.v26 rUnif.v26) (pr kUnif.v27 rUnif.v27) subf,
       .binary (pr kUnif.v3 rUnif.v3) (pr kUnif.v2 rUnif.v2) (pr kUnif.v28 rUnif.v28) subf,
       .unary (pr kUnif.v28 rUnif.v28) (pr kUnif.v29 rUnif.v29) (broadcastInDim S128x2 ![0, 1] bcast_S1x1_S128x2_0_1),
       .binary (pr kUnif.v27 rUnif.v27) (pr kUnif.v29 rUnif.v29) (pr kUnif.v30 rUnif.v30) mulf,
       .unary (pr kUnif.v2 rUnif.v2) (pr kUnif.v31 rUnif.v31) (broadcastInDim S128x2 ![0, 1] bcast_S1x1_S128x2_0_1),
       .binary (pr kUnif.v30 rUnif.v30) (pr kUnif.v31 rUnif.v31) (pr kUnif.v32 rUnif.v32) addf,
       .unary (pr kUnif.v2 rUnif.v2) (pr kUnif.v33 rUnif.v33) (broadcastInDim S128x2 ![0, 1] bcast_S1x1_S128x2_0_1),
       .binary (pr kUnif.v33 rUnif.v33) (pr kUnif.v32 rUnif.v32) (pr kUnif.v34 rUnif.v34) maximumf ]

end Cert.Proof.Noise

end
-- ==== Proof.NoiseEq.lean ====
/- The two programs' noise is one noise: the kernel's lines of host operations before the kernel, and the reference's, leave
   the same Gumbel noise and the same uniform noise, whatever else the memories hold. -/
module

public import proofs.«01_k».proof.Proof.Noise
public import proofs.«01_k».proof.Proof.Gen.KernelIdeal.Launch

@[expose] public section

set_option maxRecDepth 16384

noncomputable section

namespace Cert.Proof.Noise

open Idealize.ShloMosaic Idealize.ShloMosaic.StableHlo Idealize.SL.Sem Cert.Proof.Sim

variable {F : FTy → Type} [FloatOps F]

set_option maxHeartbeats 4000000 in
/-- The kernel's first lines are the lists' left operations. -/
theorem key_left : (keyOps (F := F)).map POp.left = KernelIdeal.Gen.hostOps0 := rfl
set_option maxHeartbeats 4000000 in
/-- The same for the split of the key. -/
theorem split_left : (splitOps (F := F)).map POp.left = KernelIdeal.Gen.hostOps0_1 := rfl
/-- The same for the two halves. -/
theorem halves_left : (halvesOps (F := F)).map POp.left = KernelIdeal.Gen.hostOps0_2 := rfl
set_option maxHeartbeats 4000000 in
/-- The same for the Gumbel noise. -/
theorem gumbel_left : (gumbelOps (F := F)).map POp.left = KernelIdeal.Gen.hostOps0_3 := rfl
/-- The same for the bounds of the uniform noise. -/
theorem bounds_left : (boundsOps (F := F)).map POp.left = KernelIdeal.Gen.hostOps0_4 := rfl
set_option maxHeartbeats 4000000 in
/-- The same for the uniform noise. -/
theorem unif_left : (unifOps (F := F)).map POp.left = KernelIdeal.Gen.hostOps0_5 := rfl

/-- From the key to the Gumbel noise. -/
abbrev firstOps : List (Op F) := keyOps ++ (splitOps ++ (halvesOps ++ gumbelOps))

/-- The uniform noise, from the second half of the split key. -/
abbrev secondOps : List (Op F) := boundsOps ++ unifOps

/-- The second half of the split key, in both programs. -/
abbrev halfKey : Pr ⟨KernelIdeal.S2, .i32⟩ := pr (.of KernelIdeal.main_v11) (.of ReferenceIdeal.main_v56)
/-- The Gumbel noise, in both programs. -/
abbrev gumbel : Pr ⟨KernelIdeal.S256x100000, .f32⟩ := pr (.of KernelIdeal.main_v12) (.of ReferenceIdeal.main_v57)
/-- The uniform noise, in both programs. -/
abbrev uniform : Pr ⟨KernelIdeal.S128x2, .f32⟩ := pr (.of KernelIdeal.main_v13) (.of ReferenceIdeal.main_v62)

/-- The indices of the values each list reads and writes do not depend on what a float is. -/
theorem first_ok : (ok [] (trace (firstOps (F := F))) && (has gumbel.key (known [] (trace (firstOps (F := F)))) &&
    has halfKey.key (known [] (trace (firstOps (F := F)))))) = true := by chain_rfl

/-- The uniform noise needs only the second half of the split key, and each buffer is written once. -/
theorem second_ok : (ok [halfKey.key] (trace (secondOps (F := F))) &&
    has uniform.key (known [halfKey.key] (trace (secondOps (F := F))))) = true := by chain_rfl

/-- The two programs end with the same Gumbel noise and the same second half of the split key. -/
theorem gumbel_eq (Vl : Valuation KernelIdeal.τ KernelIdeal.sig (Elt F)) (Vr : Valuation ReferenceIdeal.τ ReferenceIdeal.sig (Elt F)) :
    gumbel.l.ofBuf (after ((firstOps (F := F)).map POp.left) Vl (Proc.devRef .tc gumbel.l.ref))
      = gumbel.r.ofBuf (after ((firstOps (F := F)).map POp.right) Vr (Proc.devRef .tc gumbel.r.ref)) ∧
    Agree [halfKey.key] (after ((firstOps (F := F)).map POp.left) Vl) (after ((firstOps (F := F)).map POp.right) Vr) := by
  have h := first_ok (F := F)
  rw [Bool.and_eq_true, Bool.and_eq_true] at h
  have h0 : Agree [] Vl Vr := fun T x hx => by simp at hx
  have h1 := agree_after (firstOps (F := F)) h0 h.1
  refine ⟨h1 _ gumbel (mem_of_has h.2.1), h1.mono fun k hk => ?_⟩
  rw [List.mem_singleton.1 hk]
  exact mem_of_has h.2.2

/-- From memories that agree on the second half of the split key, the same uniform noise. -/
theorem uniform_eq (Vl : Valuation KernelIdeal.τ KernelIdeal.sig (Elt F)) (Vr : Valuation ReferenceIdeal.τ ReferenceIdeal.sig (Elt F))
    (h : Agree [halfKey.key] Vl Vr) :
    uniform.l.ofBuf (after ((secondOps (F := F)).map POp.left) Vl (Proc.devRef .tc uniform.l.ref))
      = uniform.r.ofBuf (after ((secondOps (F := F)).map POp.right) Vr (Proc.devRef .tc uniform.r.ref)) :=
  after_eq secondOps h uniform second_ok

end Cert.Proof.Noise

end
-- ==== Proof.KernelReads.lean ====
/- The four arrays the kernel is called with, in terms of the arguments and the noise drawn before the call. -/
module

public import proofs.«01_k».proof.Proof.KernelScan
public import proofs.«01_k».proof.Proof.NoiseEq
public import Idealize.ShloMosaic.Lib.StableHlo.ReadAt

@[expose] public section

set_option maxRecDepth 16384

noncomputable section

namespace Cert.Proof.K

open Idealize.ShloMosaic Idealize.ShloMosaic.StableHlo Idealize.SL.Sem Cert.KernelIdeal Cert.KernelIdeal.Gen Cert.Proof.Sim

variable (V : Valuation τ sig (Elt Ideal))

/-- Contents of a 32-bit float array, as a function of its indices. -/
abbrev el (S : Shape) (x : (⟨S, .f32⟩ : BufTy).Contents (Elt Ideal)) : S.Idx → EReal := x

/-- The arrays once the Gumbel noise is drawn. -/
def gumbelV : Valuation τ sig (Elt Ideal) := after (Noise.firstOps.map POp.left) V

/-- The arrays once the uniform noise is drawn. -/
def uniformV : Valuation τ sig (Elt Ideal) := after (Noise.secondOps.map POp.left) (gumbelV V)

/-- The first argument. -/
def argX (b : Fin 128) (f : Fin 2) (k : Fin 100000) : EReal := el S128x2x100000 (V (Proc.devRef .tc main_arg0)) (ix3 b f k)

/-- The second argument. -/
def argP (b : Fin 128) : EReal := el S128 (V (Proc.devRef .tc main_arg1)) (ix1 b)

/-- The last column feature 0 may keep. -/
def limit (b : Fin 128) : BitVec 32 :=
  IntOp.addi (FloatOps.fptosi (F := Ideal) (φ := .f32) 32 (argP V b * Ideal.ofBits .f32 1203982336#32)) 5000#32

/-- The Gumbel noise. -/
def noiseG (b : Fin 128) (f : Fin 2) (k : Fin 100000) : EReal :=
  el S256x100000 (gumbelV V (Proc.devRef .tc main_v12)) (ix2 ⟨b.val * 2 + f.val, by omega⟩ k)

/-- The uniform noise. -/
def noiseU (b : Fin 128) (f : Fin 2) : EReal := el S128x2 (uniformV V (Proc.devRef .tc main_v13)) (ix2 b f)

/-- The line before the call, by these steps. -/
theorem before_call (m : (ℓ : Loc nD τ sig) → Buf (Elt Ideal) ℓ) (c : Dev nD) :
    V0 m c = after hostOps0_6 (uniformV (fun b => m (c, b))) := by
  simp only [V0, List.flatten_cons, List.flatten_nil, List.append_nil, after_append, uniformV, gumbelV, Noise.firstOps,
    Noise.secondOps, List.map_append, Noise.key_left, Noise.split_left, Noise.halves_left, Noise.gumbel_left, Noise.bounds_left,
    Noise.unif_left]

/-- Drawing the noise leaves the first argument alone. -/
theorem uniformV_arg0 : uniformV V (Proc.devRef .tc main_arg0) = V (Proc.devRef .tc main_arg0) := by
  unfold uniformV gumbelV
  after_reads_simp

/-- Drawing the noise leaves the second argument alone. -/
theorem uniformV_arg1 : uniformV V (Proc.devRef .tc main_arg1) = V (Proc.devRef .tc main_arg1) := by
  unfold uniformV gumbelV
  after_reads_simp

/-- Drawing the uniform noise leaves the Gumbel noise alone. -/
theorem uniformV_gumbel : uniformV V (Proc.devRef .tc main_v12) = gumbelV V (Proc.devRef .tc main_v12) := by
  unfold uniformV
  after_reads_simp

/-- The first array of the call is the first argument, transposed. -/
theorem read_x (b : Fin 128) (f : Fin 2) (k : Fin 100000) :
    el S2x100000x128 (after hostOps0_6 V (Proc.devRef .tc main_v23)) (ix3 f k b) = argX V b f k := by
  unfold argX el
  after_reads_at

/-- The fourth array of the call is the uniform noise, transposed. -/
theorem read_u (b : Fin 128) (f : Fin 2) :
    el S2x1x128 (after hostOps0_6 V (Proc.devRef .tc main_v22)) (ix3 f 0 b) = el S128x2 (V (Proc.devRef .tc main_v13)) (ix2 b f) := by
  unfold el
  after_reads_at

/-- The second array of the call is the Gumbel noise, its even and odd rows as two features, transposed. -/
theorem read_g (b : Fin 128) (f : Fin 2) (k : Fin 100000) :
    el S2x100000x128 (after hostOps0_6 V (Proc.devRef .tc main_v20)) (ix3 f k b) =
      el S256x100000 (V (Proc.devRef .tc main_v12)) (ix2 ⟨b.val * 2 + f.val, by omega⟩ k) := by
  unfold el
  match f with
  | 0 =>
    after_reads_at
    exact congrArg (fun q => el S256x100000 (V (Proc.devRef .tc main_v12)) (ix2 q k)) (Fin.ext (by show 2 * b.val = b.val * 2; omega))
  | 1 =>
    after_reads_at
    exact congrArg (fun q => el S256x100000 (V (Proc.devRef .tc main_v12)) (ix2 q k))
      (Fin.ext (by show 1 + 2 * b.val = b.val * 2 + 1; omega))

/-- The third array of the call is the limit, cut off at the last column. -/
theorem read_l (b : Fin 128) :
    (after hostOps0_6 V (Proc.devRef .tc main_v31) : IVec S1x128 32) (ix2 0 b) = IntOp.minsi (limit V b) 99999#32 := by
  unfold limit argP el
  after_reads_at

/-- Cutting the limit off at the last column changes no comparison with a column. -/
theorem cut_limit (w : BitVec 32) (k : Fin 100000) : (k.val : ℤ) ≤ (IntOp.minsi w 99999#32).toInt ↔ (k.val : ℤ) ≤ w.toInt := by
  have q : (99999#32 : BitVec 32).toInt = 99999 := by decide
  have hk := k.isLt
  unfold IntOp.minsi
  split
  · exact Iff.rfl
  · rename_i h
    rw [BitVec.slt_iff_toInt_lt] at h
    rw [q] at h ⊢
    omega

/-- Drawing the noise leaves the limit alone. -/
theorem limit_uniformV : limit (uniformV V) = limit V := by
  funext b
  unfold limit argP
  rw [uniformV_arg1]

/-- The arrays the kernel is called with. -/
theorem arrays (m : (ℓ : Loc nD τ sig) → Buf (Elt Ideal) ℓ) (c : Dev nD) :
    Arrays m c (argX fun b => m (c, b)) (noiseG fun b => m (c, b)) (limit fun b => m (c, b)) (noiseU fun b => m (c, b)) where
  x b f k := by
    have e := read_x (uniformV fun b => m (c, b)) b f k
    rw [← before_call] at e
    refine e.trans ?_
    unfold argX
    rw [uniformV_arg0]
  g b f k := by
    have e := read_g (uniformV fun b => m (c, b)) b f k
    rw [← before_call] at e
    refine e.trans ?_
    rw [uniformV_gumbel]
    rfl
  l b k := by
    have e := read_l (uniformV fun b => m (c, b)) b
    rw [← before_call, limit_uniformV] at e
    have q := cut_limit (limit (fun b => m (c, b)) b) k
    rw [← e] at q
    exact q
  u b f := by
    have e := read_u (uniformV fun b => m (c, b)) b f
    rw [← before_call] at e
    exact e

end Cert.Proof.K

end
-- ==== Proof.KernelRun.lean ====
/- What the kernel's program returns: the masked array and the next token, by the plain functions of `Spec.lean` of its
   arguments and its noise. -/
module

public import proofs.«01_k».proof.Proof.KernelReads
public import Idealize.ShloMosaic.Lib.Claim

@[expose] public section

set_option maxRecDepth 16384

noncomputable section

namespace Cert.Proof.K

open Idealize.ShloMosaic Idealize.ShloMosaic.StableHlo Idealize.SL.Sem Cert.KernelIdeal Cert.KernelIdeal.Gen Cert.Proof.Sim

variable (V : Valuation τ sig (Elt Ideal))

/-- The masked array, transposed back. -/
theorem read_x_back (b : Fin 128) (f : Fin 2) (k : Fin 100000) :
    el S128x2x100000 (after [hostOps1].flatten V (Proc.devRef .tc main_v35)) (ix3 b f k) =
      el S2x100000x128 (V (Proc.devRef .tc main_v32_0)) (ix3 f k b) := by
  unfold el
  after_reads_at

/-- The tokens, transposed back. -/
theorem read_token_back (b : Fin 128) (f : Fin 2) :
    el S128x2 (after [hostOps1].flatten V (Proc.devRef .tc main_v34)) (ix2 b f) =
      el S2x1x128 (V (Proc.devRef .tc main_v32_1)) (ix3 f 0 b) := by
  unfold el
  after_reads_at

variable (m : (ℓ : Loc nD τ sig) → Buf (Elt Ideal) ℓ) (c : Dev nD)

/-- The program's second result. -/
theorem result_x (b : Fin 128) (f : Fin 2) (k : Fin 100000) :
    el S128x2x100000 (Pipeline.afterTail₀ cfgs (dats m) 0 (V0 m) [hostOps1] c main_v35) (ix3 b f k) =
      masked (argX fun b => m (c, b)) (limit fun b => m (c, b)) b f k := by
  unfold Pipeline.afterTail₀
  rw [read_x_back]
  have e : (Pipeline.withArrays spec0 c (V0 m c) fun w => (dats m 0 c).arrAt w (cfgs 0).N) (Proc.devRef .tc main_v32_0) =
      (dats m 0 c).arrAt 4 (cfgs 0).N := Pipeline.withArrays_arr spec0 (by decide) c (V0 m c) _ 4
  rw [masked_array (arrays m c)] at e
  exact congrFun e _

/-- The program's first result. -/
theorem result_token (b : Fin 128) (f : Fin 2) :
    el S128x2 (Pipeline.afterTail₀ cfgs (dats m) 0 (V0 m) [hostOps1] c main_v34) (ix2 b f) =
      token f (BitVec.ofNat 32 (winner (row (score (argX fun b => m (c, b)) (limit fun b => m (c, b))
        (noiseG fun b => m (c, b)) b f)))) (noiseU (fun b => m (c, b)) b f) := by
  unfold Pipeline.afterTail₀
  rw [read_token_back]
  have e : (Pipeline.withArrays spec0 c (V0 m c) fun w => (dats m 0 c).arrAt w (cfgs 0).N) (Proc.devRef .tc main_v32_1) =
      (dats m 0 c).arrAt 5 (cfgs 0).N := Pipeline.withArrays_arr spec0 (by decide) c (V0 m c) _ 5
  rw [token_array (arrays m c)] at e
  exact congrFun e _

end Cert.Proof.K

end
-- ==== Proof.RefOps.lean ====
/- The reference as one line of host operations: the masked array (`zeroOps`, `limitOps`, `thresholdOps`), the scores without
   their noise (`logitOps`), the noise (`Noise.lean`), the first greatest score (`pickOps`) and the next token (`tokenOps`). -/
module

public import proofs.«01_k».proof.Proof.Noise

@[expose] public section

set_option maxRecDepth 16384

noncomputable section

namespace Cert.Proof.Ref

open Idealize.ShloMosaic Idealize.ShloMosaic.StableHlo Idealize.SL.Sem Cert.ReferenceIdeal Cert.ReferenceIdeal.Gen Cert.Proof.Sim

variable {F : FTy → Type} [FloatOps F]

/-- Feature 1 of the array with its column 0 put to zero where another column of its row reaches the threshold. -/
abbrev zeroOps : List (HloOp τ sig (Elt F)) :=
  [ nullary main_cst (constant S_ .f32 0x3F800000#32),
    unary main_cst main_v0 (broadcastInDim S128x2x100000 ![] bcast_S_S128x2x100000 : (⟨S_, .f32⟩ : BufTy).Contents (Elt F) → (⟨S128x2x100000, .f32⟩ : BufTy).Contents (Elt F)),
    binary main_arg0 main_v0 main_v1 (Host.divf : (⟨S128x2x100000, .f32⟩ : BufTy).Contents (Elt F) → (⟨S128x2x100000, .f32⟩ : BufTy).Contents (Elt F) → (⟨S128x2x100000, .f32⟩ : BufTy).Contents (Elt F)),
    unary main_v1 main_v2 ((extractStridedSlice S128x1x99999 ![0, 1, 1] · slices_S128x2x100000_S128x1x99999_0_1_1) : (⟨S128x2x100000, .f32⟩ : BufTy).Contents (Elt F) → (⟨S128x1x99999, .f32⟩ : BufTy).Contents (Elt F)),
    reshape main_v2 main_v3 (rfl : (.f32 : EltTy) = .f32) shapeCasts_S128x1x99999_S128x99999,
    nullary main_cst_0 (constant S_ .f32 0x3DCCCCCD#32),
    unary main_cst_0 main_v4 (broadcastInDim S128x99999 ![] bcast_S_S128x99999 : (⟨S_, .f32⟩ : BufTy).Contents (Elt F) → (⟨S128x99999, .f32⟩ : BufTy).Contents (Elt F)),
    binary main_v3 main_v4 main_v5 (cmpf .oge : (⟨S128x99999, .f32⟩ : BufTy).Contents (Elt F) → (⟨S128x99999, .f32⟩ : BufTy).Contents (Elt F) → (⟨S128x99999, .i1⟩ : BufTy).Contents (Elt F)),
    nullary main_c (constantI S_ 1 0#1),
    binary main_v5 main_c main_v6 ((fun x v => Host.reduce IntOp.ori x v reducesTo_S128x99999_S128_d1 h_S_) : (⟨S128x99999, .i1⟩ : BufTy).Contents (Elt F) → (⟨S_, .i1⟩ : BufTy).Contents (Elt F) → (⟨S128, .i1⟩ : BufTy).Contents (Elt F)),
    unary main_v1 main_v7 ((extractStridedSlice S128x1x1 ![0, 1, 0] · slices_S128x2x100000_S128x1x1_0_1_0) : (⟨S128x2x100000, .f32⟩ : BufTy).Contents (Elt F) → (⟨S128x1x1, .f32⟩ : BufTy).Contents (Elt F)),
    reshape main_v7 main_v8 (rfl : (.f32 : EltTy) = .f32) shapeCasts_S128x1x1_S128,
    nullary main_cst_1 (constant S_ .f32 0x00000000#32),
    TRef.unary (.of main_cst_1) main_call0.v0 id,
    TRef.unary main_call0.v0 main_call0.v1 (broadcastInDim S128 ![] bcast_S_S128),
    TRef.ternary (.of main_v6) main_call0.v1 (.of main_v8) main_call0.v2 select,
    nullary main_c_2 (constantI S_ 32 1#32),
    unary main_c_2 main_v10 (broadcastInDim S1 ![] bcast_S_S1 : (⟨S_, .i32⟩ : BufTy).Contents (Elt F) → (⟨S1, .i32⟩ : BufTy).Contents (Elt F)),
    nullary main_c_3 (constantI S_ 32 0#32),
    unary main_c_3 main_v11 (broadcastInDim S1 ![] bcast_S_S1 : (⟨S_, .i32⟩ : BufTy).Contents (Elt F) → (⟨S1, .i32⟩ : BufTy).Contents (Elt F)),
    binary main_v10 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v1 main_v12 main_v9 main_v13 ((fun x i u => Host.scatter scatter_S128x2x100000_S2_S128_0_12_12_0 (fun _ b => b) x i u) : (⟨S128x2x100000, .f32⟩ : BufTy).Contents (Elt F) → (⟨S2, .i32⟩ : BufTy).Contents (Elt F) → (⟨S128, .f32⟩ : BufTy).Contents (Elt F) → (⟨S128x2x100000, .f32⟩ : BufTy).Contents (Elt F)) ]

/-- Then feature 0 put to zero where it reaches the threshold past the column limit of its row. -/
abbrev limitOps : List (HloOp τ sig (Elt F)) :=
  [ nullary main_cst_4 (constant S_ .f32 0x47C35000#32),
    unary main_cst_4 main_v14 (broadcastInDim S128 ![] bcast_S_S128 : (⟨S_, .f32⟩ : BufTy).Contents (Elt F) → (⟨S128, .f32⟩ : BufTy).Contents (Elt F)),
    binary main_arg1 main_v14 main_v15 (mulf : (⟨S128, .f32⟩ : BufTy).Contents (Elt F) → (⟨S128, .f32⟩ : BufTy).Contents (Elt F) → (⟨S128, .f32⟩ : BufTy).Contents (Elt F)),
    unary main_v15 main_v16 (fptosi 32 : (⟨S128, .f32⟩ : BufTy).Contents (Elt F) → (⟨S128, .i32⟩ : BufTy).Contents (Elt F)),
    nullary main_c_5 (constantI S_ 32 5000#32),
    unary main_c_5 main_v17 (broadcastInDim S128 ![] bcast_S_S128 : (⟨S_, .i32⟩ : BufTy).Contents (Elt F) → (⟨S128, .i32⟩ : BufTy).Contents (Elt F)),
    binary main_v16 main_v17 main_v18 (addi : (⟨S128, .i32⟩ : BufTy).Contents (Elt F) → (⟨S128, .i32⟩ : BufTy).Contents (Elt F) → (⟨S128, .i32⟩ : BufTy).Contents (Elt F)),
    nullary main_v19 (iotaInDim S100000 32 0),
    unary main_v19 main_v20 (broadcastInDim S1x100000 ![1] bcast_S100000_S1x100000_1 : (⟨S100000, .i32⟩ : BufTy).Contents (Elt F) → (⟨S1x100000, .i32⟩ : BufTy).Contents (Elt F)),
    unary main_v18 main_v21 (broadcastInDim S128x1 ![0] bcast_S128_S128x1_0 : (⟨S128, .i32⟩ : BufTy).Contents (Elt F) → (⟨S128x1, .i32⟩ : BufTy).Contents (Elt F)),
    unary main_v20 main_v22 (broadcastInDim S128x100000 ![0, 1] bcast_S1x100000_S128x100000_0_1 : (⟨S1x100000, .i32⟩ : BufTy).Contents (Elt F) → (⟨S128x100000, .i32⟩ : BufTy).Contents (Elt F)),
    unary main_v21 main_v23 (broadcastInDim S128x100000 ![0, 1] bcast_S128x1_S128x100000_0_1 : (⟨S128x1, .i32⟩ : BufTy).Contents (Elt F) → (⟨S128x100000, .i32⟩ : BufTy).Contents (Elt F)),
    binary main_v22 main_v23 main_v24 (cmpi .sgt : (⟨S128x100000, .i32⟩ : BufTy).Contents (Elt F) → (⟨S128x100000, .i32⟩ : BufTy).Contents (Elt F) → (⟨S128x100000, .i1⟩ : BufTy).Contents (Elt F)),
    unary main_v13 main_v25 ((extractStridedSlice S128x1x100000 ![0, 0, 0] · slices_S128x2x100000_S128x1x100000_0_0_0) : (⟨S128x2x100000, .f32⟩ : BufTy).Contents (Elt F) → (⟨S128x1x100000, .f32⟩ : BufTy).Contents (Elt F)),
    reshape main_v25 main_v26 (rfl : (.f32 : EltTy) = .f32) shapeCasts_S128x1x100000_S128x100000,
    nullary main_cst_6 (constant S_ .f32 0x3DCCCCCD#32),
    unary main_cst_6 main_v27 (broadcastInDim S128x100000 ![] bcast_S_S128x100000 : (⟨S_, .f32⟩ : BufTy).Contents (Elt F) → (⟨S128x100000, .f32⟩ : BufTy).Contents (Elt F)),
    binary main_v26 main_v27 main_v28 (cmpf .oge : (⟨S128x100000, .f32⟩ : BufTy).Contents (Elt F) → (⟨S128x100000, .f32⟩ : BufTy).Contents (Elt F) → (⟨S128x100000, .i1⟩ : BufTy).Contents (Elt F)),
    binary main_v24 main_v28 main_v29 (andi : (⟨S128x100000, .i1⟩ : BufTy).Contents (Elt F) → (⟨S128x100000, .i1⟩ : BufTy).Contents (Elt F) → (⟨S128x100000, .i1⟩ : BufTy).Contents (Elt F)),
    unary main_v13 main_v30 ((extractStridedSlice S128x1x100000 ![0, 0, 0] · slices_S128x2x100000_S128x1x100000_0_0_0) : (⟨S128x2x100000, .f32⟩ : BufTy).Contents (Elt F) → (⟨S128x1x100000, .f32⟩ : BufTy).Contents (Elt F)),
    reshape main_v30 main_v31 (rfl : (.f32 : EltTy) = .f32) shapeCasts_S128x1x100000_S128x100000,
    nullary main_cst_7 (constant S_ .f32 0x00000000#32),
    TRef.unary (.of main_cst_7) main_call1.v0 id,
    TRef.unary main_call1.v0 main_call1.v1 (broadcastInDim S128x100000 ![] bcast_S_S128x100000),
    TRef.ternary (.of main_v29) main_call1.v1 (.of main_v31) main_call1.v2 select,
    nullary main_c_8 (constantI S_ 32 0#32),
    unary main_c_8 main_v33 (broadcastInDim S1 ![] bcast_S_S1 : (⟨S_, .i32⟩ : BufTy).Contents (Elt F) → (⟨S1, .i32⟩ : BufTy).Contents (Elt F)),
    ternary main_v13 main_v33 main_v32 main_v34 ((fun x i u => Host.scatter scatter_S128x2x100000_S1_S128x100000_01_1_1_0 (fun _ b => b) x i u) : (⟨S128x2x100000, .f32⟩ : BufTy).Contents (Elt F) → (⟨S1, .i32⟩ : BufTy).Contents (Elt F) → (⟨S128x100000, .f32⟩ : BufTy).Contents (Elt F) → (⟨S128x2x100000, .f32⟩ : BufTy).Contents (Elt F)) ]

/-- Then every element below the threshold put to zero: the second result. -/
abbrev thresholdOps : List (HloOp τ sig (Elt F)) :=
  [ nullary main_cst_9 (constant S_ .f32 0x3DCCCCCD#32),
    unary main_cst_9 main_v35 (broadcastInDim S128x2x100000 ![] bcast_S_S128x2x100000 : (⟨S_, .f32⟩ : BufTy).Contents (Elt F) → (⟨S128x2x100000, .f32⟩ : BufTy).Contents (Elt F)),
    binary main_v34 main_v35 main_v36 (cmpf .olt : (⟨S128x2x100000, .f32⟩ : BufTy).Contents (Elt F) → (⟨S128x2x100000, .f32⟩ : BufTy).Contents (Elt F) → (⟨S128x2x100000, .i1⟩ : BufTy).Contents (Elt F)),
    nullary main_cst_10 (constant S_ .f32 0x00000000#32),
    TRef.unary (.of main_cst_10) main_call2.v0 id,
    TRef.unary main_call2.v0 main_call2.v1 (broadcastInDim S128x2x100000 ![] bcast_S_S128x2x100000),
    TRef.ternary (.of main_v36) main_call2.v1 (.of main_v34) main_call2.v2 select ]

/-- The logarithm of every element kept, the least value elsewhere, a row per batch element and feature. -/
abbrev logitOps : List (HloOp τ sig (Elt F)) :=
  [ reshape main_v37 main_v38 (rfl : (.f32 : EltTy) = .f32) shapeCasts_S128x2x100000_S256x100000,
    nullary main_cst_11 (constant S_ .f32 0x00000000#32),
    unary main_cst_11 main_v39 (broadcastInDim S256x100000 ![] bcast_S_S256x100000 : (⟨S_, .f32⟩ : BufTy).Contents (Elt F) → (⟨S256x100000, .f32⟩ : BufTy).Contents (Elt F)),
    binary main_v38 main_v39 main_v40 (cmpf .ogt : (⟨S256x100000, .f32⟩ : BufTy).Contents (Elt F) → (⟨S256x100000, .f32⟩ : BufTy).Contents (Elt F) → (⟨S256x100000, .i1⟩ : BufTy).Contents (Elt F)),
    nullary main_cst_12 (constant S_ .f32 0x0DA24260#32),
    unary main_cst_12 main_v41 (broadcastInDim S256x100000 ![] bcast_S_S256x100000 : (⟨S_, .f32⟩ : BufTy).Contents (Elt F) → (⟨S256x100000, .f32⟩ : BufTy).Contents (Elt F)),
    binary main_v38 main_v41 main_v42 (maximumf : (⟨S256x100000, .f32⟩ : BufTy).Contents (Elt F) → (⟨S256x100000, .f32⟩ : BufTy).Contents (Elt F) → (⟨S256x100000, .f32⟩ : BufTy).Contents (Elt F)),
    unary main_v42 main_v43 (Host.log : (⟨S256x100000, .f32⟩ : BufTy).Contents (Elt F) → (⟨S256x100000, .f32⟩ : BufTy).Contents (Elt F)),
    nullary main_cst_13 (constant S_ .f32 0xFF800000#32),
    TRef.unary (.of main_cst_13) main_call3.v0 id,
    TRef.unary main_call3.v0 main_call3.v1 (broadcastInDim S256x100000 ![] bcast_S_S256x100000),
    TRef.ternary (.of main_v40) (.of main_v43) main_call3.v1 main_call3.v2 select ]

/-- With the Gumbel noise added, the first greatest column of each row, as a float per batch element and feature. -/
abbrev pickOps : List (HloOp τ sig (Elt F)) :=
  [ binary main_v57 main_v44 main_v58 (addf : (⟨S256x100000, .f32⟩ : BufTy).Contents (Elt F) → (⟨S256x100000, .f32⟩ : BufTy).Contents (Elt F) → (⟨S256x100000, .f32⟩ : BufTy).Contents (Elt F)),
    TRef.nullary main_call6.v0 (iotaInDim S256x100000 32 1),
    TRef.nullary main_call6.cst (constant S_ .f32 0xFF800000#32),
    TRef.nullary main_call6.c (constantI S_ 32 0#32),
    TRef.quaternary (.of main_v58) main_call6.v0 main_call6.cst main_call6.c main_call6.v1_0 (fun x y u v j => (Host.argReduce reducer_argmax_f32_i32 x y u v reducesTo_S256x100000_S256_d1 h_S_ j).1),
    TRef.quaternary (.of main_v58) main_call6.v0 main_call6.cst main_call6.c main_call6.v1_1 (fun x y u v j => (Host.argReduce reducer_argmax_f32_i32 x y u v reducesTo_S256x100000_S256_d1 h_S_ j).2),
    unary main_v59 main_v60 (sitofp .f32 : (⟨S256, .i32⟩ : BufTy).Contents (Elt F) → (⟨S256, .f32⟩ : BufTy).Contents (Elt F)),
    reshape main_v60 main_v61 (rfl : (.f32 : EltTy) = .f32) shapeCasts_S256_S128x2 ]

/-- With the uniform noise added, divided by the number of columns; feature 0 put to zero where less than one column: the first result. -/
abbrev tokenOps : List (HloOp τ sig (Elt F)) :=
  [ binary main_v61 main_v62 main_v63 (addf : (⟨S128x2, .f32⟩ : BufTy).Contents (Elt F) → (⟨S128x2, .f32⟩ : BufTy).Contents (Elt F) → (⟨S128x2, .f32⟩ : BufTy).Contents (Elt F)),
    nullary main_cst_19 (constant S_ .f32 0x47C35000#32),
    unary main_cst_19 main_v64 (broadcastInDim S128x2 ![] bcast_S_S128x2 : (⟨S_, .f32⟩ : BufTy).Contents (Elt F) → (⟨S128x2, .f32⟩ : BufTy).Contents (Elt F)),
    binary main_v63 main_v64 main_v65 (Host.divf : (⟨S128x2, .f32⟩ : BufTy).Contents (Elt F) → (⟨S128x2, .f32⟩ : BufTy).Contents (Elt F) → (⟨S128x2, .f32⟩ : BufTy).Contents (Elt F)),
    unary main_v65 main_v66 ((extractStridedSlice S128x1 ![0, 0] · slices_S128x2_S128x1_0_0) : (⟨S128x2, .f32⟩ : BufTy).Contents (Elt F) → (⟨S128x1, .f32⟩ : BufTy).Contents (Elt F)),
    reshape main_v66 main_v67 (rfl : (.f32 : EltTy) = .f32) shapeCasts_S128x1_S128,
    unary main_v65 main_v68 ((extractStridedSlice S128x1 ![0, 0] · slices_S128x2_S128x1_0_0) : (⟨S128x2, .f32⟩ : BufTy).Contents (Elt F) → (⟨S128x1, .f32⟩ : BufTy).Contents (Elt F)),
    reshape main_v68 main_v69 (rfl : (.f32 : EltTy) = .f32) shapeCasts_S128x1_S128,
    nullary main_cst_20 (constant S_ .f32 0x3727C5AC#32),
    unary main_cst_20 main_v70 (broadcastInDim S128 ![] bcast_S_S128 : (⟨S_, .f32⟩ : BufTy).Contents (Elt F) → (⟨S128, .f32⟩ : BufTy).Contents (Elt F)),
    binary main_v69 main_v70 main_v71 (cmpf .olt : (⟨S128, .f32⟩ : BufTy).Contents (Elt F) → (⟨S128, .f32⟩ : BufTy).Contents (Elt F) → (⟨S128, .i1⟩ : BufTy).Contents (Elt F)),
    nullary main_cst_21 (constant S_ .f32 0x00000000#32),
    TRef.unary (.of main_cst_21) main_call8.v0 id,
    TRef.unary main_call8.v0 main_call8.v1 (broadcastInDim S128 ![] bcast_S_S128),
    TRef.ternary (.of main_v71) main_call8.v1 (.of main_v67) main_call8.v2 select,
    nullary main_c_22 (constantI S_ 32 0#32),
    unary main_c_22 main_v73 (broadcastInDim S1 ![] bcast_S_S1 : (⟨S_, .i32⟩ : BufTy).Contents (Elt F) → (⟨S1, .i32⟩ : BufTy).Contents (Elt F)),
    ternary main_v65 main_v73 main_v72 main_v74 ((fun x i u => Host.scatter scatter_S128x2_S1_S128_0_1_1_0 (fun _ b => b) x i u) : (⟨S128x2, .f32⟩ : BufTy).Contents (Elt F) → (⟨S1, .i32⟩ : BufTy).Contents (Elt F) → (⟨S128, .f32⟩ : BufTy).Contents (Elt F) → (⟨S128x2, .f32⟩ : BufTy).Contents (Elt F)) ]

/-- All the operations, in order. -/
abbrev lines : List (List (HloOp τ sig (Elt F))) :=
  [ zeroOps, limitOps, thresholdOps, logitOps, Noise.keyOps.map POp.right, Noise.splitOps.map POp.right,
    Noise.halvesOps.map POp.right, Noise.gumbelOps.map POp.right, pickOps, Noise.boundsOps.map POp.right,
    Noise.unifOps.map POp.right, tokenOps ]

/-- The reference is that line. -/
theorem main_chain (c : Dev nD) : main (F := F) c = Pipeline.chain (lines.map seq) := by
  simp only [lines, List.map_cons, List.map_nil]
  rewrite [chain_seq_cons, chain_seq_cons, chain_seq_cons, chain_seq_cons, chain_seq_cons, chain_seq_cons, chain_seq_cons,
    chain_seq_cons, chain_seq_cons, chain_seq_cons, chain_seq_cons, chain_seq_cons]
  chain_rfl

/-- The reference is that line of operations. -/
theorem main_eq (c : Dev nD) : main (F := F) c = seq lines.flatten := by
  rw [main_chain]
  have h := chain_map_seq_append (nD := nD) (Λ := Pipeline.Sig Λ₀ (Fin 0) fun p => (pcfgs (F := F) p).Adm) (lines (F := F)) []
  rw [List.append_nil] at h
  rw [h]
  exact bind_pure _

end Cert.Proof.Ref

end
-- ==== Proof.RefScatter.lean ====
/- The reference's three indexed writes, read at an element: one entry of every row's first axis, one feature of every batch
   element, one column of a matrix. -/
module

public import proofs.«01_k».proof.Proof.RefOps
public import Idealize.ShloMosaic.Lib.Routing.OpsOne
public import Idealize.ShloMosaic.Lib.PointwiseCore

@[expose] public section

set_option maxRecDepth 16384

noncomputable section

namespace Cert.Proof.Ref

open Idealize.ShloMosaic Idealize.ShloMosaic.Routing Cert.ReferenceIdeal Cert.ReferenceIdeal.Gen

variable {α : Type}

/-- Where the writes of one entry per batch element land: update `b'` at the entry named by the two index words. -/
theorem lands_cell (idx : IVec S2 32) (f : Fin 2) (c : Fin 100000) (hf : (idx (ix1 0)).toInt = (f.val : Int))
    (hc : (idx (ix1 1)).toInt = (c.val : Int)) (k : S128.Idx) (b : Fin 128) (f' : Fin 2) (c' : Fin 100000) :
    scatter_S128x2x100000_S2_S128_0_12_12_0.resultIdx? k idx = some (ix3 b f' c') ↔ k = ix1 b ∧ f' = f ∧ c' = c := by
  have s0 : scatter_S128x2x100000_S2_S128_0_12_12_0.start k idx (0 : Fin 3) = 0 := rfl
  have s1 : scatter_S128x2x100000_S2_S128_0_12_12_0.start k idx (1 : Fin 3) = (f.val : Int) := by
    rw [← hf]
    refine congrArg (fun i => (idx i).toInt) (?_ : ScatterDims.siIdx _ k _ = ix1 0)
    funext a
    match a with
    | ⟨0, _⟩ => exact Fin.ext rfl
  have s2 : scatter_S128x2x100000_S2_S128_0_12_12_0.start k idx (2 : Fin 3) = (c.val : Int) := by
    rw [← hc]
    refine congrArg (fun i => (idx i).toInt) (?_ : ScatterDims.siIdx _ k _ = ix1 1)
    funext a
    match a with
    | ⟨0, _⟩ => exact Fin.ext rfl
  have w0 : scatter_S128x2x100000_S2_S128_0_12_12_0.window k (0 : Fin 3) = (k 0).val := rfl
  have w1 : scatter_S128x2x100000_S2_S128_0_12_12_0.window k (1 : Fin 3) = 0 := rfl
  have w2 : scatter_S128x2x100000_S2_S128_0_12_12_0.window k (2 : Fin 3) = 0 := rfl
  rw [resultIdx?_eq_some]
  constructor
  · intro h
    have h0 := h (0 : Fin 3)
    have h1 := h (1 : Fin 3)
    have h2 := h (2 : Fin 3)
    rw [s0, w0] at h0
    rw [s1, w1] at h1
    rw [s2, w2] at h2
    have h0' : (0 : Int) + ((k 0).val : Int) = (b.val : Int) := h0
    have h1' : (f.val : Int) + ((0 : ℕ) : Int) = (f'.val : Int) := h1
    have h2' : (c.val : Int) + ((0 : ℕ) : Int) = (c'.val : Int) := h2
    refine ⟨?_, Fin.ext (by omega), Fin.ext (by omega)⟩
    funext a
    match a with
    | ⟨0, _⟩ => exact Fin.ext (by show (k 0).val = b.val; omega)
  · rintro ⟨rfl, rfl, rfl⟩ a
    match a with
    | ⟨0, _⟩ => exact (congrArg₂ (fun (x : Int) (y : ℕ) => x + (y : Int)) s0 w0).trans (zero_add _)
    | ⟨1, _⟩ => exact (congrArg₂ (fun (x : Int) (y : ℕ) => x + (y : Int)) s1 w1).trans (add_zero _)
    | ⟨2, _⟩ => exact (congrArg₂ (fun (x : Int) (y : ℕ) => x + (y : Int)) s2 w2).trans (add_zero _)

/-- One entry per batch element written: the update there, the operand elsewhere. -/
theorem scatter_cell (x : S128x2x100000.Idx → α) (idx : IVec S2 32) (u : S128.Idx → α) (f : Fin 2) (c : Fin 100000)
    (hf : (idx (ix1 0)).toInt = (f.val : Int)) (hc : (idx (ix1 1)).toInt = (c.val : Int)) (b : Fin 128) (f' : Fin 2)
    (c' : Fin 100000) :
    Host.scatter scatter_S128x2x100000_S2_S128_0_12_12_0 (fun _ b => b) x idx u (ix3 b f' c') =
      if f' = f ∧ c' = c then u (ix1 b) else x (ix3 b f' c') := by
  by_cases h : f' = f ∧ c' = c
  · rw [if_pos h]
    exact scatter_set_hit _ x idx u _ _ (fun k hk => congrArg u ((lands_cell idx f c hf hc k b f' c').1 hk).1) (ix1 b)
      ((lands_cell idx f c hf hc _ b f' c').2 ⟨rfl, h⟩)
  · rw [if_neg h]
    exact scatter_set_miss _ x idx u _ fun k hk => h ((lands_cell idx f c hf hc k b f' c').1 hk).2

/-- Where the writes of one feature land: update `(b, c)` at the feature named by the index word. -/
theorem lands_feature (idx : IVec S1 32) (f : Fin 2) (hf : (idx (ix1 0)).toInt = (f.val : Int)) (k : S128x100000.Idx)
    (b : Fin 128) (f' : Fin 2) (c : Fin 100000) :
    scatter_S128x2x100000_S1_S128x100000_01_1_1_0.resultIdx? k idx = some (ix3 b f' c) ↔ k = ix2 b c ∧ f' = f := by
  have s0 : scatter_S128x2x100000_S1_S128x100000_01_1_1_0.start k idx (0 : Fin 3) = 0 := rfl
  have s1 : scatter_S128x2x100000_S1_S128x100000_01_1_1_0.start k idx (1 : Fin 3) = (f.val : Int) := by
    rw [← hf]
    refine congrArg (fun i => (idx i).toInt) (?_ : ScatterDims.siIdx _ k _ = ix1 0)
    funext a
    match a with
    | ⟨0, _⟩ => exact Fin.ext rfl
  have s2 : scatter_S128x2x100000_S1_S128x100000_01_1_1_0.start k idx (2 : Fin 3) = 0 := rfl
  have w0 : scatter_S128x2x100000_S1_S128x100000_01_1_1_0.window k (0 : Fin 3) = (k 0).val := rfl
  have w1 : scatter_S128x2x100000_S1_S128x100000_01_1_1_0.window k (1 : Fin 3) = 0 := rfl
  have w2 : scatter_S128x2x100000_S1_S128x100000_01_1_1_0.window k (2 : Fin 3) = (k 1).val := rfl
  rw [resultIdx?_eq_some]
  constructor
  · intro h
    have h0 := h (0 : Fin 3)
    have h1 := h (1 : Fin 3)
    have h2 := h (2 : Fin 3)
    rw [s0, w0] at h0
    rw [s1, w1] at h1
    rw [s2, w2] at h2
    have h0' : (0 : Int) + ((k 0).val : Int) = (b.val : Int) := h0
    have h1' : (f.val : Int) + ((0 : ℕ) : Int) = (f'.val : Int) := h1
    have h2' : (0 : Int) + ((k 1).val : Int) = (c.val : Int) := h2
    refine ⟨?_, Fin.ext (by omega)⟩
    funext a
    match a with
    | ⟨0, _⟩ => exact Fin.ext (by show (k 0).val = b.val; omega)
    | ⟨1, _⟩ => exact Fin.ext (by show (k 1).val = c.val; omega)
  · rintro ⟨rfl, rfl⟩ a
    match a with
    | ⟨0, _⟩ => exact (congrArg₂ (fun (x : Int) (y : ℕ) => x + (y : Int)) s0 w0).trans (zero_add _)
    | ⟨1, _⟩ => exact (congrArg₂ (fun (x : Int) (y : ℕ) => x + (y : Int)) s1 w1).trans (add_zero _)
    | ⟨2, _⟩ => exact (congrArg₂ (fun (x : Int) (y : ℕ) => x + (y : Int)) s2 w2).trans (zero_add _)

/-- One feature written: the update there, the operand elsewhere. -/
theorem scatter_feature (x : S128x2x100000.Idx → α) (idx : IVec S1 32) (u : S128x100000.Idx → α) (f : Fin 2)
    (hf : (idx (ix1 0)).toInt = (f.val : Int)) (b : Fin 128) (f' : Fin 2) (c : Fin 100000) :
    Host.scatter scatter_S128x2x100000_S1_S128x100000_01_1_1_0 (fun _ b => b) x idx u (ix3 b f' c) =
      if f' = f then u (ix2 b c) else x (ix3 b f' c) := by
  by_cases h : f' = f
  · rw [if_pos h]
    exact scatter_set_hit _ x idx u _ _ (fun k hk => congrArg u ((lands_feature idx f hf k b f' c).1 hk).1) (ix2 b c)
      ((lands_feature idx f hf _ b f' c).2 ⟨rfl, h⟩)
  · rw [if_neg h]
    exact scatter_set_miss _ x idx u _ fun k hk => h ((lands_feature idx f hf k b f' c).1 hk).2

/-- One column of a matrix written: the update there, the operand elsewhere. -/
theorem scatter_column (x : S128x2.Idx → α) (idx : IVec S1 32) (u : S128.Idx → α) (f : Fin 2)
    (hf : (idx (ix1 0)).toInt = (f.val : Int)) (b : Fin 128) (f' : Fin 2) :
    Host.scatter scatter_S128x2_S1_S128_0_1_1_0 (fun _ b => b) x idx u (ix2 b f') =
      if f' = f then u (ix1 b) else x (ix2 b f') := by
  have lands := fun (w' w : Fin 128) (e : Fin 2) =>
    lands_col scatter_S128x2_S1_S128_0_1_1_0 rfl rfl idx f hf w' w e
  by_cases h : f' = f
  · rw [if_pos h]
    refine scatter_set_hit _ x idx u _ _ (fun k hk => ?_) (ix1 b) ((lands b b f').2 ⟨rfl, h⟩)
    rw [eq_ix1 k] at hk ⊢
    exact congrArg (fun i => u (ix1 i)) ((lands _ b f').1 hk).1
  · rw [if_neg h]
    refine scatter_set_miss _ x idx u _ fun k hk => ?_
    rw [eq_ix1 k] at hk
    exact h ((lands _ b f').1 hk).2

end Cert.Proof.Ref

end
-- ==== Proof.RefValue.lean ====
/- What the reference's array operations compute, read at an element: the masked array, the scores, the first greatest column
   and the next token, over any contents of the buffers before them. -/
module

public import proofs.«01_k».proof.Proof.RefScatter
public import proofs.«01_k».proof.Proof.Spec
public import Idealize.ShloMosaic.Lib.StableHlo.ReadAt
public import Idealize.ShloMosaic.Lib.ValueIdx
public import Idealize.ShloMosaic.Lib.Pipeline.ValueKit

@[expose] public section

set_option maxRecDepth 16384

noncomputable section

namespace Cert.Proof.Ref

open Idealize.ShloMosaic Idealize.ShloMosaic.StableHlo Idealize.SL.Sem Cert.ReferenceIdeal Cert.ReferenceIdeal.Gen Cert.Proof.Sim

variable (V : Valuation τ sig (Elt Ideal))

/-- An element of an array of reals. -/
abbrev el (s : Shape) (v : FVec Ideal s .f32) (i : s.Idx) : EReal := v i

/-- The elements of the first argument. -/
def argX (b : Fin 128) (f : Fin 2) (c : Fin 100000) : EReal := (V (Proc.devRef .tc main_arg0) : FVec Ideal S128x2x100000 .f32) (ix3 b f c)

/-- The elements of the second argument. -/
def argP (b : Fin 128) : EReal := (V (Proc.devRef .tc main_arg1) : FVec Ideal S128 .f32) (ix1 b)

/-- The column limit of each row. -/
def limit (b : Fin 128) : BitVec 32 :=
  IntOp.addi (FloatOps.fptosi (F := Ideal) (φ := .f32) 32 (argP V b * Ideal.ofBits FTy.f32 1203982336#32)) 5000#32

/-- The constant of the zero word is 0. -/
theorem const_zero : id (constant (F := Ideal) S_ FTy.f32 0#32) ix0 = (0 : EReal) := ofBits_zero

/-- The constant of the word of minus infinity is the least extended real. -/
theorem const_bot : id (constant (F := Ideal) S_ FTy.f32 4286578688#32) ix0 = (⊥ : EReal) := ofBits_bot

/-- The bit of a proposition is set exactly if it holds. -/
theorem ofBool_iff (p : Prop) [Decidable p] : (BitVec.ofBool (decide p) = 1#1) ↔ p := by
  by_cases h : p <;> simp [h]

/-- The value written at column 0 of feature 1. -/
theorem zero_at (b : Fin 128) (h : Decidable (Other (argX V) b)) :
    (after zeroOps V (Proc.devRef .tc main_v9) : FVec Ideal S128 .f32) (ix1 b) = if Other (argX V) b then 0 else argX V b 1 0 := by
  have e : (after zeroOps V (Proc.devRef .tc main_v9) : FVec Ideal S128 .f32) (ix1 b) =
      Scalar.select (Finset.fold IntOp.ori (0#1) (fun x : Fin 99999 => BitVec.ofBool (decide
        (Ideal.ofBits FTy.f32 1036831949#32 ≤ Ideal.div (argX V b 1 ⟨1 + x.val, by omega⟩) 1))) Finset.univ)
        (0 : EReal) (Ideal.div (argX V b 1 0) 1) := by
    unfold argX
    after_reads_at
    rw [const_zero]
    refine congrArg (fun p => Scalar.select (Finset.fold IntOp.ori (0#1) p Finset.univ) _ _) (funext fun x => ?_)
    rfl
  rw [e, fold_ori]
  simp only [div_one_eq, ofBool_iff]
  have k : (∃ r : Fin 99999, Ideal.ofBits FTy.f32 1036831949#32 ≤ argX V b 1 ⟨1 + r.val, by omega⟩) ↔ Other (argX V) b := by
    constructor
    · rintro ⟨r, hr⟩
      exact ⟨⟨1 + r.val, by omega⟩, by simp, hr⟩
    · rintro ⟨c, h1, hc⟩
      refine ⟨⟨c.val - 1, by omega⟩, ?_⟩
      have ec : (⟨1 + (c.val - 1), by omega⟩ : Fin 100000) = c := Fin.ext (by show 1 + (c.val - 1) = c.val; omega)
      show _ ≤ argX V b 1 ⟨1 + (c.val - 1), _⟩
      rw [ec]
      exact hc
  by_cases o : Other (argX V) b
  · rw [if_pos (k.2 o), if_pos o]
    rfl
  · rw [if_neg (fun q => o (k.1 q)), if_neg o]
    rfl

/-- The index words of the first write. -/
theorem cell_words : (after zeroOps V (Proc.devRef .tc main_v12) : IVec S2 32) (ix1 0) = 1#32 ∧
    (after zeroOps V (Proc.devRef .tc main_v12) : IVec S2 32) (ix1 1) = 0#32 := by
  after_reads_simp
  exact ⟨rfl, rfl⟩

/-- The array with column 0 of feature 1 put to zero where another column of its row reaches the threshold. -/
theorem zeroed_at (b : Fin 128) (f : Fin 2) (c : Fin 100000) :
    (after zeroOps V (Proc.devRef .tc main_v13) : FVec Ideal S128x2x100000 .f32) (ix3 b f c) =
      if f = 1 ∧ c = 0 then (after zeroOps V (Proc.devRef .tc main_v9) : FVec Ideal S128 .f32) (ix1 b) else argX V b f c := by
  have h : (after zeroOps V (Proc.devRef .tc main_v13) : FVec Ideal S128x2x100000 .f32) =
      Host.scatter scatter_S128x2x100000_S2_S128_0_12_12_0 (fun _ b => b)
        (after zeroOps V (Proc.devRef .tc main_v1) : FVec Ideal S128x2x100000 .f32)
        (after zeroOps V (Proc.devRef .tc main_v12) : IVec S2 32) (after zeroOps V (Proc.devRef .tc main_v9) : FVec Ideal S128 .f32) := by
    after_reads_simp
    rfl
  have h1 : (after zeroOps V (Proc.devRef .tc main_v1) : FVec Ideal S128x2x100000 .f32) (ix3 b f c) = Ideal.div (argX V b f c) 1 := by
    unfold argX
    after_reads_at
  rw [h, scatter_cell _ _ _ 1 0 (by rw [(cell_words V).1]; rfl) (by rw [(cell_words V).2]; rfl), h1, div_one_eq]

/-- Feature 0 as the second write has it. -/
theorem limited_row (b : Fin 128) (c : Fin 100000) :
    el S128x100000 (after limitOps V (Proc.devRef .tc main_v32)) (ix2 b c) =
      Scalar.select (IntOp.andi (IntOp.cmpi .sgt (BitVec.ofNat 32 c.val) (limit V b))
        (BitVec.ofBool (decide (thr ≤ el S128x2x100000 (V (Proc.devRef .tc main_v13)) (ix3 b 0 c)))))
        0 (el S128x2x100000 (V (Proc.devRef .tc main_v13)) (ix3 b 0 c)) := by
  unfold limit argP thr el
  after_reads_at
  rw [const_zero]

/-- The array after the second write. -/
theorem limited_at (b : Fin 128) (f : Fin 2) (c : Fin 100000) :
    el S128x2x100000 (after limitOps V (Proc.devRef .tc main_v34)) (ix3 b f c) =
      if f = 0 then el S128x100000 (after limitOps V (Proc.devRef .tc main_v32)) (ix2 b c)
      else el S128x2x100000 (V (Proc.devRef .tc main_v13)) (ix3 b f c) := by
  have h : (after limitOps V (Proc.devRef .tc main_v34) : FVec Ideal S128x2x100000 .f32) =
      Host.scatter scatter_S128x2x100000_S1_S128x100000_01_1_1_0 (fun _ b => b)
        (V (Proc.devRef .tc main_v13) : FVec Ideal S128x2x100000 .f32)
        (after limitOps V (Proc.devRef .tc main_v33) : IVec S1 32)
        (after limitOps V (Proc.devRef .tc main_v32) : FVec Ideal S128x100000 .f32) := by
    after_reads_simp
    rfl
  rw [h]
  refine scatter_feature _ _ _ 0 ?_ b f c
  after_reads_simp
  rfl

open Classical in
/-- The array after the threshold. -/
theorem threshold_at (b : Fin 128) (f : Fin 2) (c : Fin 100000) :
    el S128x2x100000 (after thresholdOps V (Proc.devRef .tc main_v37)) (ix3 b f c) =
      if el S128x2x100000 (V (Proc.devRef .tc main_v34)) (ix3 b f c) < thr then (0 : EReal)
      else el S128x2x100000 (V (Proc.devRef .tc main_v34)) (ix3 b f c) := by
  unfold thr el
  after_reads_at
  rw [const_zero]

open Classical in
/-- The logarithms, over the masked array. -/
theorem logit_at (b : Fin 128) (f : Fin 2) (c : Fin 100000) :
    el S256x100000 (after logitOps V (Proc.devRef .tc main_v44)) (ix2 ⟨b.val * 2 + f.val, by omega⟩ c) =
      if 0 < el S128x2x100000 (V (Proc.devRef .tc main_v37)) (ix3 b f c) then
        Ideal.log (max (el S128x2x100000 (V (Proc.devRef .tc main_v37)) (ix3 b f c)) (Ideal.ofBits FTy.f32 228737632#32))
      else (⊥ : EReal) := by
  have e1 : (⟨(b.val * 2 + f.val) / 2, by omega⟩ : Fin 128) = b := Fin.ext (by show (b.val * 2 + f.val) / 2 = b.val; omega)
  have e2 : (⟨(b.val * 2 + f.val) % 2, by omega⟩ : Fin 2) = f := Fin.ext (by show (b.val * 2 + f.val) % 2 = f.val; omega)
  unfold el
  after_reads_at
  rw [const_bot, e1, e2]

/-- The fractions of the next token before feature 0 is put to zero. -/
theorem share_at (b : Fin 128) (f : Fin 2) :
    el S128x2 (after tokenOps V (Proc.devRef .tc main_v65)) (ix2 b f) =
      Ideal.div (el S128x2 (V (Proc.devRef .tc main_v61)) (ix2 b f) + el S128x2 (V (Proc.devRef .tc main_v62)) (ix2 b f))
        (Ideal.ofBits FTy.f32 1203982336#32) := by
  unfold el
  after_reads_at

open Classical in
/-- Feature 0 of the next token. -/
theorem first_token_at (b : Fin 128) :
    el S128 (after tokenOps V (Proc.devRef .tc main_v72)) (ix1 b) =
      if el S128x2 (after tokenOps V (Proc.devRef .tc main_v65)) (ix2 b 0) < Ideal.ofBits FTy.f32 925353388#32 then (0 : EReal)
      else el S128x2 (after tokenOps V (Proc.devRef .tc main_v65)) (ix2 b 0) := by
  unfold el
  after_reads_at
  rw [const_zero]

/-- The next token. -/
theorem token_at (b : Fin 128) (f : Fin 2) (i : BitVec 32) (u : EReal)
    (hi : el S128x2 (V (Proc.devRef .tc main_v61)) (ix2 b f) = FloatOps.sitofp (F := Ideal) FTy.f32 i)
    (hu : el S128x2 (V (Proc.devRef .tc main_v62)) (ix2 b f) = u) :
    el S128x2 (after tokenOps V (Proc.devRef .tc main_v74)) (ix2 b f) = token f i u := by
  have h : (after tokenOps V (Proc.devRef .tc main_v74) : FVec Ideal S128x2 .f32) =
      Host.scatter scatter_S128x2_S1_S128_0_1_1_0 (fun _ b => b)
        (after tokenOps V (Proc.devRef .tc main_v65) : FVec Ideal S128x2 .f32)
        (after tokenOps V (Proc.devRef .tc main_v73) : IVec S1 32) (after tokenOps V (Proc.devRef .tc main_v72) : FVec Ideal S128 .f32) := by
    after_reads_simp
    rfl
  have hw : (after tokenOps V (Proc.devRef .tc main_v73) : IVec S1 32) (ix1 0) = 0#32 := by
    after_reads_simp
    rfl
  have hs := share_at V b f
  rw [hi, hu] at hs
  rw [h]
  refine (scatter_column _ _ _ 0 (by rw [hw]; rfl) b f).trans ?_
  unfold token
  by_cases e : f = 0
  · subst e
    rw [if_pos rfl]
    refine (first_token_at V b).trans ?_
    rw [hs]
    simp [share]
  · rw [if_neg e, if_neg (fun q => e q.1)]
    exact hs

end Cert.Proof.Ref

end
-- ==== Proof.RefRun.lean ====
/- The reference's run: it ends with every buffer at what its line of operations leaves there, and its arguments unchanged. -/
module

public import proofs.«01_k».proof.Proof.RefValue
public import proofs.«01_k».proof.Proof.NoiseEq
public import Idealize.ShloMosaic.Lib.Quiescent

@[expose] public section

set_option maxRecDepth 16384

noncomputable section

namespace Cert.Proof.Ref

open Idealize.ShloMosaic Idealize.ShloMosaic.StableHlo Idealize.SL.Sem Cert.ReferenceIdeal Cert.ReferenceIdeal.Gen Cert.Proof.Sim

variable {F : FTy → Type} [FloatOps F]

/-! ## Every operation works on the arrays of the program and determines its result -/

/-- The operations touch only the buffers of the device, stretch by stretch. -/
theorem zeroOps_bufs : (zeroOps (F := F)).Forall fun op => op.bufs ⊆ tcRefs τ sig :=
  ⟨nullary_bufs_sub .., unary_bufs_sub .., binary_bufs_sub .., unary_bufs_sub .., reshape_bufs_sub .., nullary_bufs_sub .., unary_bufs_sub .., binary_bufs_sub ..,
    nullary_bufs_sub .., binary_bufs_sub .., unary_bufs_sub .., reshape_bufs_sub .., nullary_bufs_sub .., unary_bufs_sub .., unary_bufs_sub .., ternary_bufs_sub ..,
    nullary_bufs_sub .., unary_bufs_sub .., nullary_bufs_sub .., unary_bufs_sub .., binary_bufs_sub .., ternary_bufs_sub ..⟩

theorem limitOps_bufs : (limitOps (F := F)).Forall fun op => op.bufs ⊆ tcRefs τ sig :=
  ⟨nullary_bufs_sub .., unary_bufs_sub .., binary_bufs_sub .., unary_bufs_sub .., nullary_bufs_sub .., unary_bufs_sub .., binary_bufs_sub .., nullary_bufs_sub ..,
    unary_bufs_sub .., unary_bufs_sub .., unary_bufs_sub .., unary_bufs_sub .., binary_bufs_sub .., unary_bufs_sub .., reshape_bufs_sub .., nullary_bufs_sub ..,
    unary_bufs_sub .., binary_bufs_sub .., binary_bufs_sub .., unary_bufs_sub .., reshape_bufs_sub .., nullary_bufs_sub .., unary_bufs_sub .., unary_bufs_sub ..,
    ternary_bufs_sub .., nullary_bufs_sub .., unary_bufs_sub .., ternary_bufs_sub ..⟩

theorem thresholdOps_bufs : (thresholdOps (F := F)).Forall fun op => op.bufs ⊆ tcRefs τ sig :=
  ⟨nullary_bufs_sub .., unary_bufs_sub .., binary_bufs_sub .., nullary_bufs_sub .., unary_bufs_sub .., unary_bufs_sub .., ternary_bufs_sub ..⟩

theorem logitOps_bufs : (logitOps (F := F)).Forall fun op => op.bufs ⊆ tcRefs τ sig :=
  ⟨reshape_bufs_sub .., nullary_bufs_sub .., unary_bufs_sub .., binary_bufs_sub .., nullary_bufs_sub .., unary_bufs_sub .., binary_bufs_sub .., unary_bufs_sub ..,
    nullary_bufs_sub .., unary_bufs_sub .., unary_bufs_sub .., ternary_bufs_sub ..⟩

theorem pickOps_bufs : (pickOps (F := F)).Forall fun op => op.bufs ⊆ tcRefs τ sig :=
  ⟨binary_bufs_sub .., nullary_bufs_sub .., nullary_bufs_sub .., nullary_bufs_sub .., quaternary_bufs_sub .., quaternary_bufs_sub .., unary_bufs_sub .., reshape_bufs_sub ..⟩

theorem tokenOps_bufs : (tokenOps (F := F)).Forall fun op => op.bufs ⊆ tcRefs τ sig :=
  ⟨binary_bufs_sub .., nullary_bufs_sub .., unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., unary_bufs_sub .., ternary_bufs_sub .., nullary_bufs_sub ..,
    unary_bufs_sub .., ternary_bufs_sub ..⟩

/-- The same for paired operations. -/
theorem right_bufs (ops : List (POp KernelIdeal.sig sig (Elt F))) :
    (ops.map (POp.right (τr := τ))).Forall fun op => op.bufs ⊆ tcRefs τ sig := by
  rw [List.forall_iff_forall_mem]
  intro op h
  obtain ⟨q, _, rfl⟩ := List.mem_map.1 h
  cases q <;> simp only [POp.right, TRef.nullary, TRef.unary, TRef.binary, TRef.reshape, nullary_bufs_sub, unary_bufs_sub, binary_bufs_sub, reshape_bufs_sub]

/-- The same for the whole line. -/
theorem lines_bufs : (lines (F := F)).flatten.Forall fun op => op.bufs ⊆ tcRefs τ sig := by
  simp only [lines, List.flatten_cons, List.forall_append]
  exact ⟨zeroOps_bufs, limitOps_bufs, thresholdOps_bufs, logitOps_bufs, right_bufs _, right_bufs _, right_bufs _, right_bufs _,
    pickOps_bufs, right_bufs _, right_bufs _, tokenOps_bufs, trivial⟩

/-- Paired operations need no buffer of their own. -/
theorem right_fresh (ops : List (POp KernelIdeal.sig sig (Elt F))) :
    ∀ op ∈ ops.map (POp.right (τr := τ)), op.fresh = ∅ := by
  intro op h
  obtain ⟨q, _, rfl⟩ := List.mem_map.1 h
  cases q <;> rfl

/-- Nor do operations listed as needing none. -/
theorem plain_fresh {ops : List (HloOp τ sig (Elt F))} (h : ops.map HloOp.fresh = ops.map fun _ => (∅ : Finset (DevRef τ sig))) :
    ∀ op ∈ ops, op.fresh = ∅ := List.forall_iff_forall_mem.1 (forall_fresh_of_map h)

/-- Nor does the whole line. -/
theorem lines_fresh : ∀ op ∈ (lines (F := F)).flatten, op.fresh = ∅ := by
  intro op h
  obtain ⟨l, hl, ho⟩ := List.mem_flatten.1 h
  simp only [lines, List.mem_cons, List.not_mem_nil, or_false] at hl
  rcases hl with rfl | rfl | rfl | rfl | rfl | rfl | rfl | rfl | rfl | rfl | rfl | rfl
  · exact plain_fresh rfl op ho
  · exact plain_fresh rfl op ho
  · exact plain_fresh rfl op ho
  · exact plain_fresh rfl op ho
  · exact right_fresh _ op ho
  · exact right_fresh _ op ho
  · exact right_fresh _ op ho
  · exact right_fresh _ op ho
  · exact plain_fresh rfl op ho
  · exact right_fresh _ op ho
  · exact right_fresh _ op ho
  · exact plain_fresh rfl op ho

/-- The reference has no scoped buffer. -/
theorem scopedRefs_eq : (Finset.univ.filter fun b : Ref sig .tc => b.isScoped) = ∅ := by decide +kernel
/-- The reference has no scoped semaphore. -/
theorem scopedSems_eq : (Finset.univ.filter fun sm : SemLoc sig => sm.isScoped .tc) = ∅ := by decide +kernel

/-- The line leaves the first argument unchanged. -/
theorem arg0_eq (V : Valuation τ sig (Elt F)) : after lines.flatten V (Proc.devRef .tc main_arg0) = V (Proc.devRef .tc main_arg0) := by
  after_reads_simp

/-- The line leaves the second argument unchanged. -/
theorem arg1_eq (V : Valuation τ sig (Elt F)) : after lines.flatten V (Proc.devRef .tc main_arg1) = V (Proc.devRef .tc main_arg1) := by
  after_reads_simp

/-- The reference ends with every array at what the line leaves there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after lines.flatten (launchContents m c) (Proc.devRef .tc b) :=
  run_seq scopedRefs_eq scopedSems_eq defs main (fun _ => lines.flatten) main_eq (fun _ => lines_bufs) m ρ (fun _ => lines_fresh)

end Cert.Proof.Ref

end
-- ==== Proof.RefArg.lean ====
/- The reference's arg-max: over a row of scores it gives the row's first greatest column. -/
module

public import proofs.«01_k».proof.Proof.RefValue

@[expose] public section

set_option maxRecDepth 16384

noncomputable section

namespace Cert.Proof.Ref

open Idealize.ShloMosaic Idealize.ShloMosaic.StableHlo Idealize.SL.Sem Cert.ReferenceIdeal Cert.ReferenceIdeal.Gen Cert.Proof.Sim

/-- The reducer is the step of the pass over a row. -/
theorem reducer_eq : (reducer_argmax_f32_i32 (F := Ideal)) = pick := by
  funext a b
  obtain ⟨x, i⟩ := a
  obtain ⟨y, j⟩ := b
  simp only [reducer_argmax_f32_i32, pick]
  have e1 : FloatOps.cmpf (F := Ideal) (φ := .f32) .ogt x y = BitVec.ofBool (decide (y < x)) := rfl
  have e2 : FloatOps.cmpf (F := Ideal) (φ := .f32) .une x x = BitVec.ofBool (decide (x ≠ x)) := rfl
  have e3 : FloatOps.cmpf (F := Ideal) (φ := .f32) .oeq x y = BitVec.ofBool (decide (x = y)) := rfl
  have e4 : IntOp.cmpi .slt i j = BitVec.ofBool (decide (i.toInt < j.toInt)) := rfl
  rw [e1, e2, e3, e4]
  by_cases h1 : y < x <;> by_cases h2 : x = y <;> by_cases h3 : i.toInt < j.toInt <;>
    simp [h1, h2, h3, Scalar.select, IntOp.ori, IntOp.andi]

/-- The pairs that the arg-max passes over at row `r` are that row's elements with their columns. -/
theorem mem_fiber (x : FVec Ideal S256x100000 .f32) (r : Fin 256) (p : EReal × BitVec 32) :
    p ∈ Host.argReduceFiber x (iotaInDim S256x100000 32 1) reducesTo_S256x100000_S256_d1 (ix1 r) ↔
      ∃ c : Fin 100000, p = (x (ix2 r c), BitVec.ofNat 32 c.val) := by
  have drop : ∀ i : S256x100000.Idx, reducesTo_S256x100000_S256_d1.drop i = ix1 r ↔ i 0 = r := by
    intro i
    constructor
    · intro h
      have := congrArg (fun k : S256.Idx => (k 0).val) h
      exact Fin.ext this
    · intro h
      funext a
      match a with
      | ⟨0, _⟩ => exact Fin.ext (congrArg Fin.val h)
  unfold Host.argReduceFiber
  simp only [List.mem_map, List.mem_filter, List.mem_finRange, true_and, decide_eq_true_eq]
  constructor
  · rintro ⟨n, hn, rfl⟩
    refine ⟨S256x100000.rowMajor.symm n 1, ?_⟩
    have h := (drop _).1 hn
    have e : S256x100000.rowMajor.symm n = ix2 r (S256x100000.rowMajor.symm n 1) := by
      rw [← h]
      exact eq_ix2 _
    refine Prod.ext (congrArg x e) rfl
  · rintro ⟨c, rfl⟩
    refine ⟨S256x100000.rowMajor (ix2 r c), ?_, ?_⟩
    · rw [Equiv.symm_apply_apply]
      exact (drop _).2 rfl
    · rw [Equiv.symm_apply_apply]
      rfl

/-- The arg-max at row `r`. -/
theorem argmax_at (x : FVec Ideal S256x100000 .f32) (r : Fin 256) :
    (Host.argReduce reducer_argmax_f32_i32 x (iotaInDim S256x100000 32 1) (constant S_ FTy.f32 4286578688#32) (constantI S_ 32 0#32)
      reducesTo_S256x100000_S256_d1 h_S_ (ix1 r)).2 = BitVec.ofNat 32 (winner (row fun c => x (ix2 r c))) := by
  rw [Ideal.argReduce_eq_reduce2, Host.reduce2_eq_foldl_fiber, reducer_eq]
  have e : ((constant (F := Ideal) S_ FTy.f32 4286578688#32) (Shape.Idx.first h_S_), (constantI S_ 32 0#32) (Shape.Idx.first h_S_)) =
      ((⊥ : EReal), 0#32) := Prod.ext ofBits_bot rfl
  rw [e]
  obtain ⟨i, h1, h2⟩ := first_pass (n := 100000) (by decide) (by decide) (row fun c => x (ix2 r c))
    (Host.argReduceFiber x (iotaInDim S256x100000 32 1) reducesTo_S256x100000_S256_d1 (ix1 r)) fun p => by
      rw [mem_fiber]
      constructor
      · rintro ⟨c, rfl⟩
        exact ⟨c.val, c.isLt, by rw [row_val]⟩
      · rintro ⟨c, hc, rfl⟩
        exact ⟨⟨c, hc⟩, Prod.ext (row_val (fun c => x (ix2 r c)) ⟨c, hc⟩) rfl⟩
  rw [winner_eq h1]
  exact h2

/-- The place of the first greatest score, as the reference has it. -/
theorem place_at (V : Valuation τ sig (Elt Ideal)) (b : Fin 128) (f : Fin 2) (s : Fin 100000 → EReal)
    (hs : ∀ c, el S256x100000 (V (Proc.devRef .tc main_v57)) (ix2 ⟨b.val * 2 + f.val, by omega⟩ c) +
      el S256x100000 (V (Proc.devRef .tc main_v44)) (ix2 ⟨b.val * 2 + f.val, by omega⟩ c) = s c) :
    el S128x2 (after pickOps V (Proc.devRef .tc main_v61)) (ix2 b f) =
      FloatOps.sitofp (F := Ideal) FTy.f32 (BitVec.ofNat 32 (winner (row s))) := by
  obtain rfl := funext hs
  have h := argmax_at (addf (V (Proc.devRef .tc main_v57)) (V (Proc.devRef .tc main_v44))) ⟨b.val * 2 + f.val, by omega⟩
  refine Eq.trans ?_ (congrArg (FloatOps.sitofp (F := Ideal) FTy.f32) h)
  unfold el
  after_reads_at

end Cert.Proof.Ref

end
-- ==== Proof.RefResult.lean ====
/- What the reference returns: the masked array and the next token, by the plain functions of `Spec.lean` of its arguments and
   its noise. -/
module

public import proofs.«01_k».proof.Proof.RefRun
public import proofs.«01_k».proof.Proof.RefArg
public import Idealize.ShloMosaic.Lib.Pipeline.Frame

@[expose] public section

set_option maxRecDepth 16384

noncomputable section

namespace Cert.Proof.Ref

open Idealize.ShloMosaic Idealize.ShloMosaic.StableHlo Idealize.SL.Sem Cert.ReferenceIdeal Cert.ReferenceIdeal.Gen Cert.Proof.Sim

variable (V : Valuation τ sig (Elt Ideal))

/-- The arrays after the masked array is made. -/
def maskedV : Valuation τ sig (Elt Ideal) := after thresholdOps (after limitOps (after zeroOps V))

/-- The arrays before the Gumbel noise is drawn. -/
def logitV : Valuation τ sig (Elt Ideal) := after logitOps (maskedV V)

/-- The arrays once the Gumbel noise is drawn. -/
def gumbelV : Valuation τ sig (Elt Ideal) := after (Noise.firstOps.map POp.right) (logitV V)

/-- The arrays before the uniform noise is drawn. -/
def pickV : Valuation τ sig (Elt Ideal) := after pickOps (gumbelV V)

/-- The arrays once the uniform noise is drawn. -/
def uniformV : Valuation τ sig (Elt Ideal) := after (Noise.secondOps.map POp.right) (pickV V)

/-- The whole line, by these steps. -/
theorem lines_after : after lines.flatten V = after tokenOps (uniformV V) := by
  simp only [lines, List.flatten_cons, List.flatten_nil, List.append_nil, after_append, uniformV, pickV, gumbelV, logitV, maskedV,
    Noise.firstOps, Noise.secondOps, List.map_append]

/-- The Gumbel noise. -/
def noiseG (b : Fin 128) (f : Fin 2) (c : Fin 100000) : EReal :=
  el S256x100000 (gumbelV V (Proc.devRef .tc main_v57)) (ix2 ⟨b.val * 2 + f.val, by omega⟩ c)

/-- The uniform noise. -/
def noiseU (b : Fin 128) (f : Fin 2) : EReal := el S128x2 (uniformV V (Proc.devRef .tc main_v62)) (ix2 b f)

/-- A select on the "and" of two comparisons. -/
theorem select_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

/-- The masked array as it is made. -/
theorem maskedV_at (b : Fin 128) (f : Fin 2) (c : Fin 100000) :
    el S128x2x100000 (maskedV V (Proc.devRef .tc main_v37)) (ix3 b f c) = masked (argX V) (limit V) b f c := by
  classical
  have hl : limit (after zeroOps V) = limit V := by
    funext b
    unfold limit argP
    after_reads_simp
  refine (threshold_at _ b f c).trans ?_
  have h0 := limited_row (after zeroOps V) b c
  have h1 := limited_at (after zeroOps V) b f c
  have h2 : ∀ f, el S128x2x100000 (after zeroOps V (Proc.devRef .tc main_v13)) (ix3 b f c) = _ := fun f => zeroed_at V b f c
  have h3 := zero_at V b (Classical.propDecidable _)
  have tp := thr_pos
  have z0 : el S128x2x100000 (after zeroOps V (Proc.devRef .tc main_v13)) (ix3 b 0 c) = argX V b 0 c :=
    (h2 0).trans (if_neg fun q => absurd q.1 (by decide))
  rw [h1, h0, z0, hl]
  have two : f = 0 ∨ f = 1 := by
    rcases f with ⟨_ | _ | n, hn⟩
    · exact Or.inl rfl
    · exact Or.inr rfl
    · omega
  have col : IntOp.cmpi .sgt (BitVec.ofNat 32 c.val) (limit V b) = BitVec.ofBool (decide ((limit V b).toInt < (c.val : ℤ))) := by
    show BitVec.ofBool (decide ((limit V b).toInt < (BitVec.ofNat 32 c.val).toInt)) = _
    rw [toInt_ofNat (by omega)]
  rw [col, select_and]
  unfold masked Kept
  rcases two with rfl | rfl
  · rw [if_pos rfl]
    by_cases hx : thr ≤ argX V b 0 c
    · have hx' : ¬argX V b 0 c < thr := not_lt.2 hx
      by_cases hc : (c.val : ℤ) ≤ (limit V b).toInt
      · rw [if_neg (fun q => not_lt.2 hc q.1 : ¬((limit V b).toInt < (c.val : ℤ) ∧ thr ≤ argX V b 0 c)), if_neg hx', if_pos ⟨hx, fun _ => hc, fun q => absurd q (by decide)⟩]
      · rw [if_pos (⟨not_le.1 hc, hx⟩ : (limit V b).toInt < (c.val : ℤ) ∧ thr ≤ argX V b 0 c), if_pos tp, if_neg (fun q => hc (q.2.1 rfl))]
    · rw [if_neg (fun q => hx q.2 : ¬((limit V b).toInt < (c.val : ℤ) ∧ thr ≤ argX V b 0 c)), if_pos (not_le.1 hx), if_neg (fun q => hx q.1)]
  · rw [if_neg (by decide : ¬(1 : Fin 2) = 0), h2, h3]
    by_cases hc : c = 0
    · subst hc
      rw [if_pos (⟨rfl, rfl⟩ : (1 : Fin 2) = 1 ∧ (0 : Fin 100000) = 0)]
      by_cases ho : Other (argX V) b
      · rw [if_pos ho, if_pos tp, if_neg (fun q => q.2.2 rfl ⟨rfl, ho⟩)]
      · rw [if_neg ho]
        by_cases hx : thr ≤ argX V b 1 0
        · rw [if_neg (not_lt.2 hx), if_pos ⟨hx, fun q => absurd q (by decide), fun _ q => ho q.2⟩]
        · rw [if_pos (not_le.1 hx), if_neg (fun q => hx q.1)]
    · rw [if_neg (fun q => hc q.2 : ¬((1 : Fin 2) = 1 ∧ c = 0))]
      by_cases hx : thr ≤ argX V b 1 c
      · rw [if_neg (not_lt.2 hx), if_pos ⟨hx, fun q => absurd q (by decide), fun _ q => hc (Fin.ext q.1)⟩]
      · rw [if_pos (not_le.1 hx), if_neg (fun q => hx q.1)]

/-- The reference's second result. -/
theorem result_x (b : Fin 128) (f : Fin 2) (c : Fin 100000) :
    el S128x2x100000 (after lines.flatten V (Proc.devRef .tc main_v37)) (ix3 b f c) = masked (argX V) (limit V) b f c := by
  rw [← maskedV_at, lines_after]
  unfold uniformV pickV gumbelV logitV
  have k1 : ∀ W : Valuation τ sig (Elt Ideal), after tokenOps W (Proc.devRef .tc main_v37) = W (Proc.devRef .tc main_v37) := fun W => by
    after_reads_simp
  have k2 : ∀ W : Valuation τ sig (Elt Ideal), after (Noise.secondOps.map POp.right) W (Proc.devRef .tc main_v37) = W (Proc.devRef .tc main_v37) := fun W => by
    after_reads_simp
  have k3 : ∀ W : Valuation τ sig (Elt Ideal), after pickOps W (Proc.devRef .tc main_v37) = W (Proc.devRef .tc main_v37) := fun W => by
    after_reads_simp
  have k4 : ∀ W : Valuation τ sig (Elt Ideal), after (Noise.firstOps.map POp.right) W (Proc.devRef .tc main_v37) = W (Proc.devRef .tc main_v37) := fun W => by
    after_reads_simp
  have k5 : ∀ W : Valuation τ sig (Elt Ideal), after logitOps W (Proc.devRef .tc main_v37) = W (Proc.devRef .tc main_v37) := fun W => by
    after_reads_simp
  rw [k1, k2, k3, k4, k5]

/-- The scores that the arg-max is taken of. -/
theorem score_at (b : Fin 128) (f : Fin 2) (c : Fin 100000) :
    el S256x100000 (gumbelV V (Proc.devRef .tc main_v57)) (ix2 ⟨b.val * 2 + f.val, by omega⟩ c) +
      el S256x100000 (gumbelV V (Proc.devRef .tc main_v44)) (ix2 ⟨b.val * 2 + f.val, by omega⟩ c) =
      score (argX V) (limit V) (noiseG V) b f c := by
  classical
  have k : gumbelV V (Proc.devRef .tc main_v44) = logitV V (Proc.devRef .tc main_v44) := by
    unfold gumbelV
    after_reads_simp
  have h := logit_at (maskedV V) b f c
  rw [maskedV_at] at h
  rw [k]
  unfold logitV
  rw [h]
  unfold score masked
  by_cases q : Kept (argX V) (limit V) b f c
  · rw [if_pos q, if_pos q, if_pos (lt_of_lt_of_le thr_pos q.1)]
    exact add_comm _ _
  · rw [if_neg q, if_neg q, if_neg (lt_irrefl _)]
    exact EReal.add_bot _

/-- The reference's first result. -/
theorem result_token (b : Fin 128) (f : Fin 2) :
    el S128x2 (after lines.flatten V (Proc.devRef .tc main_v74)) (ix2 b f) =
      token f (BitVec.ofNat 32 (winner (row (score (argX V) (limit V) (noiseG V) b f)))) (noiseU V b f) := by
  rw [lines_after]
  refine token_at _ b f _ _ ?_ rfl
  have k : uniformV V (Proc.devRef .tc main_v61) = pickV V (Proc.devRef .tc main_v61) := by
    unfold uniformV
    after_reads_simp
  rw [k]
  exact place_at _ b f _ (score_at V b f)

end Cert.Proof.Ref

end
-- ==== Proof.Equation.lean ====
/- The two programs return the same: from equal arguments their noise, their limits and so their results are equal. -/
module

public import proofs.«01_k».proof.Proof.KernelRun
public import proofs.«01_k».proof.Proof.RefResult

@[expose] public section

set_option maxRecDepth 16384

noncomputable section

namespace Cert.Proof

open Idealize.ShloMosaic Idealize.ShloMosaic.StableHlo Idealize.SL.Sem Cert.Proof.Sim

variable (Vl : Valuation KernelIdeal.τ KernelIdeal.sig (Elt Ideal)) (Vr : Valuation ReferenceIdeal.τ ReferenceIdeal.sig (Elt Ideal))

/-- Both programs draw the same Gumbel noise, whatever their arguments. -/
theorem noiseG_eq : K.noiseG Vl = Ref.noiseG Vr := by
  funext b f k
  exact congrFun (Noise.gumbel_eq (F := Ideal) Vl (Ref.logitV Vr)).1 _

/-- The reference's search for the greatest score leaves the second half of the split key alone. -/
theorem pick_key : Ref.pickV Vr (Proc.devRef .tc ReferenceIdeal.main_v56) = Ref.gumbelV Vr (Proc.devRef .tc ReferenceIdeal.main_v56) := by
  unfold Ref.pickV
  after_reads_simp

/-- So both programs draw the uniform noise from one key. -/
theorem key_agree : Agree [Noise.halfKey.key] (K.gumbelV Vl) (Ref.pickV Vr) := by
  intro T x hx
  have h := (Noise.gumbel_eq (F := Ideal) Vl (Ref.logitV Vr)).2 T x hx
  have e : x.r.ref = ReferenceIdeal.main_v56 :=
    ref_eq x.rh rfl (congrArg Prod.snd (List.mem_singleton.1 hx))
  have k : Ref.pickV Vr (Proc.devRef .tc x.r.ref) = Ref.gumbelV Vr (Proc.devRef .tc x.r.ref) := by
    rw [e]
    exact pick_key Vr
  rw [k]
  exact h

/-- Both programs draw the same uniform noise, whatever their arguments. -/
theorem noiseU_eq : K.noiseU Vl = Ref.noiseU Vr := by
  funext b f
  exact congrFun (Noise.uniform_eq (F := Ideal) (K.gumbelV Vl) (Ref.pickV Vr) (key_agree Vl Vr)) _

/-- Equal second arguments give equal limits. -/
theorem limit_eq (h : K.argP Vl = Ref.argP Vr) : K.limit Vl = Ref.limit Vr := by
  funext b
  unfold K.limit Ref.limit
  rw [h]

variable (m : (ℓ : Loc KernelIdeal.nD KernelIdeal.τ KernelIdeal.sig) → Buf (Elt Ideal) ℓ) (c : Dev KernelIdeal.nD)

/-- The second result of the kernel's program is the reference's. -/
theorem x_eq (hX : K.argX (fun b => m (c, b)) = Ref.argX Vr) (hP : K.argP (fun b => m (c, b)) = Ref.argP Vr) :
    (Pipeline.afterTail₀ KernelIdeal.cfgs (KernelIdeal.Gen.dats m) 0 (KernelIdeal.Gen.V0 m) [KernelIdeal.Gen.hostOps1] c
      KernelIdeal.main_v35 : FVec Ideal KernelIdeal.S128x2x100000 .f32) =
    (after Ref.lines.flatten Vr (Proc.devRef .tc ReferenceIdeal.main_v37) : FVec Ideal ReferenceIdeal.S128x2x100000 .f32) := by
  funext j
  rw [eq_ix3 j]
  refine (K.result_x m c _ _ _).trans ?_
  rw [hX, limit_eq _ Vr hP]
  exact (Ref.result_x Vr _ _ _).symm

/-- The first result of the kernel's program is the reference's. -/
theorem token_eq (hX : K.argX (fun b => m (c, b)) = Ref.argX Vr) (hP : K.argP (fun b => m (c, b)) = Ref.argP Vr) :
    (Pipeline.afterTail₀ KernelIdeal.cfgs (KernelIdeal.Gen.dats m) 0 (KernelIdeal.Gen.V0 m) [KernelIdeal.Gen.hostOps1] c
      KernelIdeal.main_v34 : FVec Ideal KernelIdeal.S128x2 .f32) =
    (after Ref.lines.flatten Vr (Proc.devRef .tc ReferenceIdeal.main_v74) : FVec Ideal ReferenceIdeal.S128x2 .f32) := by
  funext j
  rw [eq_ix2 j]
  refine (K.result_token m c _ _).trans ?_
  rw [hX, limit_eq _ Vr hP, noiseG_eq _ Vr, noiseU_eq _ Vr]
  exact (Ref.result_token Vr _ _).symm

end Cert.Proof

end
-- ==== Proof.lean ====
/- The five claims: the kernel, its reading over the extended reals and the reference each run to their end, leaving their
   arguments as they were and every semaphore at zero; that reading is the kernel's own; and over the extended reals the kernel
   returns what the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference's arguments and results after its run. -/
theorem reference_run (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => ∀ c : Dev ReferenceIdeal.nD,
        r.2.mem ((c.tc : Thread ReferenceIdeal.nD ReferenceIdeal.τ).loc ReferenceIdeal.main_v74) =
          after Ref.lines.flatten (launchContents m c) (Proc.devRef .tc ReferenceIdeal.main_v74)
        ∧ r.2.mem ((c.tc : Thread ReferenceIdeal.nD ReferenceIdeal.τ).loc ReferenceIdeal.main_v37) =
          after Ref.lines.flatten (launchContents m c) (Proc.devRef .tc ReferenceIdeal.main_v37)
        ∧ r.2.mem ((c.tc : Thread ReferenceIdeal.nD ReferenceIdeal.τ).loc ReferenceIdeal.main_arg0) =
          m ((c.tc : Thread ReferenceIdeal.nD ReferenceIdeal.τ).loc ReferenceIdeal.main_arg0)
        ∧ r.2.mem ((c.tc : Thread ReferenceIdeal.nD ReferenceIdeal.τ).loc ReferenceIdeal.main_arg1) =
          m ((c.tc : Thread ReferenceIdeal.nD ReferenceIdeal.τ).loc ReferenceIdeal.main_arg1)) :=
  (θ_run ReferenceIdeal.defs _ _).mono (fun _ h c => ⟨h c _, h c _, (h c ReferenceIdeal.main_arg0).trans (Ref.arg0_eq _),
    (h c ReferenceIdeal.main_arg1).trans (Ref.arg1_eq _)⟩) (Ref.run_main m ρ)

/-- The kernel's arguments and results after its run. -/
theorem kernel_run (m : (ℓ : Loc KernelIdeal.nD KernelIdeal.τ KernelIdeal.sig) → Buf (Elt Ideal) ℓ)
    (ρ : Dev KernelIdeal.nD → PrngReg) :
    θ_run (KernelIdeal.defs (F := Ideal)) (onTc (τ := KernelIdeal.τ) (KernelIdeal.main (F := Ideal))) ⟨m, fun _ => 0, ρ⟩
      (fun r => ∀ c : Dev KernelIdeal.nD,
        r.2.mem ((c.tc : Thread KernelIdeal.nD KernelIdeal.τ).loc KernelIdeal.main_v34) =
          Pipeline.afterTail₀ KernelIdeal.cfgs (KernelIdeal.Gen.dats m) 0 (KernelIdeal.Gen.V0 m) [KernelIdeal.Gen.hostOps1] c
            KernelIdeal.main_v34
        ∧ r.2.mem ((c.tc : Thread KernelIdeal.nD KernelIdeal.τ).loc KernelIdeal.main_v35) =
          Pipeline.afterTail₀ KernelIdeal.cfgs (KernelIdeal.Gen.dats m) 0 (KernelIdeal.Gen.V0 m) [KernelIdeal.Gen.hostOps1] c
            KernelIdeal.main_v35
        ∧ r.2.mem ((c.tc : Thread KernelIdeal.nD KernelIdeal.τ).loc KernelIdeal.main_arg0) =
          m ((c.tc : Thread KernelIdeal.nD KernelIdeal.τ).loc KernelIdeal.main_arg0)
        ∧ r.2.mem ((c.tc : Thread KernelIdeal.nD KernelIdeal.τ).loc KernelIdeal.main_arg1) =
          m ((c.tc : Thread KernelIdeal.nD KernelIdeal.τ).loc KernelIdeal.main_arg1)) :=
  (θ_run KernelIdeal.defs _ _).mono (fun _ h c =>
    ⟨(h c).2 KernelIdeal.main_v34 (Pipeline.mem_restRefs_of KernelIdeal.main_v34 (by decide) (by decide)),
      (h c).2 KernelIdeal.main_v35 (Pipeline.mem_restRefs_of KernelIdeal.main_v35 (by decide) (by decide)),
      ((h c).2 KernelIdeal.main_arg0 (Pipeline.mem_restRefs_of KernelIdeal.main_arg0 (by decide) (by decide))).trans
        (KernelIdeal.Gen.W_main_arg0 m (KernelIdeal.Gen.dats m) c),
      ((h c).2 KernelIdeal.main_arg1 (Pipeline.mem_restRefs_of KernelIdeal.main_arg1 (by decide) (by decide))).trans
        (KernelIdeal.Gen.W_main_arg1 m (KernelIdeal.Gen.dats m) c)⟩) (KernelIdeal.Gen.run_main m ρ)

/-- The claims, together. -/
theorem claim : Cert.Claim := by
  refine ⟨Cert.Kernel.Gen.facts, Cert.KernelIdeal.Gen.facts, Cert.ReferenceIdeal.Gen.facts,
    fun m ρ _ => Cert.Kernel.Gen.frame m ρ, fun m ρ _ => Cert.KernelIdeal.Gen.frame m ρ, ?_, trivial, ?_⟩
  · intro m ρ _
    exact (θ_run Cert.ReferenceIdeal.defs _ _).mono (fun r h => ⟨fun c => (h c).2.2,
      Idealize.ShloMosaic.sem_eq_zero_of_no_sems (by decide) r.2⟩) (reference_run m ρ)
  · intro m g m' g' _ hargs
    refine ⟨_, _, kernel_run m g, (θ_run Cert.ReferenceIdeal.defs _ _).mono (fun r h c => ?_) (reference_run m' g')⟩
    have hX : K.argX (fun b => m (c, b)) = Ref.argX (launchContents m' c) :=
      funext fun b => funext fun f => funext fun k => congrFun (hargs c).1.symm (ix3 b f k)
    have hP : K.argP (fun b => m (c, b)) = Ref.argP (launchContents m' c) :=
      funext fun b => congrFun (hargs c).2.symm (ix1 b)
    exact ⟨(h c).1.trans (token_eq (launchContents m' c) m c hX hP).symm,
      (h c).2.1.trans (x_eq (launchContents m' c) m c hX hP).symm, (h c).2.2⟩

end Cert.Proof

end
